-- ==== Defs.lean ====
def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_diff_finite [hPre_diff_finite : Cert.Pre_diff_finite.Facts] (m : (ℓ : Loc Cert.DiffIdeal.nD Cert.DiffIdeal.τ Cert.DiffIdeal.sig) → Buf (Elt Ideal) ℓ) : Prop :=
  ∀ c : Dev Cert.DiffIdeal.nD,
    (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_diff_finite [hPre_diff_finite : Cert.Pre_diff_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_diff_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5))) = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_moe_gates [hPre_moe_gates : Cert.Pre_moe_gates.Facts] (m : (ℓ : Loc Cert.MoeIdeal.nD Cert.MoeIdeal.τ Cert.MoeIdeal.sig) → Buf (Elt Ideal) ℓ) : Prop :=
  ∀ c : Dev Cert.MoeIdeal.nD,
    (Cert.Pre_moe_gates.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_moe_gates [hPre_moe_gates : Cert.Pre_moe_gates.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_moe_gates.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffIdeal_pre_diff_finite [hDiffIdeal : Cert.DiffIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_diff_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5))
      ∧ r.2.sem = fun _ => 0)

def quiescent_DiffRefIdeal_pre_diff_finite [hDiffRefIdeal : Cert.DiffRefIdeal.Facts] [hPre_diff_finite : Cert.Pre_diff_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_diff_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeIdeal_pre_moe_gates [hMoeIdeal : Cert.MoeIdeal.Facts] [hPre_moe_gates : Cert.Pre_moe_gates.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_moe_gates m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_moe_gates [hMoeRefIdeal : Cert.MoeRefIdeal.Facts] [hPre_moe_gates : Cert.Pre_moe_gates.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_moe_gates m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def preserves_Diff_DiffIdeal : Prop :=
  IdealRules.named_const.Statement Cert.DiffIdeal.κ "scale_log2e" .f32 0x3E38AA3B#32 (((8 * (Real.log 2))⁻¹ : ℝ) : EReal)

def algebraic_DiffIdeal_DiffRefIdeal_pre_diff_finite [hDiffIdeal : Cert.DiffIdeal.Facts] [hDiffRefIdeal : Cert.DiffRefIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_diff_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)) →
    ∃ (v0 : (c : Dev Cert.DiffIdeal.nD) → Buf (Elt Ideal) ((c.tc : Thread Cert.DiffIdeal.nD Cert.DiffIdeal.τ).loc Cert.DiffIdeal.main_v10)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v10) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v60) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5))

def preserves_Moe_MoeIdeal : Prop :=
  True

def algebraic_MoeIdeal_MoeRefIdeal_pre_moe_gates [hMoeIdeal : Cert.MoeIdeal.Facts] [hMoeRefIdeal : Cert.MoeRefIdeal.Facts] [hPre_moe_gates : Cert.Pre_moe_gates.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_moe_gates m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v5)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v5) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v39) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v22) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v19_0)) (v1 : (c : Dev Cert.ProjIdeal.nD) → Buf (Elt Ideal) ((c.tc : Thread Cert.ProjIdeal.nD Cert.ProjIdeal.τ).loc Cert.ProjIdeal.main_v19_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v19_0) = v0 c
          ∧ r.2.mem ((c.tc : Thread Cert.ProjIdeal.nD Cert.ProjIdeal.τ).loc Cert.ProjIdeal.main_v19_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v27) = v0 c
          ∧ r.2.mem ((c.tc : Thread Cert.ProjRefIdeal.nD Cert.ProjRefIdeal.τ).loc Cert.ProjRefIdeal.main_v29) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def Claim : Prop :=
  ∃ (hDiff : Cert.Diff.Facts) (hDiffIdeal : Cert.DiffIdeal.Facts) (hDiffRefIdeal : Cert.DiffRefIdeal.Facts) (hMoe : Cert.Moe.Facts) (hMoeIdeal : Cert.MoeIdeal.Facts) (hMoeRefIdeal : Cert.MoeRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hPre_diff_finite : Cert.Pre_diff_finite.Facts) (hPre_moe_gates : Cert.Pre_moe_gates.Facts),
    quiescent_Diff (hDiff := hDiff)
    ∧ quiescent_DiffIdeal (hDiffIdeal := hDiffIdeal)
    ∧ quiescent_DiffIdeal_pre_diff_finite (hDiffIdeal := hDiffIdeal) (hPre_diff_finite := hPre_diff_finite)
    ∧ quiescent_DiffRefIdeal (hDiffRefIdeal := hDiffRefIdeal)
    ∧ quiescent_DiffRefIdeal_pre_diff_finite (hDiffRefIdeal := hDiffRefIdeal) (hPre_diff_finite := hPre_diff_finite)
    ∧ quiescent_Moe (hMoe := hMoe)
    ∧ quiescent_MoeIdeal (hMoeIdeal := hMoeIdeal)
    ∧ quiescent_MoeIdeal_pre_moe_gates (hMoeIdeal := hMoeIdeal) (hPre_moe_gates := hPre_moe_gates)
    ∧ quiescent_MoeRefIdeal (hMoeRefIdeal := hMoeRefIdeal)
    ∧ quiescent_MoeRefIdeal_pre_moe_gates (hMoeRefIdeal := hMoeRefIdeal) (hPre_moe_gates := hPre_moe_gates)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ preserves_Diff_DiffIdeal
    ∧ algebraic_DiffIdeal_DiffRefIdeal_pre_diff_finite (hDiffIdeal := hDiffIdeal) (hDiffRefIdeal := hDiffRefIdeal) (hPre_diff_finite := hPre_diff_finite)
    ∧ preserves_Moe_MoeIdeal
    ∧ algebraic_MoeIdeal_MoeRefIdeal_pre_moe_gates (hMoeIdeal := hMoeIdeal) (hMoeRefIdeal := hMoeRefIdeal) (hPre_moe_gates := hPre_moe_gates)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
-- ==== Pre_diff_finite.lean ====
abbrev S16640x8192 : Shape := ⟨2, ![16640, 8192]⟩
abbrev S64 : Shape := ⟨1, ![64]⟩
abbrev S128 : Shape := ⟨1, ![128]⟩
abbrev S16384x512 : Shape := ⟨2, ![16384, 512]⟩
abbrev S_ : Shape := ⟨0, ![]⟩
abbrev S16384x1024 : Shape := ⟨2, ![16384, 1024]⟩

class Facts : Prop where
  slices_S16640x8192_S16384x512_0_2048 : S16640x8192.Slices ![0, 2048] S16384x512
  bcast_S_S16384x512 : S_.BroadcastsInDim S16384x512 (![] : Fin 0 → Fin S16384x512.rank)
  reducesTo_S16384x512_S_d0_1 : S16384x512.ReducesTo [0, 1] S_
  h_S_ : 0 < S_.numel
  slices_S16640x8192_S16384x1024_0_3072 : S16640x8192.Slices ![0, 3072] S16384x1024
  bcast_S_S16384x1024 : S_.BroadcastsInDim S16384x1024 (![] : Fin 0 → Fin S16384x1024.rank)
  reducesTo_S16384x1024_S_d0_1 : S16384x1024.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg3 : FVec F S64 .f32) (main_arg4 : FVec F S64 .f32) (main_v15 : IVec S_ 1) (main_v16 : FVec F S64 .f32) (main_cst_4 : FVec F S_ .f32) : IVec S_ 1 :=
  let main_v17 : FVec F S64 .f32 := broadcastInDim S64 ![] bcast_S_S64 main_cst_4
  let main_v18 : IVec S64 1 := cmpf .olt main_v16 main_v17
  let main_c_5 : IVec S_ 1 := constantI S_ 1 1#1
  let main_v19 : IVec S_ 1 := (fun x v => Host.reduce IntOp.andi x v reducesTo_S64_S_d0 h_S_) main_v18 main_c_5
  let main_v20 : IVec S_ 1 := andi main_v15 main_v19
  let main_v21 : FVec F S64 .f32 := Host.absf main_arg3
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_c_7 : IVec S_ 1 := constantI S_ 1 1#1
  let main_v24 : IVec S_ 1 := (fun x v => Host.reduce IntOp.andi x v reducesTo_S64_S_d0 h_S_) main_v23 main_c_7
  let main_v25 : IVec S_ 1 := andi main_v20 main_v24
  let main_v26 : FVec F S64 .f32 := Host.absf main_arg4
  let main_cst_8 : FVec F S_ .f32 := constant S_ .f32 0x7F800000#32
  let main_v27 : FVec F S64 .f32 := broadcastInDim S64 ![] bcast_S_S64 main_cst_8
  let main_v28 : IVec S64 1 := cmpf .olt main_v26 main_v27
  let main_c_9 : IVec S_ 1 := constantI S_ 1 1#1
  let main_v29 : IVec S_ 1 := (fun x v => Host.reduce IntOp.andi x v reducesTo_S64_S_d0 h_S_) main_v28 main_c_9
  let main_v30 : IVec S_ 1 := andi main_v25 main_v29
  main_v30

def fn {F : FTy → Type} [FloatOps F] (main_arg0 : FVec F S16640x8192 .f32) (main_arg1 : FVec F S64 .f32) (main_arg2 : FVec F S64 .f32) (main_arg3 : FVec F S64 .f32) (main_arg4 : FVec F S64 .f32) (main_arg5 : FVec F S128 .f32) : IVec S_ 1 :=
  let main_v0 : FVec F S16384x512 .f32 := (extractStridedSlice S16384x512 ![0, 2048] · slices_S16640x8192_S16384x512_0_2048) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x1024 .f32 := (extractStridedSlice S16384x1024 ![0, 3072] · slices_S16640x8192_S16384x1024_0_3072) main_arg0
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  let main_v11 : FVec F S64 .f32 := Host.absf main_arg1
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_c_3 : IVec S_ 1 := constantI S_ 1 1#1
  let main_v14 : IVec S_ 1 := (fun x v => Host.reduce IntOp.andi x v reducesTo_S64_S_d0 h_S_) main_v13 main_c_3
  let main_v15 : IVec S_ 1 := andi main_v10 main_v14
  let main_v16 : FVec F S64 .f32 := Host.absf main_arg2
  let main_cst_4 : FVec F S_ .f32 := constant S_ .f32 0x7F800000#32
  fn_part1 (F := F) main_arg3 main_arg4 main_v15 main_v16 main_cst_4
-- ==== Pre_moe_gates.lean ====
abbrev S16640x1024 : Shape := ⟨2, ![16640, 1024]⟩
abbrev S1024 : Shape := ⟨1, ![1024]⟩
abbrev S16640x128 : Shape := ⟨2, ![16640, 128]⟩
abbrev S8x1024x3584 : Shape := ⟨3, ![8, 1024, 3584]⟩
abbrev S8x3584x1024 : Shape := ⟨3, ![8, 3584, 1024]⟩
abbrev S16640x8 : Shape := ⟨2, ![16640, 8]⟩
abbrev S_ : Shape := ⟨0, ![]⟩

class Facts : Prop where
  slices_S16640x128_S16640x8_0_0 : S16640x128.Slices ![0, 0] S16640x8
  bcast_S_S16640x8 : S_.BroadcastsInDim S16640x8 (![] : Fin 0 → Fin S16640x8.rank)
  reducesTo_S16640x8_S_d0_1 : S16640x8.ReducesTo [0, 1] S_
  h_S_ : 0 < S_.numel

variable [Facts]

def fn {F : FTy → Type} [FloatOps F] (main_arg0 : FVec F S16640x1024 .f32) (main_arg1 : FVec F S1024 .f32) (main_arg2 : FVec F S16640x128 .f32) (main_arg3 : FVec F S8x1024x3584 .f32) (main_arg4 : FVec F S8x1024x3584 .f32) (main_arg5 : FVec F S8x3584x1024 .f32) (main_arg6 : FVec F S1024 .f32) : IVec S_ 1 :=
  let main_v0 : FVec F S16640x8 .f32 := (extractStridedSlice S16640x8 ![0, 0] · slices_S16640x128_S16640x8_0_0) main_arg2
  let main_v1 : FVec F S16640x8 .f32 := Host.absf main_v0
  let main_cst : FVec F S_ .f32 := constant S_ .f32 0x7F800000#32
  let main_v2 : FVec F S16640x8 .f32 := broadcastInDim S16640x8 ![] bcast_S_S16640x8 main_cst
  let main_v3 : IVec S16640x8 1 := cmpf .olt main_v1 main_v2
  let main_c : IVec S_ 1 := constantI S_ 1 1#1
  let main_v4 : IVec S_ 1 := (fun x v => Host.reduce IntOp.andi x v reducesTo_S16640x8_S_d0_1 h_S_) main_v3 main_c
  main_v4
-- ==== Diff.lean ====
abbrev S16640x8192 : Shape := ⟨2, ![16640, 8192]⟩
abbrev S64 : Shape := ⟨1, ![64]⟩
abbrev S128 : Shape := ⟨1, ![128]⟩
abbrev S_ : Shape := ⟨0, ![]⟩
abbrev S1 : Shape := ⟨1, ![1]⟩
abbrev S1x128 : Shape := ⟨2, ![1, 128]⟩
abbrev S16384x512 : Shape := ⟨2, ![16384, 512]⟩
abbrev S512x128 : Shape := ⟨2, ![512, 128]⟩
abbrev S8192x128 : Shape := ⟨2, ![8192, 128]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩
abbrev S512 : Shape := ⟨1, ![512]⟩
abbrev S512x1 : Shape := ⟨2, ![512, 1]⟩

abbrev nBuf : Space → Nat
  | .hbm => 20
  | .vmem => 14
  | .smem => 1
  | _ => 0

abbrev bufTy : (tb : Table) → Fin (tcTables nBuf tb) → BufTy
  | .hbm, ⟨0, _⟩ => ⟨S16640x8192, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S1x128, .f32⟩
  | .hbm, ⟨19, _⟩ => ⟨S16384x512, .bf16⟩
  | .local _ .vmem, ⟨0, _⟩ => ⟨S512x128, .f32⟩
  | .local _ .vmem, ⟨1, _⟩ => ⟨S512x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1x128, .f32⟩
  | .local _ .vmem, ⟨7, _⟩ => ⟨S512x128, .bf16⟩
  | .local _ .vmem, ⟨8, _⟩ => ⟨S512x128, .bf16⟩
  | .local _ .vmem, ⟨9, _⟩ => ⟨S8192x128, .bf16⟩
  | .local _ .vmem, ⟨10, _⟩ => ⟨S8192x128, .bf16⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .smem, ⟨0, _⟩ => ⟨S1, .f32⟩
  | _, _ => ⟨S16640x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32_15 : BitVec 32 := 0#32
  let arg2 : BitVec 32 := BitVec.ofNat 32 (i 2).val
  let v29 : BitVec 32 := Scalar.subi arg2 c0_i32_15
  let c1_i32 : BitVec 32 := 1#32
  let v31 : BitVec 32 := Scalar.divsi v29 c1_i32
  let v32 : BitVec 32 := Scalar.muli v31 c1_i32
  let v33 : BitVec 32 := Scalar.addi c0_i32_15 v32
  let c1_i32_16 : BitVec 32 := 1#32
  ⟨c0_i32_15, v33, c1_i32_16⟩
def k0_mult1 (i : grid0.Coords) (k0_t1 : Fin (k0_t1_loop i).trips) : BitVec 32 :=
  let c0_i32_15 : BitVec 32 := 0#32
  let c1_i32_16 : BitVec 32 := 1#32
  let arg14 : BitVec 32 := Scf.iv c0_i32_15 c1_i32_16 k0_t1
  let c512_i32_52 : BitVec 32 := 512#32
  let v124 : BitVec 32 := Scalar.muli arg14 c512_i32_52
  v124
def k0_off1 (i : grid0.Coords) (k0_t1 : Fin (k0_t1_loop i).trips) : Fin 2 → Nat :=
  let c0_i32_15 : BitVec 32 := 0#32
  let c1_i32_16 : BitVec 32 := 1#32
  let arg14 : BitVec 32 := Scf.iv c0_i32_15 c1_i32_16 k0_t1
  let c512_i32_52 : BitVec 32 := 512#32
  let v124 : BitVec 32 := Scalar.muli arg14 c512_i32_52
  let v125 : BitVec 32 := v124
  let v126 : Index := Scalar.indexCast v125
  let c0_53 : Index := 0#32
  ![v126.toNat, 0]
@[reducible] def k0_t2_loop (i : grid0.Coords) : Scf.Loop 32 :=
  let c0_i32_15 : BitVec 32 := 0#32
  let arg2 : BitVec 32 := BitVec.ofNat 32 (i 2).val
  let v29 : BitVec 32 := Scalar.subi arg2 c0_i32_15
  let c1_i32 : BitVec 32 := 1#32
  let v31 : BitVec 32 := Scalar.divsi v29 c1_i32
  let v32 : BitVec 32 := Scalar.muli v31 c1_i32
  let v33 : BitVec 32 := Scalar.addi c0_i32_15 v32
  let v30 : BitVec 32 := Scalar.addi c0_i32_15 v29
  let c1_i32_17 : BitVec 32 := 1#32
  ⟨v33, v30, c1_i32_17⟩
def k0_mult2 (i : grid0.Coords) (k0_t2 : Fin (k0_t2_loop i).trips) : BitVec 32 :=
  let c0_i32_15 : BitVec 32 := 0#32
  let arg2 : BitVec 32 := BitVec.ofNat 32 (i 2).val
  let v29 : BitVec 32 := Scalar.subi arg2 c0_i32_15
  let c1_i32 : BitVec 32 := 1#32
  let v31 : BitVec 32 := Scalar.divsi v29 c1_i32
  let v32 : BitVec 32 := Scalar.muli v31 c1_i32
  let v33 : BitVec 32 := Scalar.addi c0_i32_15 v32
  let c1_i32_17 : BitVec 32 := 1#32
  let arg14 : BitVec 32 := Scf.iv v33 c1_i32_17 k0_t2
  let c512_i32_52 : BitVec 32 := 512#32
  let v124 : BitVec 32 := Scalar.muli arg14 c512_i32_52
  v124
def k0_off2 (i : grid0.Coords) (k0_t2 : Fin (k0_t2_loop i).trips) : Fin 2 → Nat :=
  let c0_i32_15 : BitVec 32 := 0#32
  let arg2 : BitVec 32 := BitVec.ofNat 32 (i 2).val
  let v29 : BitVec 32 := Scalar.subi arg2 c0_i32_15
  let c1_i32 : BitVec 32 := 1#32
  let v31 : BitVec 32 := Scalar.divsi v29 c1_i32
  let v32 : BitVec 32 := Scalar.muli v31 c1_i32
  let v33 : BitVec 32 := Scalar.addi c0_i32_15 v32
  let c1_i32_17 : BitVec 32 := 1#32
  let arg14 : BitVec 32 := Scf.iv v33 c1_i32_17 k0_t2
  let c512_i32_52 : BitVec 32 := 512#32
  let v124 : BitVec 32 := Scalar.muli arg14 c512_i32_52
  let v125 : BitVec 32 := v124
  let v126 : Index := Scalar.indexCast v125
  let c0_53 : Index := 0#32
  ![v126.toNat, 0]
def k0_mult3 (i : grid0.Coords) : BitVec 32 :=
  let arg2 : BitVec 32 := BitVec.ofNat 32 (i 2).val
  let c512_i32 : BitVec 32 := 512#32
  let v34 : BitVec 32 := Scalar.muli arg2 c512_i32
  v34
def k0_off3 (i : grid0.Coords) : Fin 2 → Nat :=
  let arg2 : BitVec 32 := BitVec.ofNat 32 (i 2).val
  let c512_i32 : BitVec 32 := 512#32
  let v34 : BitVec 32 := Scalar.muli arg2 c512_i32
  let v35 : BitVec 32 := v34
  let v36 : Index := Scalar.indexCast v35
  let c0_18 : Index := 0#32
  ![v36.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c16_i32_0 : BitVec 32 := 16#32
  let v2 : BitVec 32 := Scalar.addi c16_i32_0 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DiffIdeal.lean ====
variable {F : FTy → Type} [FloatOps F] [Named F]
def κ : String → Option EReal := fun
  | "scale_log2e" => some (((8 * (Real.log 2))⁻¹ : ℝ) : EReal)
  | _ => none
-- ==== DiffRefIdeal.lean ====
abbrev S16640x8192 : Shape := ⟨2, ![16640, 8192]⟩
abbrev S64 : Shape := ⟨1, ![64]⟩
abbrev S128 : Shape := ⟨1, ![128]⟩
abbrev S16384x512 : Shape := ⟨2, ![16384, 512]⟩
abbrev S2x8192x4x2x64 : Shape := ⟨5, ![2, 8192, 4, 2, 64]⟩
abbrev S2x8192x4x128 : Shape := ⟨4, ![2, 8192, 4, 128]⟩
abbrev S_ : Shape := ⟨0, ![]⟩
abbrev S8192 : Shape := ⟨1, ![8192]⟩
abbrev S2x4x2x8192x8192 : Shape := ⟨5, ![2, 4, 2, 8192, 8192]⟩
abbrev S1x8192 : Shape := ⟨2, ![1, 8192]⟩
abbrev S8192x1 : Shape := ⟨2, ![8192, 1]⟩
abbrev S8192x8192 : Shape := ⟨2, ![8192, 8192]⟩
abbrev S2x4x2x8192 : Shape := ⟨4, ![2, 4, 2, 8192]⟩
abbrev S2x4x2x8192x1 : Shape := ⟨5, ![2, 4, 2, 8192, 1]⟩
abbrev S2x4x1x8192x8192 : Shape := ⟨5, ![2, 4, 1, 8192, 8192]⟩
abbrev S2x4x8192x8192 : Shape := ⟨4, ![2, 4, 8192, 8192]⟩
abbrev S2x4x128x8192 : Shape := ⟨4, ![2, 4, 128, 8192]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 82
  | .vmem => 0
  | .smem => 0
  | _ => 0

abbrev bufTy : (tb : Table) → Fin (tcTables nBuf tb) → BufTy
  | .hbm, ⟨0, _⟩ => ⟨S16640x8192, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S16384x512, .f32⟩
  | .hbm, ⟨7, _⟩ => ⟨S2x8192x4x2x64, .f32⟩
  | .hbm, ⟨8, _⟩ => ⟨S16384x512, .f32⟩
  | .hbm, ⟨9, _⟩ => ⟨S2x8192x4x2x64, .f32⟩
  | .hbm, ⟨10, _⟩ => ⟨S16384x512, .f32⟩
  | .hbm, ⟨11, _⟩ => ⟨S2x8192x4x128, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .i32⟩
  | .hbm, ⟨24, _⟩ => ⟨S2x4x2x8192x8192, .f32⟩
  | .hbm, ⟨25, _⟩ => ⟨S_, .f32⟩
  | .hbm, ⟨26, _⟩ => ⟨S2x4x2x8192x8192, .f32⟩
  | .hbm, ⟨27, _⟩ => ⟨S2x4x2x8192x8192, .f32⟩
  | .hbm, ⟨28, _⟩ => ⟨S1x8192, .i32⟩
  | .hbm, ⟨29, _⟩ => ⟨S8192x1, .i32⟩
  | .hbm, ⟨30, _⟩ => ⟨S8192x8192, .i32⟩
  | .hbm, ⟨31, _⟩ => ⟨S8192x8192, .i32⟩
  | .hbm, ⟨32, _⟩ => ⟨S8192x8192, .i1⟩
  | .hbm, ⟨33, _⟩ => ⟨S_, .f32⟩
  | .hbm, ⟨34, _⟩ => ⟨S_, .f32⟩
  | .hbm, ⟨35, _⟩ => ⟨S2x4x2x8192x8192, .i1⟩
  | .hbm, ⟨36, _⟩ => ⟨S2x4x2x8192x8192, .f32⟩
  | .hbm, ⟨37, _⟩ => ⟨S2x4x2x8192x8192, .f32⟩
  | .hbm, ⟨38, _⟩ => ⟨S_, .f32⟩
  | .hbm, ⟨39, _⟩ => ⟨S2x4x2x8192, .f32⟩
  | .hbm, ⟨40, _⟩ => ⟨S_, .f32⟩
  | .hbm, ⟨41, _⟩ => ⟨S2x4x2x8192, .f32⟩
  | .hbm, ⟨42, _⟩ => ⟨S2x4x2x8192, .f32⟩
  | .hbm, ⟨43, _⟩ => ⟨S2x4x2x8192x1, .f32⟩
  | .hbm, ⟨44, _⟩ => ⟨S2x4x2x8192x8192, .f32⟩
  | .hbm, ⟨45, _⟩ => ⟨S2x4x2x8192x8192, .f32⟩
  | .hbm, ⟨46, _⟩ => ⟨S2x4x2x8192x8192, .f32⟩
  | .hbm, ⟨47, _⟩ => ⟨S_, .f32⟩
  | .hbm, ⟨48, _⟩ => ⟨S2x4x2x8192, .f32⟩
  | .hbm, ⟨49, _⟩ => ⟨S2x4x2x8192x1, .f32⟩
  | .hbm, ⟨50, _⟩ => ⟨S2x4x2x8192x8192, .f32⟩
  | .hbm, ⟨51, _⟩ => ⟨S2x4x2x8192x8192, .f32⟩
  | .hbm, ⟨52, _⟩ => ⟨S2x4x1x8192x8192, .f32⟩
  | .hbm, ⟨53, _⟩ => ⟨S2x4x8192x8192, .f32⟩
  | .hbm, ⟨54, _⟩ => ⟨S2x4x1x8192x8192, .f32⟩
  | .hbm, ⟨55, _⟩ => ⟨S2x4x8192x8192, .f32⟩
  | .hbm, ⟨56, _⟩ => ⟨S2x4x8192x8192, .f32⟩
  | .hbm, ⟨57, _⟩ => ⟨S2x4x8192x8192, .f32⟩
  | .hbm, ⟨58, _⟩ => ⟨S2x4x8192x8192, .f32⟩
  | .hbm, ⟨59, _⟩ => ⟨S2x4x128x8192, .f32⟩
  | .hbm, ⟨60, _⟩ => ⟨S2x8192x4x128, .f32⟩
  | .hbm, ⟨61, _⟩ => ⟨S2x8192x4x128, .f32⟩
  | .hbm, ⟨62, _⟩ => ⟨S_, .f32⟩
  | .hbm, ⟨63, _⟩ => ⟨S2x8192x4, .f32⟩
  | .hbm, ⟨64, _⟩ => ⟨S2x8192x4x1, .f32⟩
  | .hbm, ⟨65, _⟩ => ⟨S_, .f32⟩
  | .hbm, ⟨66, _⟩ => ⟨S2x8192x4x1, .f32⟩
  | .hbm, ⟨67, _⟩ => ⟨S2x8192x4x1, .f32⟩
  | .hbm, ⟨68, _⟩ => ⟨S_, .f32⟩
  | .hbm, ⟨69, _⟩ => ⟨S2x8192x4x1, .f32⟩
  | .hbm, ⟨70, _⟩ => ⟨S2x8192x4x1, .f32⟩
  | .hbm, ⟨71, _⟩ => ⟨S2x8192x4x1, .f32⟩
  | .hbm, ⟨72, _⟩ => ⟨S2x8192x4x128, .f32⟩
  | .hbm, ⟨73, _⟩ => ⟨S2x8192x4x128, .f32⟩
  | .hbm, ⟨74, _⟩ => ⟨S1x1x1x128, .f32⟩
  | .hbm, ⟨75, _⟩ => ⟨S2x8192x4x128, .f32⟩
  | .hbm, ⟨76, _⟩ => ⟨S2x8192x4x128, .f32⟩
  | .hbm, ⟨77, _⟩ => ⟨S_, .f32⟩
  | .hbm, ⟨78, _⟩ => ⟨S2x8192x4x128, .f32⟩
  | .hbm, ⟨79, _⟩ => ⟨S2x8192x4x128, .f32⟩
  | .hbm, ⟨80, _⟩ => ⟨S16384x512, .f32⟩
  | .hbm, ⟨81, _⟩ => ⟨S16384x512, .bf16⟩
  | _, _ => ⟨S16640x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== Moe.lean ====
abbrev S16640x1024 : Shape := ⟨2, ![16640, 1024]⟩
abbrev S1024 : Shape := ⟨1, ![1024]⟩
abbrev S16640x128 : Shape := ⟨2, ![16640, 128]⟩
abbrev S8x1024x3584 : Shape := ⟨3, ![8, 1024, 3584]⟩
abbrev S8x3584x1024 : Shape := ⟨3, ![8, 3584, 1024]⟩
abbrev S1x1024 : Shape := ⟨2, ![1, 1024]⟩
abbrev S1280x1024 : Shape := ⟨2, ![1280, 1024]⟩
abbrev S1280x128 : Shape := ⟨2, ![1280, 128]⟩
abbrev S1x1024x512 : Shape := ⟨3, ![1, 1024, 512]⟩
abbrev S1x512x1024 : Shape := ⟨3, ![1, 512, 1024]⟩
abbrev S1280 : Shape := ⟨1, ![1280]⟩
abbrev S1280x1 : Shape := ⟨2, ![1280, 1]⟩
abbrev S1024x512 : Shape := ⟨2, ![1024, 512]⟩
abbrev S1280x512 : Shape := ⟨2, ![1280, 512]⟩
abbrev S512x1024 : Shape := ⟨2, ![512, 1024]⟩

abbrev nBuf : Space → Nat
  | .hbm => 13
  | .vmem => 16
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S16640x128, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S1024, .f32⟩
  | .hbm, ⟨7, _⟩ => ⟨S1x1024, .f32⟩
  | .hbm, ⟨8, _⟩ => ⟨S8x1024x3584, .bf16⟩
  | .hbm, ⟨9, _⟩ => ⟨S8x1024x3584, .bf16⟩
  | .hbm, ⟨10, _⟩ => ⟨S8x3584x1024, .bf16⟩
  | .hbm, ⟨11, _⟩ => ⟨S1x1024, .f32⟩
  | .hbm, ⟨12, _⟩ => ⟨S16640x1024, .f32⟩
  | .local _ .vmem, ⟨0, _⟩ => ⟨S1280x1024, .f32⟩
  | .local _ .vmem, ⟨1, _⟩ => ⟨S1280x1024, .f32⟩
  | .local _ .vmem, ⟨2, _⟩ => ⟨S1x1024, .f32⟩
  | .local _ .vmem, ⟨3, _⟩ => ⟨S1280x128, .f32⟩
  | .local _ .vmem, ⟨4, _⟩ => ⟨S1280x128, .f32⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x1024, .f32⟩
  | .local _ .vmem, ⟨12, _⟩ => ⟨S1280x1024, .f32⟩
  | .local _ .vmem, ⟨13, _⟩ => ⟨S1280x1024, .f32⟩
  | .local _ .vmem, ⟨14, _⟩ => ⟨S1280x1024, .bf16⟩
  | .local _ .vmem, ⟨15, _⟩ => ⟨S1280x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![13, 8, 7], ![false, false, false]⟩

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let arg2 : BitVec 32 := BitVec.ofNat 32 (i 2).val
  let c6_i32 : BitVec 32 := 6#32
  let v41 : BitVec 1 := Scalar.cmpi .eq arg2 c6_i32
  let v42 : BitVec 1 := Scalar.andi v40 v41
  let v43 : BitVec 32 := Scalar.extui v42
  let c0_i32_25 : BitVec 32 := 0#32
  let v44 : BitVec 1 := Scalar.cmpi .ne v43 c0_i32_25
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1280x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== MoeRefIdeal.lean ====
abbrev S16640x1024 : Shape := ⟨2, ![16640, 1024]⟩
abbrev S1024 : Shape := ⟨1, ![1024]⟩
abbrev S16640x128 : Shape := ⟨2, ![16640, 128]⟩
abbrev S8x1024x3584 : Shape := ⟨3, ![8, 1024, 3584]⟩
abbrev S8x3584x1024 : Shape := ⟨3, ![8, 3584, 1024]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S8x3584x16640 : Shape := ⟨3, ![8, 3584, 16640]⟩
abbrev S8x16640x3584 : Shape := ⟨3, ![8, 16640, 3584]⟩
abbrev S8x16640x1024 : Shape := ⟨3, ![8, 16640, 1024]⟩
abbrev S16640x8 : Shape := ⟨2, ![16640, 8]⟩
abbrev S8x16640 : Shape := ⟨2, ![8, 16640]⟩
abbrev S8x16640x1 : Shape := ⟨3, ![8, 16640, 1]⟩

abbrev nBuf : Space → Nat
  | .hbm => 62
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S16640x128, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S1024, .f32⟩
  | .hbm, ⟨7, _⟩ => ⟨S16640x1024, .f32⟩
  | .hbm, ⟨8, _⟩ => ⟨S_, .f32⟩
  | .hbm, ⟨9, _⟩ => ⟨S16640, .f32⟩
  | .hbm, ⟨10, _⟩ => ⟨S16640x1, .f32⟩
  | .hbm, ⟨11, _⟩ => ⟨S_, .f32⟩
  | .hbm, ⟨12, _⟩ => ⟨S16640x1, .f32⟩
  | .hbm, ⟨13, _⟩ => ⟨S16640x1, .f32⟩
  | .hbm, ⟨14, _⟩ => ⟨S_, .f32⟩
  | .hbm, ⟨15, _⟩ => ⟨S16640x1, .f32⟩
  | .hbm, ⟨16, _⟩ => ⟨S16640x1, .f32⟩
  | .hbm, ⟨17, _⟩ => ⟨S16640x1, .f32⟩
  | .hbm, ⟨18, _⟩ => ⟨S16640x1024, .f32⟩
  | .hbm, ⟨19, _⟩ => ⟨S16640x1024, .f32⟩
  | .hbm, ⟨20, _⟩ => ⟨S1x1024, .f32⟩
  | .hbm, ⟨21, _⟩ => ⟨S16640x1024, .f32⟩
  | .hbm, ⟨22, _⟩ => ⟨S16640x1024, .f32⟩
  | .hbm, ⟨23, _⟩ => ⟨S8x3584x16640, .f32⟩
  | .hbm, ⟨24, _⟩ => ⟨S8x16640x3584, .f32⟩
  | .hbm, ⟨25, _⟩ => ⟨S8x16640x3584, .f32⟩
  | .hbm, ⟨26, _⟩ => ⟨S8x16640x3584, .f32⟩
  | .hbm, ⟨27, _⟩ => ⟨S_, .f32⟩
  | .hbm, ⟨28, _⟩ => ⟨S8x16640x3584, .f32⟩
  | .hbm, ⟨29, _⟩ => ⟨S8x16640x3584, .f32⟩
  | .hbm, ⟨30, _⟩ => ⟨S_, .f32⟩
  | .hbm, ⟨31, _⟩ => ⟨S8x16640x3584, .f32⟩
  | .hbm, ⟨32, _⟩ => ⟨S8x16640x3584, .f32⟩
  | .hbm, ⟨33, _⟩ => ⟨S8x16640x3584, .f32⟩
  | .hbm, ⟨34, _⟩ => ⟨S8x3584x16640, .f32⟩
  | .hbm, ⟨35, _⟩ => ⟨S8x16640x3584, .f32⟩
  | .hbm, ⟨36, _⟩ => ⟨S8x16640x3584, .f32⟩
  | .hbm, ⟨37, _⟩ => ⟨S8x16640x1024, .f32⟩
  | .hbm, ⟨38, _⟩ => ⟨S16640x8, .f32⟩
  | .hbm, ⟨39, _⟩ => ⟨S8x16640, .f32⟩
  | .hbm, ⟨40, _⟩ => ⟨S8x16640x1, .f32⟩
  | .hbm, ⟨41, _⟩ => ⟨S8x16640x1024, .f32⟩
  | .hbm, ⟨42, _⟩ => ⟨S8x16640x1024, .f32⟩
  | .hbm, ⟨43, _⟩ => ⟨S_, .f32⟩
  | .hbm, ⟨44, _⟩ => ⟨S16640x1024, .f32⟩
  | .hbm, ⟨45, _⟩ => ⟨S16640x1024, .f32⟩
  | .hbm, ⟨46, _⟩ => ⟨S16640x1024, .f32⟩
  | .hbm, ⟨47, _⟩ => ⟨S_, .f32⟩
  | .hbm, ⟨48, _⟩ => ⟨S16640, .f32⟩
  | .hbm, ⟨49, _⟩ => ⟨S16640x1, .f32⟩
  | .hbm, ⟨50, _⟩ => ⟨S_, .f32⟩
  | .hbm, ⟨51, _⟩ => ⟨S16640x1, .f32⟩
  | .hbm, ⟨52, _⟩ => ⟨S16640x1, .f32⟩
  | .hbm, ⟨53, _⟩ => ⟨S_, .f32⟩
  | .hbm, ⟨54, _⟩ => ⟨S16640x1, .f32⟩
  | .hbm, ⟨55, _⟩ => ⟨S16640x1, .f32⟩
  | .hbm, ⟨56, _⟩ => ⟨S16640x1, .f32⟩
  | .hbm, ⟨57, _⟩ => ⟨S16640x1024, .f32⟩
  | .hbm, ⟨58, _⟩ => ⟨S16640x1024, .f32⟩
  | .hbm, ⟨59, _⟩ => ⟨S1x1024, .f32⟩
  | .hbm, ⟨60, _⟩ => ⟨S16640x1024, .f32⟩
  | .hbm, ⟨61, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Ffn.lean ====
abbrev S16640x1024 : Shape := ⟨2, ![16640, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S16640x128 : Shape := ⟨2, ![16640, 128]⟩
abbrev S1x1024x2816 : Shape := ⟨3, ![1, 1024, 2816]⟩
abbrev S1x2816x1024 : Shape := ⟨3, ![1, 2816, 1024]⟩
abbrev S1280x1024 : Shape := ⟨2, ![1280, 1024]⟩
abbrev S1280x128 : Shape := ⟨2, ![1280, 128]⟩
abbrev S1x1024x256 : Shape := ⟨3, ![1, 1024, 256]⟩
abbrev S1x256x1024 : Shape := ⟨3, ![1, 256, 1024]⟩
abbrev S1280 : Shape := ⟨1, ![1280]⟩
abbrev S1280x1 : Shape := ⟨2, ![1280, 1]⟩
abbrev S1024x256 : Shape := ⟨2, ![1024, 256]⟩
abbrev S1280x256 : Shape := ⟨2, ![1280, 256]⟩
abbrev S256x1024 : Shape := ⟨2, ![256, 1024]⟩

abbrev nBuf : Space → Nat
  | .hbm => 17
  | .vmem => 16
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S_, .f32⟩
  | .hbm, ⟨7, _⟩ => ⟨S16640x128, .f32⟩
  | .hbm, ⟨8, _⟩ => ⟨S1x1024x2816, .f32⟩
  | .hbm, ⟨9, _⟩ => ⟨S1x1024x2816, .bf16⟩
  | .hbm, ⟨10, _⟩ => ⟨S1x1024x2816, .f32⟩
  | .hbm, ⟨11, _⟩ => ⟨S1x1024x2816, .bf16⟩
  | .hbm, ⟨12, _⟩ => ⟨S1x2816x1024, .f32⟩
  | .hbm, ⟨13, _⟩ => ⟨S1x2816x1024, .bf16⟩
  | .hbm, ⟨14, _⟩ => ⟨S_, .f32⟩
  | .hbm, ⟨15, _⟩ => ⟨S1x1024, .f32⟩
  | .hbm, ⟨16, _⟩ => ⟨S16640x1024, .f32⟩
  | .local _ .vmem, ⟨0, _⟩ => ⟨S1280x1024, .f32⟩
  | .local _ .vmem, ⟨1, _⟩ => ⟨S1280x1024, .f32⟩
  | .local _ .vmem, ⟨2, _⟩ => ⟨S1x1024, .f32⟩
  | .local _ .vmem, ⟨3, _⟩ => ⟨S1280x128, .f32⟩
  | .local _ .vmem, ⟨4, _⟩ => ⟨S1280x128, .f32⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x1024, .f32⟩
  | .local _ .vmem, ⟨12, _⟩ => ⟨S1280x1024, .f32⟩
  | .local _ .vmem, ⟨13, _⟩ => ⟨S1280x1024, .f32⟩
  | .local _ .vmem, ⟨14, _⟩ => ⟨S1280x1024, .bf16⟩
  | .local _ .vmem, ⟨15, _⟩ => ⟨S1280x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![13, 1, 11], ![false, false, false]⟩

def k0_cond2 (i : grid0.Coords) : BitVec 1 :=
  let arg1 : BitVec 32 := BitVec.ofNat 32 (i 1).val
  let c0_i32_21 : BitVec 32 := 0#32
  let v30 : BitVec 1 := Scalar.cmpi .eq arg1 c0_i32_21
  let arg2 : BitVec 32 := BitVec.ofNat 32 (i 2).val
  let c10_i32 : BitVec 32 := 10#32
  let v31 : BitVec 1 := Scalar.cmpi .eq arg2 c10_i32
  let v32 : BitVec 1 := Scalar.andi v30 v31
  let v33 : BitVec 32 := Scalar.extui v32
  let c0_i32_22 : BitVec 32 := 0#32
  let v34 : BitVec 1 := Scalar.cmpi .ne v33 c0_i32_22
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1280x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== FfnRefIdeal.lean ====
abbrev S16640x1024 : Shape := ⟨2, ![16640, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16640x2816 : Shape := ⟨2, ![16640, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16640x1024, .f32⟩
  | .hbm, ⟨6, _⟩ => ⟨S_, .f32⟩
  | .hbm, ⟨7, _⟩ => ⟨S16640, .f32⟩
  | .hbm, ⟨8, _⟩ => ⟨S16640x1, .f32⟩
  | .hbm, ⟨9, _⟩ => ⟨S_, .f32⟩
  | .hbm, ⟨10, _⟩ => ⟨S16640x1, .f32⟩
  | .hbm, ⟨11, _⟩ => ⟨S16640x1, .f32⟩
  | .hbm, ⟨12, _⟩ => ⟨S_, .f32⟩
  | .hbm, ⟨13, _⟩ => ⟨S16640x1, .f32⟩
  | .hbm, ⟨14, _⟩ => ⟨S16640x1, .f32⟩
  | .hbm, ⟨15, _⟩ => ⟨S16640x1, .f32⟩
  | .hbm, ⟨16, _⟩ => ⟨S16640x1024, .f32⟩
  | .hbm, ⟨17, _⟩ => ⟨S16640x1024, .f32⟩
  | .hbm, ⟨18, _⟩ => ⟨S1x1024, .f32⟩
  | .hbm, ⟨19, _⟩ => ⟨S16640x1024, .f32⟩
  | .hbm, ⟨20, _⟩ => ⟨S16640x1024, .f32⟩
  | .hbm, ⟨21, _⟩ => ⟨S16640x2816, .f32⟩
  | .hbm, ⟨22, _⟩ => ⟨S16640x2816, .f32⟩
  | .hbm, ⟨23, _⟩ => ⟨S16640x2816, .f32⟩
  | .hbm, ⟨24, _⟩ => ⟨S_, .f32⟩
  | .hbm, ⟨25, _⟩ => ⟨S16640x2816, .f32⟩
  | .hbm, ⟨26, _⟩ => ⟨S16640x2816, .f32⟩
  | .hbm, ⟨27, _⟩ => ⟨S_, .f32⟩
  | .hbm, ⟨28, _⟩ => ⟨S16640x2816, .f32⟩
  | .hbm, ⟨29, _⟩ => ⟨S16640x2816, .f32⟩
  | .hbm, ⟨30, _⟩ => ⟨S16640x2816, .f32⟩
  | .hbm, ⟨31, _⟩ => ⟨S16640x2816, .f32⟩
  | .hbm, ⟨32, _⟩ => ⟨S16640x2816, .f32⟩
  | .hbm, ⟨33, _⟩ => ⟨S16640x1024, .f32⟩
  | .hbm, ⟨34, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Merge.lean ====
abbrev S16640x1024 : Shape := ⟨2, ![16640, 1024]⟩
abbrev S16640x512 : Shape := ⟨2, ![16640, 512]⟩
abbrev S16640x8192 : Shape := ⟨2, ![16640, 8192]⟩
abbrev S512x1024 : Shape := ⟨2, ![512, 1024]⟩
abbrev S1024x1024 : Shape := ⟨2, ![1024, 1024]⟩
abbrev S640x1024 : Shape := ⟨2, ![640, 1024]⟩
abbrev S640x512 : Shape := ⟨2, ![640, 512]⟩

abbrev nBuf : Space → Nat
  | .hbm => 14
  | .vmem => 20
  | .smem => 0
  | _ => 0

abbrev bufTy : (tb : Table) → Fin (tcTables nBuf tb) → BufTy
  | .hbm, ⟨0, _⟩ => ⟨S16640x1024, .f32⟩
  | .hbm, ⟨1, _⟩ => ⟨S16640x512, .bf16⟩
  | .hbm, ⟨2, _⟩ => ⟨S16640x512, .bf16⟩
  | .hbm, ⟨3, _⟩ => ⟨S16640x512, .bf16⟩
  | .hbm, ⟨4, _⟩ => ⟨S16640x8192, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S16640x1024, .f32⟩
  | .local _ .vmem, ⟨0, _⟩ => ⟨S640x1024, .f32⟩
  | .local _ .vmem, ⟨1, _⟩ => ⟨S640x1024, .f32⟩
  | .local _ .vmem, ⟨2, _⟩ => ⟨S640x512, .bf16⟩
  | .local _ .vmem, ⟨3, _⟩ => ⟨S640x512, .bf16⟩
  | .local _ .vmem, ⟨4, _⟩ => ⟨S640x512, .bf16⟩
  | .local _ .vmem, ⟨5, _⟩ => ⟨S640x512, .bf16⟩
  | .local _ .vmem, ⟨6, _⟩ => ⟨S640x512, .bf16⟩
  | .local _ .vmem, ⟨7, _⟩ => ⟨S640x512, .bf16⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | .local _ .vmem, ⟨11, _⟩ => ⟨S640x1024, .f32⟩
  | .local _ .vmem, ⟨12, _⟩ => ⟨S640x1024, .f32⟩
  | .local _ .vmem, ⟨13, _⟩ => ⟨S640x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S640x1024, .f32⟩
  | .local _ .vmem, ⟨19, _⟩ => ⟨S640x1024, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S640x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S16640x1024 : Shape := ⟨2, ![16640, 1024]⟩
abbrev S16640x512 : Shape := ⟨2, ![16640, 512]⟩
abbrev S16640x8192 : Shape := ⟨2, ![16640, 8192]⟩
abbrev S512x1024 : Shape := ⟨2, ![512, 1024]⟩
abbrev S1024x1024 : Shape := ⟨2, ![1024, 1024]⟩
abbrev S16640x3072 : Shape := ⟨2, ![16640, 3072]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S16640x512, .bf16⟩
  | .hbm, ⟨2, _⟩ => ⟨S16640x512, .bf16⟩
  | .hbm, ⟨3, _⟩ => ⟨S16640x512, .bf16⟩
  | .hbm, ⟨4, _⟩ => ⟨S16640x8192, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S16640x3072, .f32⟩
  | .hbm, ⟨10, _⟩ => ⟨S16640x3072, .f32⟩
  | .hbm, ⟨11, _⟩ => ⟨S16640x3072, .f32⟩
  | .hbm, ⟨12, _⟩ => ⟨S_, .f32⟩
  | .hbm, ⟨13, _⟩ => ⟨S16640x3072, .f32⟩
  | .hbm, ⟨14, _⟩ => ⟨S16640x3072, .f32⟩
  | .hbm, ⟨15, _⟩ => ⟨S_, .f32⟩
  | .hbm, ⟨16, _⟩ => ⟨S16640x3072, .f32⟩
  | .hbm, ⟨17, _⟩ => ⟨S16640x3072, .f32⟩
  | .hbm, ⟨18, _⟩ => ⟨S16640x1024, .f32⟩
  | .hbm, ⟨19, _⟩ => ⟨S16640x512, .f32⟩
  | .hbm, ⟨20, _⟩ => ⟨S16640x1024, .f32⟩
  | .hbm, ⟨21, _⟩ => ⟨S16640x1024, .f32⟩
  | .hbm, ⟨22, _⟩ => ⟨S16640x1024, .f32⟩
  | .hbm, ⟨23, _⟩ => ⟨S16640x512, .f32⟩
  | .hbm, ⟨24, _⟩ => ⟨S16640x1024, .f32⟩
  | .hbm, ⟨25, _⟩ => ⟨S16640x1024, .f32⟩
  | .hbm, ⟨26, _⟩ => ⟨S16640x1024, .f32⟩
  | .hbm, ⟨27, _⟩ => ⟨S16640x1024, .f32⟩
  | .hbm, ⟨28, _⟩ => ⟨S16640x512, .f32⟩
  | .hbm, ⟨29, _⟩ => ⟨S16640x1024, .f32⟩
  | .hbm, ⟨30, _⟩ => ⟨S16640x1024, .f32⟩
  | .hbm, ⟨31, _⟩ => ⟨S16640x1024, .f32⟩
  | .hbm, ⟨32, _⟩ => ⟨S16640x1024, .f32⟩
  | .hbm, ⟨33, _⟩ => ⟨S16640x1024, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Proj.lean ====
abbrev S16640x1024 : Shape := ⟨2, ![16640, 1024]⟩
abbrev S1024 : Shape := ⟨1, ![1024]⟩
abbrev S1024x8200 : Shape := ⟨2, ![1024, 8200]⟩
abbrev S1024x512 : Shape := ⟨2, ![1024, 512]⟩
abbrev S1024x4 : Shape := ⟨2, ![1024, 4]⟩
abbrev S1024x3072 : Shape := ⟨2, ![1024, 3072]⟩
abbrev S1024x8192 : Shape := ⟨2, ![1024, 8192]⟩
abbrev S_ : Shape := ⟨0, ![]⟩
abbrev S1024x120 : Shape := ⟨2, ![1024, 120]⟩
abbrev S1024x128 : Shape := ⟨2, ![1024, 128]⟩
abbrev S1x1024 : Shape := ⟨2, ![1, 1024]⟩
abbrev S16640x8192 : Shape := ⟨2, ![16640, 8192]⟩
abbrev S16640x128 : Shape := ⟨2, ![16640, 128]⟩
abbrev S1280x1024 : Shape := ⟨2, ![1280, 1024]⟩
abbrev S1024x1024 : Shape := ⟨2, ![1024, 1024]⟩
abbrev S1280x128 : Shape := ⟨2, ![1280, 128]⟩
abbrev S1280 : Shape := ⟨1, ![1280]⟩
abbrev S1280x1 : Shape := ⟨2, ![1280, 1]⟩

abbrev nBuf : Space → Nat
  | .hbm => 25
  | .vmem => 11
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x8200, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x4, .f32⟩
  | .hbm, ⟨8, _⟩ => ⟨S1024x4, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x3072, .f32⟩
  | .hbm, ⟨16, _⟩ => ⟨S1024x8192, .f32⟩
  | .hbm, ⟨17, _⟩ => ⟨S1024x8192, .bf16⟩
  | .hbm, ⟨18, _⟩ => ⟨S_, .f32⟩
  | .hbm, ⟨19, _⟩ => ⟨S1024x120, .f32⟩
  | .hbm, ⟨20, _⟩ => ⟨S1024x128, .f32⟩
  | .hbm, ⟨21, _⟩ => ⟨S1024x128, .bf16⟩
  | .hbm, ⟨22, _⟩ => ⟨S1x1024, .f32⟩
  | .hbm, ⟨23, _⟩ => ⟨S16640x8192, .f32⟩
  | .hbm, ⟨24, _⟩ => ⟨S16640x128, .f32⟩
  | .local _ .vmem, ⟨0, _⟩ => ⟨S1280x1024, .f32⟩
  | .local _ .vmem, ⟨1, _⟩ => ⟨S1280x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S1280x1024, .f32⟩
  | .local _ .vmem, ⟨7, _⟩ => ⟨S1280x1024, .f32⟩
  | .local _ .vmem, ⟨8, _⟩ => ⟨S1280x128, .f32⟩
  | .local _ .vmem, ⟨9, _⟩ => ⟨S1280x128, .f32⟩
  | .local _ .vmem, ⟨10, _⟩ => ⟨S1280x1024, .bf16⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![13, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1280x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1280x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjRefIdeal.lean ====
abbrev S16640x1024 : Shape := ⟨2, ![16640, 1024]⟩
abbrev S1024 : Shape := ⟨1, ![1024]⟩
abbrev S1024x8200 : Shape := ⟨2, ![1024, 8200]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16640x8200 : Shape := ⟨2, ![16640, 8200]⟩
abbrev S16640x512 : Shape := ⟨2, ![16640, 512]⟩
abbrev S16640x4 : Shape := ⟨2, ![16640, 4]⟩
abbrev S16640x3072 : Shape := ⟨2, ![16640, 3072]⟩
abbrev S16640x8192 : Shape := ⟨2, ![16640, 8192]⟩
abbrev S16640x120 : Shape := ⟨2, ![16640, 120]⟩
abbrev S16640x128 : Shape := ⟨2, ![16640, 128]⟩

abbrev nBuf : Space → Nat
  | .hbm => 37
  | .vmem => 0
  | .smem => 0
  | _ => 0

abbrev bufTy : (tb : Table) → Fin (tcTables nBuf tb) → BufTy
  | .hbm, ⟨0, _⟩ => ⟨S16640x1024, .f32⟩
  | .hbm, ⟨1, _⟩ => ⟨S1024, .f32⟩
  | .hbm, ⟨2, _⟩ => ⟨S1024x8200, .f32⟩
  | .hbm, ⟨3, _⟩ => ⟨S16640x1024, .f32⟩
  | .hbm, ⟨4, _⟩ => ⟨S_, .f32⟩
  | .hbm, ⟨5, _⟩ => ⟨S16640, .f32⟩
  | .hbm, ⟨6, _⟩ => ⟨S16640x1, .f32⟩
  | .hbm, ⟨7, _⟩ => ⟨S_, .f32⟩
  | .hbm, ⟨8, _⟩ => ⟨S16640x1, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S16640x1, .f32⟩
  | .hbm, ⟨14, _⟩ => ⟨S16640x1024, .f32⟩
  | .hbm, ⟨15, _⟩ => ⟨S16640x1024, .f32⟩
  | .hbm, ⟨16, _⟩ => ⟨S1x1024, .f32⟩
  | .hbm, ⟨17, _⟩ => ⟨S16640x1024, .f32⟩
  | .hbm, ⟨18, _⟩ => ⟨S16640x1024, .f32⟩
  | .hbm, ⟨19, _⟩ => ⟨S16640x8200, .f32⟩
  | .hbm, ⟨20, _⟩ => ⟨S16640x512, .f32⟩
  | .hbm, ⟨21, _⟩ => ⟨S16640x512, .f32⟩
  | .hbm, ⟨22, _⟩ => ⟨S16640x512, .f32⟩
  | .hbm, ⟨23, _⟩ => ⟨S16640x512, .f32⟩
  | .hbm, ⟨24, _⟩ => ⟨S16640x4, .f32⟩
  | .hbm, ⟨25, _⟩ => ⟨S16640x4, .f32⟩
  | .hbm, ⟨26, _⟩ => ⟨S16640x512, .f32⟩
  | .hbm, ⟨27, _⟩ => ⟨S16640x512, .f32⟩
  | .hbm, ⟨28, _⟩ => ⟨S16640x512, .f32⟩
  | .hbm, ⟨29, _⟩ => ⟨S16640x512, .f32⟩
  | .hbm, ⟨30, _⟩ => ⟨S16640x512, .f32⟩
  | .hbm, ⟨31, _⟩ => ⟨S16640x512, .f32⟩
  | .hbm, ⟨32, _⟩ => ⟨S16640x3072, .f32⟩
  | .hbm, ⟨33, _⟩ => ⟨S16640x8192, .f32⟩
  | .hbm, ⟨34, _⟩ => ⟨S_, .f32⟩
  | .hbm, ⟨35, _⟩ => ⟨S16640x120, .f32⟩
  | .hbm, ⟨36, _⟩ => ⟨S16640x128, .f32⟩
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Proof.Walk.lean ====
module

public import proofs.«01_k».proof.Proof.Gen.DiffIdeal.Frame
public import Idealize.ShloMosaic.Lib.VecWindow
public import Idealize.ShloMosaic.Lib.Pointwise

/-! # What one grid point of the attention kernel computes

A grid point handles 512 query rows of one head, both maps stacked to 1024 rows.  It keeps three
tables: the running row maximum, the running lane sums of the weights, and the running weighted
sum of the value rows.  `St` holds the three, `step` is one block of 512 visible keys, `stepDiag`
the last block, where the keys after the query are masked, and `result` the output block.
This module shows that the stores of a grid point leave `result` of those steps. -/

@[expose] public section

set_option maxRecDepth 65536

noncomputable section

namespace Cert.DiffWalk

open Cert.DiffIdeal Cert.DiffIdeal.Gen
open Idealize.ShloMosaic Idealize.ShloMosaic.TcCoe Idealize.SL.Sem

variable {F : FTy → Type} [FloatOps F] [Named F]

/-- The three tables of a grid point: row maxima, lane sums, weighted values. -/
structure St (F : FTy → Type) where
  m : FVec F S1024x128 .f32
  l : FVec F S1024x128 .f32
  a : FVec F S1024x128 .f32

/-- The tables before the first block. -/
def start : St F := ⟨k0_pay33, k0_pay34, k0_pay35⟩

/-- One block of 512 keys, all of them visible. -/
def step (q : FVec F S1024x128 .bf16) (kb vb : Vec F S512x128 .bf16) (s : St F) : St F :=
  ⟨k0_pay13 q kb s.m, k0_pay14 q kb s.m s.l,
    k0_pay36 (k0_pay8 q kb s.m) (k0_pay15 q kb s.m) vb (constant S1024x128 .f32 0x00000000#32) s.a⟩

/-- The block of 512 keys that holds the query rows themselves. -/
def stepDiag (q : FVec F S1024x128 .bf16) (kb vb : Vec F S512x128 .bf16) (s : St F) : St F :=
  ⟨k0_pay49 q kb s.m,
    k0_pay50 (k0_pay44 q kb s.m) (k0_pay45 q kb s.m) (k0_pay46 q kb s.m) (k0_pay47 q kb s.m) (k0_pay48 q kb s.m) s.l,
    k0_pay51 (k0_pay44 q kb s.m) (k0_pay45 q kb s.m) (k0_pay46 q kb s.m) (k0_pay47 q kb s.m) (k0_pay48 q kb s.m) vb s.a⟩

/-- The output block from the final tables, the mixing scalar and the norm weight. -/
def result (lam : Elt F .f32) (w : Vec F S1x128 .f32) (s : St F) : FVec F S512x128 .bf16 :=
  k0_pay1 (k0_pay52 s.a s.l lam) (k0_pay53 w) (k0_pay54 s.a s.l lam) (Scalar.ofBits .f32 0x358637BD#32)

/-- Block `n` of 512 rows of the 8192 rows of `X`. -/
def rows (X : Vec F S8192x128 .bf16) (n : ℕ) (h : n < 16) : Vec F S512x128 .bf16 :=
  VecWindow.window X ![512 * n, 0] S512x128.size (by
    intro a; fin_cases a
    · show 512 * n + 512 ≤ 8192; omega
    · show 0 + 128 ≤ 128; omega)

/-- The tables after the first `n` blocks. -/
def upto (q : FVec F S1024x128 .bf16) (K V : Vec F S8192x128 .bf16) : (n : ℕ) → n ≤ 16 → St F
  | 0, _ => start
  | n + 1, h => step q (rows K n h) (rows V n h) (upto q K V n (Nat.le_of_succ_le h))

/-- The visible blocks before query tile `t` are the `t` earlier tiles. -/
theorem trips_t1 : ∀ i : grid0.Coords, (k0_t1_loop i).trips = (i 2).val := by decide +kernel

/-- A one-entry vector has one index. -/
theorem eq_ix1_zero (x : S1.Idx) : x = ix1 0 := by
  rw [eq_ix1 x]
  exact congrArg ix1 (Subsingleton.elim (α := Fin 1) _ _)

theorem trips_t2 (i : grid0.Coords) : (k0_t2_loop i).trips = 0 := Nat.le_zero.1 (k0_t2_abs i).2.1

section Point

variable (c : Dev nD) (i : grid0.Coords) (arg3 : Memref sig .tc .smem S1 .f32) (harg3 : arg3.IsWhole) (arg4 : Memref sig .tc .vmem S512x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S512x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole)

/-- The full-size rectangle of a 1024 by 128 table. -/
abbrev RU : LoadRect S1024x128 := (Rect.unit (s := S1024x128) ![0, 0] S1024x128.size inb_S1024x128_S1024x128_0_0).toLoadRect

/-- The pieces one block stores, as the step of the tables it read. -/
theorem trip (a2 : BitVec 32) (q : FVec F S1024x128 .bf16) (c0 c1 v31 : BitVec 32) (K V : Vec F S8192x128 .bf16)
    (k : Fin (k0_t1_loop i).trips) (hk : k.val < 16)
    (f11 : BufTy.Contents (Elt F) arg11.view.ty) (f12 : BufTy.Contents (Elt F) arg12.view.ty) (f13 : BufTy.Contents (Elt F) arg13.view.ty)
    (s : St F) (h11 : arg11.view.read (Elt F) f11 = s.m) (h12 : arg12.view.read (Elt F) f12 = s.l) (h13 : arg13.view.read (Elt F) f13 = s.a) :
    tripL_k0_t1 (F := F) Variants.none c none i arg3 harg3 arg4 harg4 arg5 harg5 arg6 harg6 arg7 harg7 arg8 harg8 arg9 harg9 arg10 harg10 arg11 harg11 arg12 harg12 arg13 harg13 a2 q c0 c1 v31 (harg9.unread K) (harg10.unread V) k f11 f12 f13
      = ([⟨Rect.unit ![0, 0] S1024x128.size inb_S1024x128_S1024x128_0_0, (step q (rows K k.val hk) (rows V k.val hk) s).m⟩],
         [⟨Rect.unit ![0, 0] S1024x128.size inb_S1024x128_S1024x128_0_0, (step q (rows K k.val hk) (rows V k.val hk) s).l⟩],
         [⟨Rect.unit ![0, 0] S1024x128.size inb_S1024x128_S1024x128_0_0, (step q (rows K k.val hk) (rows V k.val hk) s).a⟩]) := by
  have e9 : arg9.view.readAt (Elt F) (Rect.unit (s := S8192x128) (k0_off1 i k) S512x128.size (k0_off1_inb i k)).toLoadRect (harg9.unread K) = rows K k.val hk := by
    rw [View.readAt_unit _ _ _ (k0_off1_eq i k) (by rw [← k0_off1_eq i k]; exact k0_off1_inb i k), harg9.read_unread]; rfl
  have e10 : arg10.view.readAt (Elt F) (Rect.unit (s := S8192x128) (k0_off1 i k) S512x128.size (k0_off1_inb i k)).toLoadRect (harg10.unread V) = rows V k.val hk := by
    rw [View.readAt_unit _ _ _ (k0_off1_eq i k) (by rw [← k0_off1_eq i k]; exact k0_off1_inb i k), harg10.read_unread]; rfl
  obtain ⟨sm, sl, sa⟩ := s
  have e11 : arg11.view.readAt (Elt F) RU f11 = sm := by rw [View.readAt_full]; exact h11
  have e12 : arg12.view.readAt (Elt F) RU f12 = sl := by rw [View.readAt_full]; exact h12
  have e13 : arg13.view.readAt (Elt F) RU f13 = sa := by rw [View.readAt_full]; exact h13
  unfold tripL_k0_t1 trip_k0_t1
  dsimp only
  rw [← e9, ← e10]
  clear h11 h12 h13
  subst e11 e12 e13
  rfl

/-- After `n` blocks the three tables hold `upto n`. -/
theorem loop (a2 : BitVec 32) (q : FVec F S1024x128 .bf16) (c0 c1 v31 : BitVec 32) (K V : Vec F S8192x128 .bf16)
    (g11 : BufTy.Contents (Elt F) arg11.view.ty) (g12 : BufTy.Contents (Elt F) arg12.view.ty) (g13 : BufTy.Contents (Elt F) arg13.view.ty)
    (h11 : arg11.view.read (Elt F) g11 = k0_pay33) (h12 : arg12.view.read (Elt F) g12 = k0_pay34) (h13 : arg13.view.read (Elt F) g13 = k0_pay35) :
    ∀ (n : ℕ) (hn : n ≤ (k0_t1_loop i).trips) (hn' : n ≤ 16),
      arg11.view.read (Elt F) (arg11.view.writes (Elt F) g11 (pb_k0_t1 (F := F) Variants.none c none i arg3 harg3 arg4 harg4 arg5 harg5 arg6 harg6 arg7 harg7 arg8 harg8 arg9 harg9 arg10 harg10 arg11 harg11 arg12 harg12 arg13 harg13 a2 q c0 c1 v31 (harg9.unread K) (harg10.unread V) g11 g12 g13 n).1) = (upto q K V n hn').m
      ∧ arg12.view.read (Elt F) (arg12.view.writes (Elt F) g12 (pb_k0_t1 (F := F) Variants.none c none i arg3 harg3 arg4 harg4 arg5 harg5 arg6 harg6 arg7 harg7 arg8 harg8 arg9 harg9 arg10 harg10 arg11 harg11 arg12 harg12 arg13 harg13 a2 q c0 c1 v31 (harg9.unread K) (harg10.unread V) g11 g12 g13 n).2.1) = (upto q K V n hn').l
      ∧ arg13.view.read (Elt F) (arg13.view.writes (Elt F) g13 (pb_k0_t1 (F := F) Variants.none c none i arg3 harg3 arg4 harg4 arg5 harg5 arg6 harg6 arg7 harg7 arg8 harg8 arg9 harg9 arg10 harg10 arg11 harg11 arg12 harg12 arg13 harg13 a2 q c0 c1 v31 (harg9.unread K) (harg10.unread V) g11 g12 g13 n).2.2) = (upto q K V n hn').a := by
  intro n
  induction n with
  | zero => intro _ _; exact ⟨h11, h12, h13⟩
  | succ n ih =>
    intro hn hn'
    obtain ⟨i1, i2, i3⟩ := ih (by omega) (by omega)
    rw [pb_k0_t1_succ (F := F) Variants.none c none i arg3 harg3 arg4 harg4 arg5 harg5 arg6 harg6 arg7 harg7 arg8 harg8 arg9 harg9 arg10 harg10 arg11 harg11 arg12 harg12 arg13 harg13 a2 q c0 c1 v31 (harg9.unread K) (harg10.unread V) g11 g12 g13 ⟨n, hn⟩]
    rw [trip c i arg3 harg3 arg4 harg4 arg5 harg5 arg6 harg6 arg7 harg7 arg8 harg8 arg9 harg9 arg10 harg10 arg11 harg11 arg12 harg12 arg13 harg13 a2 q c0 c1 v31 K V ⟨n, hn⟩ hn' _ _ _ (upto q K V n (by omega)) i1 i2 i3]
    exact ⟨View.read_writes_full _ _ _ _ _, View.read_writes_full _ _ _ _ _, View.read_writes_full _ _ _ _ _⟩

/-- After every loop of the grid point the tables hold `upto` of the query tile: the second loop has no trips. -/
theorem loops (t : ℕ) (ht : (i 2).val = t) (ht' : t < 16) (q : FVec F S1024x128 .bf16) (v31 v33 : BitVec 32) (K V : Vec F S8192x128 .bf16)
    (L11 L12 L13 : _) (n1 n2 : ℕ) (hn1 : n1 = (k0_t1_loop i).trips) (hn2 : n2 = (k0_t2_loop i).trips)
    (h11 : arg11.view.read (Elt F) (arg11.view.writes (Elt F) arg11.view.junk L11) = k0_pay33)
    (h12 : arg12.view.read (Elt F) (arg12.view.writes (Elt F) arg12.view.junk L12) = k0_pay34)
    (h13 : arg13.view.read (Elt F) (arg13.view.writes (Elt F) arg13.view.junk L13) = k0_pay35)
    (g11 : BufTy.Contents (Elt F) arg11.view.ty) (g12 : BufTy.Contents (Elt F) arg12.view.ty) (g13 : BufTy.Contents (Elt F) arg13.view.ty) (a2 c0 c1 : BitVec 32) :
    let P1 := pb_k0_t1 (F := F) Variants.none c none i arg3 harg3 arg4 harg4 arg5 harg5 arg6 harg6 arg7 harg7 arg8 harg8 arg9 harg9 arg10 harg10 arg11 harg11 arg12 harg12 arg13 harg13 a2 q c0 c1 v31 (harg9.unread K) (harg10.unread V)
      (arg11.view.writes (Elt F) arg11.view.junk L11) (arg12.view.writes (Elt F) arg12.view.junk L12) (arg13.view.writes (Elt F) arg13.view.junk L13) n1
    let P2 := pb_k0_t2 (F := F) Variants.none c none i arg3 harg3 arg4 harg4 arg5 harg5 arg6 harg6 arg7 harg7 arg8 harg8 arg9 harg9 arg10 harg10 arg11 harg11 arg12 harg12 arg13 harg13 a2 q c0 c1 v31 v33 (harg9.unread K) (harg10.unread V) g11 g12 g13 n2
    arg11.view.readCov (P2.1 ++ (P1.1 ++ L11)) RU = (upto q K V t ht'.le).m
      ∧ arg12.view.readCov (P2.2.1 ++ (P1.2.1 ++ L12)) RU = (upto q K V t ht'.le).l
      ∧ arg13.view.readCov (P2.2.2 ++ (P1.2.2 ++ L13)) RU = (upto q K V t ht'.le).a := by
  intro P1 P2
  have e2 : P2 = ([], [], []) := by
    show pb_k0_t2 (F := F) Variants.none c none i arg3 harg3 arg4 harg4 arg5 harg5 arg6 harg6 arg7 harg7 arg8 harg8 arg9 harg9 arg10 harg10 arg11 harg11 arg12 harg12 arg13 harg13 a2 q c0 c1 v31 v33 (harg9.unread K) (harg10.unread V) g11 g12 g13 n2 = _
    rw [hn2, trips_t2]; rfl
  have hn : n1 = t := by rw [hn1, trips_t1, ht]
  obtain ⟨i1, i2, i3⟩ := loop c i arg3 harg3 arg4 harg4 arg5 harg5 arg6 harg6 arg7 harg7 arg8 harg8 arg9 harg9 arg10 harg10 arg11 harg11 arg12 harg12 arg13 harg13 a2 q c0 c1 v31 K V _ _ _ h11 h12 h13 n1 hn1.le (by omega)
  rw [e2]
  simp only [List.nil_append]
  subst hn
  refine ⟨?_, ?_, ?_⟩
  · show arg11.view.readAt (Elt F) RU (arg11.view.writes (Elt F) arg11.view.junk (P1.1 ++ L11)) = _
    rw [View.readAt_full, View.writes_append]; exact i1
  · show arg12.view.readAt (Elt F) RU (arg12.view.writes (Elt F) arg12.view.junk (P1.2.1 ++ L12)) = _
    rw [View.readAt_full, View.writes_append]; exact i2
  · show arg13.view.readAt (Elt F) RU (arg13.view.writes (Elt F) arg13.view.junk (P1.2.2 ++ L13)) = _
    rw [View.readAt_full, View.writes_append]; exact i3

/-- A later query tile: its output block from the key and value rows kept by the first tile. -/
theorem point_later (hc0 : ¬cond0_0 i) (x0 : Vec F S1 .f32) (x1 : Vec F S512x128 .f32) (x2 x3 : Vec F S8192x128 .f32)
    (x4 : Vec F S1x128 .f32) (K V : Vec F S8192x128 .bf16) (t : ℕ) (ht : (i 2).val = t) (ht' : t < 16) :
    out0_B_5 c i arg3 harg3 arg4 harg4 arg5 harg5 arg6 harg6 arg7 harg7 arg8 harg8 arg9 harg9 arg10 harg10 arg11 harg11 arg12 harg12 arg13 harg13 hc0 x0 x1 x2 x3 x4 K V
      = result (x0 (ix1 0)) x4 (stepDiag (k0_pay32 x1) (rows K t ht') (rows V t ht') (upto (k0_pay32 x1) K V t ht'.le)) := by
  have e9 : arg9.view.readAt (Elt F) (Rect.unit (s := S8192x128) (k0_off3 i) S512x128.size (k0_off3_inb i)).toLoadRect (harg9.unread K) = rows K t ht' := by
    rw [View.readAt_unit _ _ _ (k0_off3_eq i) (by rw [← k0_off3_eq i]; exact k0_off3_inb i), harg9.read_unread]; subst ht; rfl
  have e10 : arg10.view.readAt (Elt F) (Rect.unit (s := S8192x128) (k0_off3 i) S512x128.size (k0_off3_inb i)).toLoadRect (harg10.unread V) = rows V t ht' := by
    rw [View.readAt_unit _ _ _ (k0_off3_eq i) (by rw [← k0_off3_eq i]; exact k0_off3_inb i), harg10.read_unread]; subst ht; rfl
  have eq : kernelRun0_B.sl.r c arg4 harg4 x1 = k0_pay32 x1 := by
    unfold kernelRun0_B.sl.r
    rw [View.readAt_full, harg4.read_unread]
  have e6 : kernelRun0_B.sl.r_6 c arg3 harg3 x0 = x0 (ix1 0) := by
    unfold kernelRun0_B.sl.r_6
    rw [View.readAt_full, harg3.read_unread]
    congr 1
    exact eq_ix1_zero _
  have e8 : kernelRun0_B.sl.r_8 c arg7 harg7 x4 = k0_pay53 x4 := by
    unfold kernelRun0_B.sl.r_8
    rw [View.readAt_full, harg7.read_unread]
  obtain ⟨l1, l2, l3⟩ := loops c i arg3 harg3 arg4 harg4 arg5 harg5 arg6 harg6 arg7 harg7 arg8 harg8 arg9 harg9 arg10 harg10 arg11 harg11 arg12 harg12 arg13 harg13 t ht ht' (k0_pay32 x1) (kernelRun0_B.sl.v31 i) (kernelRun0_B.sl.v33 i) K V
    kernelRun0_B.sl.HS2_1 kernelRun0_B.sl.HS3_1 kernelRun0_B.sl.HS4_1 _ _ rfl rfl
    (View.read_writes_full _ _ _ _ _) (View.read_writes_full _ _ _ _ _) (View.read_writes_full _ _ _ _ _) _ _ _ _ _ _
  have e56 : kernelRun0_B.sl.v56 c i arg3 harg3 arg4 harg4 arg5 harg5 arg6 harg6 arg7 harg7 arg8 harg8 arg9 harg9 arg10 harg10 arg11 harg11 arg12 harg12 arg13 harg13 x1 K V = (upto (k0_pay32 x1) K V t ht'.le).m := by
    unfold kernelRun0_B.sl.v56; rw [eq]; exact l1
  have e74 : kernelRun0_B.sl.v74 c i arg3 harg3 arg4 harg4 arg5 harg5 arg6 harg6 arg7 harg7 arg8 harg8 arg9 harg9 arg10 harg10 arg11 harg11 arg12 harg12 arg13 harg13 x1 K V = (upto (k0_pay32 x1) K V t ht'.le).l := by
    unfold kernelRun0_B.sl.v74; rw [eq]; exact l2
  have e88 : kernelRun0_B.sl.v88 c i arg3 harg3 arg4 harg4 arg5 harg5 arg6 harg6 arg7 harg7 arg8 harg8 arg9 harg9 arg10 harg10 arg11 harg11 arg12 harg12 arg13 harg13 x1 K V = (upto (k0_pay32 x1) K V t ht'.le).a := by
    unfold kernelRun0_B.sl.v88; rw [eq]; exact l3
  have e95 : kernelRun0_B.sl.v95 c i arg3 harg3 arg4 harg4 arg5 harg5 arg6 harg6 arg7 harg7 arg8 harg8 arg9 harg9 arg10 harg10 arg11 harg11 arg12 harg12 arg13 harg13 x1 K V
      = (stepDiag (k0_pay32 x1) (rows K t ht') (rows V t ht') (upto (k0_pay32 x1) K V t ht'.le)).l := by
    have : kernelRun0_B.sl.v95 c i arg3 harg3 arg4 harg4 arg5 harg5 arg6 harg6 arg7 harg7 arg8 harg8 arg9 harg9 arg10 harg10 arg11 harg11 arg12 harg12 arg13 harg13 x1 K V
        = (stepDiag (kernelRun0_B.sl.r c arg4 harg4 x1)
          (arg9.view.readAt (Elt F) (Rect.unit (s := S8192x128) (k0_off3 i) S512x128.size (k0_off3_inb i)).toLoadRect (harg9.unread K))
          (arg10.view.readAt (Elt F) (Rect.unit (s := S8192x128) (k0_off3 i) S512x128.size (k0_off3_inb i)).toLoadRect (harg10.unread V))
          ⟨kernelRun0_B.sl.v56 c i arg3 harg3 arg4 harg4 arg5 harg5 arg6 harg6 arg7 harg7 arg8 harg8 arg9 harg9 arg10 harg10 arg11 harg11 arg12 harg12 arg13 harg13 x1 K V, kernelRun0_B.sl.v74 c i arg3 harg3 arg4 harg4 arg5 harg5 arg6 harg6 arg7 harg7 arg8 harg8 arg9 harg9 arg10 harg10 arg11 harg11 arg12 harg12 arg13 harg13 x1 K V, kernelRun0_B.sl.v88 c i arg3 harg3 arg4 harg4 arg5 harg5 arg6 harg6 arg7 harg7 arg8 harg8 arg9 harg9 arg10 harg10 arg11 harg11 arg12 harg12 arg13 harg13 x1 K V⟩).l := by
      unfold kernelRun0_B.sl.v95 kernelRun0_B.sl.HS3_1_1
      rw [View.readCov_full]; rfl
    rw [this, eq, e9, e10, e56, e74, e88]
  have e94 : kernelRun0_B.sl.v94 c i arg3 harg3 arg4 harg4 arg5 harg5 arg6 harg6 arg7 harg7 arg8 harg8 arg9 harg9 arg10 harg10 arg11 harg11 arg12 harg12 arg13 harg13 x1 K V
      = (stepDiag (k0_pay32 x1) (rows K t ht') (rows V t ht') (upto (k0_pay32 x1) K V t ht'.le)).a := by
    have : kernelRun0_B.sl.v94 c i arg3 harg3 arg4 harg4 arg5 harg5 arg6 harg6 arg7 harg7 arg8 harg8 arg9 harg9 arg10 harg10 arg11 harg11 arg12 harg12 arg13 harg13 x1 K V
        = (stepDiag (kernelRun0_B.sl.r c arg4 harg4 x1)
          (arg9.view.readAt (Elt F) (Rect.unit (s := S8192x128) (k0_off3 i) S512x128.size (k0_off3_inb i)).toLoadRect (harg9.unread K))
          (arg10.view.readAt (Elt F) (Rect.unit (s := S8192x128) (k0_off3 i) S512x128.size (k0_off3_inb i)).toLoadRect (harg10.unread V))
          ⟨kernelRun0_B.sl.v56 c i arg3 harg3 arg4 harg4 arg5 harg5 arg6 harg6 arg7 harg7 arg8 harg8 arg9 harg9 arg10 harg10 arg11 harg11 arg12 harg12 arg13 harg13 x1 K V, kernelRun0_B.sl.v74 c i arg3 harg3 arg4 harg4 arg5 harg5 arg6 harg6 arg7 harg7 arg8 harg8 arg9 harg9 arg10 harg10 arg11 harg11 arg12 harg12 arg13 harg13 x1 K V, kernelRun0_B.sl.v88 c i arg3 harg3 arg4 harg4 arg5 harg5 arg6 harg6 arg7 harg7 arg8 harg8 arg9 harg9 arg10 harg10 arg11 harg11 arg12 harg12 arg13 harg13 x1 K V⟩).a := by
      unfold kernelRun0_B.sl.v94 kernelRun0_B.sl.HS4_1_1
      rw [View.readCov_full]; rfl
    rw [this, eq, e9, e10, e56, e74, e88]
  unfold out0_B_5 kernelRun0_B
  dsimp only
  rw [View.read_writes_full]
  unfold kernelRun0_B.sl.r_7 kernelRun0_B.sl.r_9
  rw [e94, e95, e6, e8]
  rfl

/-- The first query tile: it also keeps the key and value rows, `k0_pay30 x2` and `k0_pay31 x3`. -/
theorem point_first (hc0 : cond0_0 i) (x0 : Vec F S1 .f32) (x1 : Vec F S512x128 .f32) (x2 x3 : Vec F S8192x128 .f32)
    (x4 : Vec F S1x128 .f32) (t : ℕ) (ht : (i 2).val = t) (ht' : t < 16) :
    out0_A_5 c i arg3 harg3 arg4 harg4 arg5 harg5 arg6 harg6 arg7 harg7 arg8 harg8 arg9 harg9 arg10 harg10 arg11 harg11 arg12 harg12 arg13 harg13 hc0 x0 x1 x2 x3 x4
      = result (x0 (ix1 0)) x4 (stepDiag (k0_pay32 x1) (rows (k0_pay30 x2) t ht') (rows (k0_pay31 x3) t ht') (upto (k0_pay32 x1) (k0_pay30 x2) (k0_pay31 x3) t ht'.le)) := by
  have eK : arg9.view.writes (Elt F) arg9.view.junk (kernelRun0_A.sl.HS0_1 c arg5 harg5 x2) = harg9.unread (k0_pay30 x2) := harg9.eq_unread (by
    unfold kernelRun0_A.sl.HS0_1
    rw [View.read_writes_full, View.readAt_full, harg5.read_unread])
  have eV : arg10.view.writes (Elt F) arg10.view.junk (kernelRun0_A.sl.HS1_1 c arg6 harg6 x3) = harg10.unread (k0_pay31 x3) := harg10.eq_unread (by
    unfold kernelRun0_A.sl.HS1_1
    rw [View.read_writes_full, View.readAt_full, harg6.read_unread])
  have e9 : arg9.view.readAt (Elt F) (Rect.unit (s := S8192x128) (k0_off3 i) S512x128.size (k0_off3_inb i)).toLoadRect (arg9.view.writes (Elt F) arg9.view.junk (kernelRun0_A.sl.HS0_1 c arg5 harg5 x2)) = rows (k0_pay30 x2) t ht' := by
    rw [eK, View.readAt_unit _ _ _ (k0_off3_eq i) (by rw [← k0_off3_eq i]; exact k0_off3_inb i), harg9.read_unread]; subst ht; rfl
  have e10 : arg10.view.readAt (Elt F) (Rect.unit (s := S8192x128) (k0_off3 i) S512x128.size (k0_off3_inb i)).toLoadRect (arg10.view.writes (Elt F) arg10.view.junk (kernelRun0_A.sl.HS1_1 c arg6 harg6 x3)) = rows (k0_pay31 x3) t ht' := by
    rw [eV, View.readAt_unit _ _ _ (k0_off3_eq i) (by rw [← k0_off3_eq i]; exact k0_off3_inb i), harg10.read_unread]; subst ht; rfl
  have eq : kernelRun0_A.sl.r c arg4 harg4 x1 = k0_pay32 x1 := by
    unfold kernelRun0_A.sl.r
    rw [View.readAt_full, harg4.read_unread]
  have e6 : kernelRun0_A.sl.r_6 c arg3 harg3 x0 = x0 (ix1 0) := by
    unfold kernelRun0_A.sl.r_6
    rw [View.readAt_full, harg3.read_unread]
    congr 1
    exact eq_ix1_zero _
  have e8 : kernelRun0_A.sl.r_8 c arg7 harg7 x4 = k0_pay53 x4 := by
    unfold kernelRun0_A.sl.r_8
    rw [View.readAt_full, harg7.read_unread]
  obtain ⟨l1, l2, l3⟩ := loops c i arg3 harg3 arg4 harg4 arg5 harg5 arg6 harg6 arg7 harg7 arg8 harg8 arg9 harg9 arg10 harg10 arg11 harg11 arg12 harg12 arg13 harg13 t ht ht' (k0_pay32 x1) (kernelRun0_A.sl.v31 i) (kernelRun0_A.sl.v33 i) (k0_pay30 x2) (k0_pay31 x3)
    kernelRun0_A.sl.HS2_1 kernelRun0_A.sl.HS3_1 kernelRun0_A.sl.HS4_1 _ _ rfl rfl
    (View.read_writes_full _ _ _ _ _) (View.read_writes_full _ _ _ _ _) (View.read_writes_full _ _ _ _ _) _ _ _ _ _ _
  have e56 : kernelRun0_A.sl.v56 c i arg3 harg3 arg4 harg4 arg5 harg5 arg6 harg6 arg7 harg7 arg8 harg8 arg9 harg9 arg10 harg10 arg11 harg11 arg12 harg12 arg13 harg13 x1 x2 x3 = (upto (k0_pay32 x1) (k0_pay30 x2) (k0_pay31 x3) t ht'.le).m := by
    unfold kernelRun0_A.sl.v56; rw [eq, eK, eV]; exact l1
  have e74 : kernelRun0_A.sl.v74 c i arg3 harg3 arg4 harg4 arg5 harg5 arg6 harg6 arg7 harg7 arg8 harg8 arg9 harg9 arg10 harg10 arg11 harg11 arg12 harg12 arg13 harg13 x1 x2 x3 = (upto (k0_pay32 x1) (k0_pay30 x2) (k0_pay31 x3) t ht'.le).l := by
    unfold kernelRun0_A.sl.v74; rw [eq, eK, eV]; exact l2
  have e88 : kernelRun0_A.sl.v88 c i arg3 harg3 arg4 harg4 arg5 harg5 arg6 harg6 arg7 harg7 arg8 harg8 arg9 harg9 arg10 harg10 arg11 harg11 arg12 harg12 arg13 harg13 x1 x2 x3 = (upto (k0_pay32 x1) (k0_pay30 x2) (k0_pay31 x3) t ht'.le).a := by
    unfold kernelRun0_A.sl.v88; rw [eq, eK, eV]; exact l3
  have e95 : kernelRun0_A.sl.v95 c i arg3 harg3 arg4 harg4 arg5 harg5 arg6 harg6 arg7 harg7 arg8 harg8 arg9 harg9 arg10 harg10 arg11 harg11 arg12 harg12 arg13 harg13 x1 x2 x3
      = (stepDiag (k0_pay32 x1) (rows (k0_pay30 x2) t ht') (rows (k0_pay31 x3) t ht') (upto (k0_pay32 x1) (k0_pay30 x2) (k0_pay31 x3) t ht'.le)).l := by
    have : kernelRun0_A.sl.v95 c i arg3 harg3 arg4 harg4 arg5 harg5 arg6 harg6 arg7 harg7 arg8 harg8 arg9 harg9 arg10 harg10 arg11 harg11 arg12 harg12 arg13 harg13 x1 x2 x3
        = (stepDiag (kernelRun0_A.sl.r c arg4 harg4 x1)
          (arg9.view.readAt (Elt F) (Rect.unit (s := S8192x128) (k0_off3 i) S512x128.size (k0_off3_inb i)).toLoadRect (arg9.view.writes (Elt F) arg9.view.junk (kernelRun0_A.sl.HS0_1 c arg5 harg5 x2)))
          (arg10.view.readAt (Elt F) (Rect.unit (s := S8192x128) (k0_off3 i) S512x128.size (k0_off3_inb i)).toLoadRect (arg10.view.writes (Elt F) arg10.view.junk (kernelRun0_A.sl.HS1_1 c arg6 harg6 x3)))
          ⟨kernelRun0_A.sl.v56 c i arg3 harg3 arg4 harg4 arg5 harg5 arg6 harg6 arg7 harg7 arg8 harg8 arg9 harg9 arg10 harg10 arg11 harg11 arg12 harg12 arg13 harg13 x1 x2 x3, kernelRun0_A.sl.v74 c i arg3 harg3 arg4 harg4 arg5 harg5 arg6 harg6 arg7 harg7 arg8 harg8 arg9 harg9 arg10 harg10 arg11 harg11 arg12 harg12 arg13 harg13 x1 x2 x3, kernelRun0_A.sl.v88 c i arg3 harg3 arg4 harg4 arg5 harg5 arg6 harg6 arg7 harg7 arg8 harg8 arg9 harg9 arg10 harg10 arg11 harg11 arg12 harg12 arg13 harg13 x1 x2 x3⟩).l := by
      unfold kernelRun0_A.sl.v95 kernelRun0_A.sl.HS3_1_1
      rw [View.readCov_full]; rfl
    rw [this, eq, e9, e10, e56, e74, e88]
  have e94 : kernelRun0_A.sl.v94 c i arg3 harg3 arg4 harg4 arg5 harg5 arg6 harg6 arg7 harg7 arg8 harg8 arg9 harg9 arg10 harg10 arg11 harg11 arg12 harg12 arg13 harg13 x1 x2 x3
      = (stepDiag (k0_pay32 x1) (rows (k0_pay30 x2) t ht') (rows (k0_pay31 x3) t ht') (upto (k0_pay32 x1) (k0_pay30 x2) (k0_pay31 x3) t ht'.le)).a := by
    have : kernelRun0_A.sl.v94 c i arg3 harg3 arg4 harg4 arg5 harg5 arg6 harg6 arg7 harg7 arg8 harg8 arg9 harg9 arg10 harg10 arg11 harg11 arg12 harg12 arg13 harg13 x1 x2 x3
        = (stepDiag (kernelRun0_A.sl.r c arg4 harg4 x1)
          (arg9.view.readAt (Elt F) (Rect.unit (s := S8192x128) (k0_off3 i) S512x128.size (k0_off3_inb i)).toLoadRect (arg9.view.writes (Elt F) arg9.view.junk (kernelRun0_A.sl.HS0_1 c arg5 harg5 x2)))
          (arg10.view.readAt (Elt F) (Rect.unit (s := S8192x128) (k0_off3 i) S512x128.size (k0_off3_inb i)).toLoadRect (arg10.view.writes (Elt F) arg10.view.junk (kernelRun0_A.sl.HS1_1 c arg6 harg6 x3)))
          ⟨kernelRun0_A.sl.v56 c i arg3 harg3 arg4 harg4 arg5 harg5 arg6 harg6 arg7 harg7 arg8 harg8 arg9 harg9 arg10 harg10 arg11 harg11 arg12 harg12 arg13 harg13 x1 x2 x3, kernelRun0_A.sl.v74 c i arg3 harg3 arg4 harg4 arg5 harg5 arg6 harg6 arg7 harg7 arg8 harg8 arg9 harg9 arg10 harg10 arg11 harg11 arg12 harg12 arg13 harg13 x1 x2 x3, kernelRun0_A.sl.v88 c i arg3 harg3 arg4 harg4 arg5 harg5 arg6 harg6 arg7 harg7 arg8 harg8 arg9 harg9 arg10 harg10 arg11 harg11 arg12 harg12 arg13 harg13 x1 x2 x3⟩).a := by
      unfold kernelRun0_A.sl.v94 kernelRun0_A.sl.HS4_1_1
      rw [View.readCov_full]; rfl
    rw [this, eq, e9, e10, e56, e74, e88]
  unfold out0_A_5 kernelRun0_A
  dsimp only
  rw [View.read_writes_full]
  unfold kernelRun0_A.sl.r_7 kernelRun0_A.sl.r_9
  rw [e94, e95, e6, e8]
  rfl

end Point

end Cert.DiffWalk
end
-- ==== Proof.Softmax.lean ====
/- The arithmetic of a softmax accumulated block by block, over the extended reals: a running maximum, sums kept
   relative to it, and the rescaling when a block raises it. Nothing here mentions a program. -/
module

public import Idealize.ShloMosaic.PureOps.Ideal
public import Idealize.ShloMosaic.PureOps.Ideal.Laws
public import Mathlib.Analysis.SpecialFunctions.Pow.Real

@[expose] public section

noncomputable section

namespace Cert.Softmax

open Idealize.ShloMosaic

/-! ## Scores and weights -/

/-- The weight of a score: two to its power, a real number (zero at a masked score). -/
def weight (s : EReal) : ℝ := (Ideal.exp2 s).toReal

theorem weight_bot : weight ⊥ = 0 := by simp [weight]

theorem weight_coe (r : ℝ) : weight (r : EReal) = (2 : ℝ) ^ r := by
  simp only [weight, Ideal.exp2_coe, EReal.toReal_coe]; rfl

theorem weight_nonneg {s : EReal} : 0 ≤ weight s := by
  induction s using EReal.rec with
  | bot => rw [weight_bot]
  | top => simp [weight]
  | coe r => rw [weight_coe]; positivity

theorem weight_pos {s : EReal} (h : s ≠ ⊤) (h' : s ≠ ⊥) : 0 < weight s := by
  induction s using EReal.rec with
  | bot => exact absurd rfl h'
  | top => exact absurd rfl h
  | coe r => rw [weight_coe]; positivity

/-- The exponential of a score less a maximum: the score's weight, relative to the maximum. -/
theorem exp2_sub {s : EReal} (h : s ≠ ⊤) (M : ℝ) : Ideal.exp2 (s - (M : EReal)) = ((weight s * 2 ^ (-M) : ℝ) : EReal) := by
  induction s using EReal.rec with
  | bot => simp [weight_bot]
  | top => exact absurd rfl h
  | coe r =>
    rw [weight_coe, ← EReal.coe_sub, Ideal.exp2_coe, ← Real.rpow_add two_pos]; rfl

/-! ## A sum held relative to a running maximum -/

/-- `x` holds the sum `X` relative to the running maximum `m`: before the first block the maximum is `-∞` and the
    sum zero; after it the maximum is a number `M`, and `x` is `X · 2^(-M)`. -/
def Held (m x : EReal) (X : ℝ) : Prop :=
  (m = ⊥ ∧ x = 0 ∧ X = 0) ∨ ∃ M : ℝ, m = (M : EReal) ∧ x = ((X * 2 ^ (-M) : ℝ) : EReal)

theorem held_init : Held ⊥ 0 0 := Or.inl ⟨rfl, rfl, rfl⟩

theorem Held.ne_top {m x : EReal} {X : ℝ} (h : Held m x X) : m ≠ ⊤ := by
  rcases h with ⟨rfl, -⟩ | ⟨M, rfl, -⟩
  · exact bot_ne_top
  · exact EReal.coe_ne_top M

/-- Rescaling to a new maximum keeps the sum. -/
theorem Held.rescale {m x : EReal} {X : ℝ} (h : Held m x X) (M : ℝ) :
    Ideal.exp2 (m - (M : EReal)) * x = ((X * 2 ^ (-M) : ℝ) : EReal) := by
  rcases h with ⟨rfl, rfl, rfl⟩ | ⟨M', rfl, rfl⟩
  · simp
  · rw [exp2_sub (EReal.coe_ne_top M'), weight_coe, ← EReal.coe_mul]
    congr 1
    rw [show (2 : ℝ) ^ M' * 2 ^ (-M) * (X * 2 ^ (-M')) = X * 2 ^ (-M) * (2 ^ M' * 2 ^ (-M')) by ring,
      ← Real.rpow_add two_pos, add_neg_cancel, Real.rpow_zero, mul_one]

/-- A finite sum of real numbers, cast. -/
theorem coe_sum {ι : Type*} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- One block's contribution to a sum of weights, four scores to a lane. -/
theorem Held.step4 {m x : EReal} {X : ℝ} (h : Held m x X) (M : ℝ) {s0 s1 s2 s3 : EReal}
    (h0 : s0 ≠ ⊤) (h1 : s1 ≠ ⊤) (h2 : s2 ≠ ⊤) (h3 : s3 ≠ ⊤) :
    Held (M : EReal)
      (Ideal.exp2 (m - (M : EReal)) * x + (((Ideal.exp2 (s0 - (M : EReal)) + Ideal.exp2 (s1 - (M : EReal)))
        + Ideal.exp2 (s2 - (M : EReal))) + Ideal.exp2 (s3 - (M : EReal))))
      (X + (weight s0 + weight s1 + weight s2 + weight s3)) := by
  refine Or.inr ⟨M, rfl, ?_⟩
  rw [h.rescale M, exp2_sub h0, exp2_sub h1, exp2_sub h2, exp2_sub h3]
  simp only [← EReal.coe_add]
  congr 1; ring

/-- One block's contribution to a weighted sum of values. -/
theorem Held.stepSum {m x : EReal} {X : ℝ} (h : Held m x X) (M : ℝ) {n : ℕ} {s : Fin n → EReal}
    (hs : ∀ k, s k ≠ ⊤) (v : Fin n → ℝ) :
    Held (M : EReal)
      (Ideal.exp2 (m - (M : EReal)) * x + ∑ k, Ideal.exp2 (s k - (M : EReal)) * (v k : EReal))
      (X + ∑ k, weight (s k) * v k) := by
  refine Or.inr ⟨M, rfl, ?_⟩
  have : ∀ k, Ideal.exp2 (s k - (M : EReal)) * (v k : EReal) = ((weight (s k) * v k * 2 ^ (-M) : ℝ) : EReal) := fun k => by
    rw [exp2_sub (hs k), ← EReal.coe_mul]; congr 1; ring
  simp only [this]
  rw [h.rescale M, ← coe_sum, ← EReal.coe_add, ← Finset.sum_mul, add_mul]

/-! ## The new maximum is a number -/

/-- A maximum folded over finitely many scores, none `+∞`, from something that is not `+∞`, is not `+∞`. -/
theorem fold_max_ne_top {ι : Type*} (s : Finset ι) (f : ι → EReal) {b : EReal} (hb : b ≠ ⊤) (hf : ∀ i ∈ s, f i ≠ ⊤) :
    s.fold max b f ≠ ⊤ := by
  rw [← lt_top_iff_ne_top, Finset.fold_max_lt]
  exact ⟨lt_top_iff_ne_top.mpr hb, fun i hi => lt_top_iff_ne_top.mpr (hf i hi)⟩

/-- … and it is not `-∞` once one score is a number. -/
theorem fold_max_ne_bot {ι : Type*} (s : Finset ι) (f : ι → EReal) (b : EReal) {i : ι} (hi : i ∈ s) (hf : f i ≠ ⊥) :
    s.fold max b f ≠ ⊥ := by
  rw [← bot_lt_iff_ne_bot, Finset.lt_fold_max]
  exact Or.inr ⟨i, hi, bot_lt_iff_ne_bot.mpr hf⟩

theorem exists_coe {x : EReal} (h : x ≠ ⊤) (h' : x ≠ ⊥) : ∃ r : ℝ, x = (r : EReal) :=
  ⟨x.toReal, (EReal.coe_toReal h h').symm⟩

theorem max_ne_bot_right {a b : EReal} (hb : b ≠ ⊥) : max a b ≠ ⊥ := by
  rw [← bot_lt_iff_ne_bot, lt_max_iff]; exact Or.inr (bot_lt_iff_ne_bot.mpr hb)

theorem max_ne_bot_left {a b : EReal} (ha : a ≠ ⊥) : max a b ≠ ⊥ := by
  rw [← bot_lt_iff_ne_bot, lt_max_iff]; exact Or.inl (bot_lt_iff_ne_bot.mpr ha)

/-! ## The quotient at the end -/

theorem div_coe_coe {x y : ℝ} (h : y ≠ 0) : Ideal.div (x : EReal) (y : EReal) = ((x / y : ℝ) : EReal) := by
  rw [Ideal.div_coe h, ← EReal.coe_mul, mul_one_div]

/-- A weighted sum over a sum of weights, both held relative to one maximum: the weighted mean. -/
theorem Held.quotient {m x : EReal} {X : ℝ} {n : ℕ} {y : Fin n → EReal} {Y : Fin n → ℝ} (hm : m ≠ ⊥)
    (hx : Held m x X) (hy : ∀ j, Held m (y j) (Y j)) (h0 : ∑ j, Y j ≠ 0) :
    Ideal.div x (∑ j, y j) = ((X / ∑ j, Y j : ℝ) : EReal) := by
  rcases hx with ⟨rfl, -⟩ | ⟨M, rfl, rfl⟩
  · exact absurd rfl hm
  · have : ∀ j, y j = ((Y j * 2 ^ (-M) : ℝ) : EReal) := fun j => by
      rcases hy j with ⟨h, -⟩ | ⟨M', h, h'⟩
      · exact absurd h hm
      · rw [h', EReal.coe_injective h]
    simp only [this]
    have hp : (0 : ℝ) < 2 ^ (-M) := by positivity
    rw [← coe_sum, ← Finset.sum_mul, div_coe_coe (mul_ne_zero h0 hp.ne'), mul_div_mul_right _ _ hp.ne']

/-! ## The softmax written plainly -/

/-- `exp (x - M)` over its sum, `M` any number: `exp x` over the sum of `exp x`, for scores none `+∞`. -/
def expW (s : EReal) : ℝ := (Ideal.exp s).toReal

theorem expW_bot : expW ⊥ = 0 := by simp [expW]
theorem expW_coe (r : ℝ) : expW (r : EReal) = Real.exp r := by simp [expW]

theorem expW_nonneg (s : EReal) : 0 ≤ expW s := by
  induction s using EReal.rec with
  | bot => rw [expW_bot]
  | top => simp [expW]
  | coe r => rw [expW_coe]; positivity

theorem exp_sub {s : EReal} (h : s ≠ ⊤) (M : ℝ) : Ideal.exp (s - (M : EReal)) = ((expW s * Real.exp (-M) : ℝ) : EReal) := by
  induction s using EReal.rec with
  | bot => simp [expW_bot]
  | top => exact absurd rfl h
  | coe r => rw [expW_coe, ← EReal.coe_sub, Ideal.exp_coe, ← Real.exp_add]; rfl

theorem softmax_eq {n : ℕ} {s : Fin n → EReal} (hs : ∀ k, s k ≠ ⊤) (M : ℝ) (h0 : ∑ k, expW (s k) ≠ 0) (k : Fin n) :
    Ideal.div (Ideal.exp (s k - (M : EReal))) (∑ j, Ideal.exp (s j - (M : EReal)))
      = ((expW (s k) / ∑ j, expW (s j) : ℝ) : EReal) := by
  have hp : 0 < Real.exp (-M) := Real.exp_pos _
  simp only [fun j => exp_sub (hs j) M]
  rw [← coe_sum, ← Finset.sum_mul, div_coe_coe (mul_ne_zero h0 hp.ne'), mul_div_mul_right _ _ hp.ne']

/-- Two to the power `x / log 2` is the exponential of `x`. -/
theorem weight_scaled (x : ℝ) : weight ((x / Real.log 2 : ℝ) : EReal) = expW (x : EReal) := by
  rw [weight_coe, expW_coe, Real.rpow_def_of_pos two_pos, mul_div_cancel₀ _ (Real.log_pos one_lt_two).ne']

/-- The difference of two weighted means is the sum weighted by the difference of the weights. -/
theorem mean_sub_mean {n : ℕ} (a b v : Fin n → ℝ) (A B lam : ℝ) :
    ∑ k, v k * (a k / A - lam * (b k / B)) = (∑ k, a k * v k) / A - lam * ((∑ k, b k * v k) / B) := by
  rw [Finset.sum_div, Finset.sum_div, Finset.mul_sum, ← Finset.sum_sub_distrib]
  exact Finset.sum_congr rfl fun k _ => by ring

end Cert.Softmax

end
-- ==== Proof.Block.lean ====
module

public import proofs.«01_k».proof.Proof.Walk
public import proofs.«01_k».proof.Proof.Softmax
public import Idealize.ShloMosaic.Lib.Pointwise

/-! # One block of keys, entry by entry

Both kinds of block differ only in their 1024 by 512 table of scores.  `stepS` is the block as a
function of that table, and the theorems read its three results at an entry. -/

@[expose] public section

set_option maxRecDepth 65536

noncomputable section

namespace Cert.DiffWalk

open Cert.DiffIdeal Cert.DiffIdeal.Gen
open Idealize.ShloMosaic Idealize.ShloMosaic.TcCoe Idealize.SL.Sem

section Generic

variable {F : FTy → Type} [FloatOps F] [Named F]

/-- The new row maxima. -/
def newMax (S : FVec F S1024x512 .f32) (m : FVec F S1024x128 .f32) : FVec F S1024x128 .f32 :=
  maximumf m (broadcastTo S1024x128 (shapeCast S1024x1 (multiReduction .maximumf [1] S1024
    (maximumf (maximumf (maximumf (extractStridedSlice S1024x128 ![0, 0] S slices_S1024x512_o0_0_S1024x128)
      (extractStridedSlice S1024x128 ![0, 128] S slices_S1024x512_o0_128_S1024x128))
      (extractStridedSlice S1024x128 ![0, 256] S slices_S1024x512_o0_256_S1024x128))
      (extractStridedSlice S1024x128 ![0, 384] S slices_S1024x512_o0_384_S1024x128))
    0xFF800000#32 reduces_S1024x128_S1024 (.inl rfl) rfl) shapeCasts_S1024_S1024x1) broadcasts_S1024x1_S1024x128)

/-- The factor that carries the old tables to the new maxima. -/
def alpha (S : FVec F S1024x512 .f32) (m : FVec F S1024x128 .f32) : FVec F S1024x128 .f32 := exp2 (subf m (newMax S m))

/-- The weights of the first 128 keys of the block, relative to the new maxima, and of the three groups after them. -/
def wt0 (S : FVec F S1024x512 .f32) (m : FVec F S1024x128 .f32) : FVec F S1024x128 .f32 :=
  exp2 (subf (extractStridedSlice S1024x128 ![0, 0] S slices_S1024x512_o0_0_S1024x128) (newMax S m))
def wt1 (S : FVec F S1024x512 .f32) (m : FVec F S1024x128 .f32) : FVec F S1024x128 .f32 :=
  exp2 (subf (extractStridedSlice S1024x128 ![0, 128] S slices_S1024x512_o0_128_S1024x128) (newMax S m))
def wt2 (S : FVec F S1024x512 .f32) (m : FVec F S1024x128 .f32) : FVec F S1024x128 .f32 :=
  exp2 (subf (extractStridedSlice S1024x128 ![0, 256] S slices_S1024x512_o0_256_S1024x128) (newMax S m))
def wt3 (S : FVec F S1024x512 .f32) (m : FVec F S1024x128 .f32) : FVec F S1024x128 .f32 :=
  exp2 (subf (extractStridedSlice S1024x128 ![0, 384] S slices_S1024x512_o0_384_S1024x128) (newMax S m))

/-- The new lane sums. -/
def newSum (S : FVec F S1024x512 .f32) (m l : FVec F S1024x128 .f32) : FVec F S1024x128 .f32 :=
  addf (mulf (alpha S m) l) (addf (addf (addf (wt0 S m) (wt1 S m)) (wt2 S m)) (wt3 S m))

/-- The weights of the whole block. -/
def wts (S : FVec F S1024x512 .f32) (m : FVec F S1024x128 .f32) : FVec F S1024x512 .bf16 :=
  truncf .bf16 (concatenate S1024x512 1 [⟨S1024x128, wt0 S m⟩, ⟨S1024x128, wt1 S m⟩, ⟨S1024x128, wt2 S m⟩, ⟨S1024x128, wt3 S m⟩]
    concatenates_S1024x128_S1024x128_S1024x128_S1024x128_S1024x512_d1) bitsLt_bf16_f32

/-- The new weighted sums of value rows. -/
def newAcc (S : FVec F S1024x512 .f32) (vb : Vec F S512x128 .bf16) (m a : FVec F S1024x128 .f32) : FVec F S1024x128 .f32 :=
  addf (mulf (alpha S m) a) (matmul dot_S1024x512_S512x128_S1024x128_1_0_0_1_n_n none (wts S m) vb (constant S1024x128 .f32 0x00000000#32))

/-- A block as a function of its scores. -/
def stepS (S : FVec F S1024x512 .f32) (vb : Vec F S512x128 .bf16) (s : St F) : St F :=
  ⟨newMax S s.m, newSum S s.m s.l, newAcc S vb s.m s.a⟩

theorem step_eq (q : FVec F S1024x128 .bf16) (kb vb : Vec F S512x128 .bf16) (s : St F) :
    step q kb vb s = stepS (k0_pay2 q kb) vb s := by
  unfold step k0_pay13 k0_pay14 k0_pay36
  dsimp only
  rw [shapeCast_self, shapeCast_self, shapeCast_self]
  rfl

theorem stepDiag_eq (q : FVec F S1024x128 .bf16) (kb vb : Vec F S512x128 .bf16) (s : St F) :
    stepDiag q kb vb s = stepS (k0_pay38 q kb) vb s := by
  unfold stepDiag k0_pay49 k0_pay50 k0_pay51
  dsimp only
  rw [shapeCast_self, shapeCast_self, shapeCast_self]
  rfl

end Generic

/-! ## At an entry, over the extended reals -/

theorem newMax_apply (S : FVec Ideal S1024x512 .f32) (m : FVec Ideal S1024x128 .f32) (r : Fin 1024) (j : Fin 128) :
    newMax S m (ix2 r j) = max (m (ix2 r j)) (Finset.univ.fold max ⊥ fun x : Fin 128 =>
      max (max (max (S (ix2 r ⟨x.val, by omega⟩)) (S (ix2 r ⟨128 + x.val, by omega⟩))) (S (ix2 r ⟨256 + x.val, by omega⟩)))
        (S (ix2 r ⟨384 + x.val, by omega⟩))) := by
  pointwise [newMax]
  rfl

theorem newSum_apply (S : FVec Ideal S1024x512 .f32) (m l : FVec Ideal S1024x128 .f32) (r : Fin 1024) (j : Fin 128) :
    newSum S m l (ix2 r j) = Ideal.exp2 (m (ix2 r j) - newMax S m (ix2 r j)) * l (ix2 r j)
      + (((Ideal.exp2 (S (ix2 r ⟨j.val, by omega⟩) - newMax S m (ix2 r j)) + Ideal.exp2 (S (ix2 r ⟨128 + j.val, by omega⟩) - newMax S m (ix2 r j)))
        + Ideal.exp2 (S (ix2 r ⟨256 + j.val, by omega⟩) - newMax S m (ix2 r j)))
        + Ideal.exp2 (S (ix2 r ⟨384 + j.val, by omega⟩) - newMax S m (ix2 r j))) := by
  pointwise [newSum, alpha, wt0, wt1, wt2, wt3]
  rfl

/-- The weight of key `c` of the block, when the maxima of the row agree. -/
theorem wts_apply (S : FVec Ideal S1024x512 .f32) (m : FVec Ideal S1024x128 .f32) (r : Fin 1024) (M : EReal)
    (hM : ∀ j, newMax S m (ix2 r j) = M) (c : Fin 512) :
    wts S m (ix2 r c) = Ideal.exp2 (S (ix2 r c) - M) := by
  pointwise [wts, wt0, wt1, wt2, wt3]
  simp only [hM]
  have hS : ∀ (n : ℕ) (h : n < 512), n = c.val → S (ix2 r ⟨n, h⟩) = S (ix2 r c) := fun n h e => by subst e; rfl
  split
  · rfl
  · split
    · rw [hS _ _ (by omega)]; rfl
    · split
      · rw [hS _ _ (by omega)]; rfl
      · rw [hS _ _ (by omega)]; rfl

theorem newAcc_apply (S : FVec Ideal S1024x512 .f32) (vb : FVec Ideal S512x128 .bf16) (m a : FVec Ideal S1024x128 .f32) (r : Fin 1024) (d : Fin 128) :
    newAcc S vb m a (ix2 r d) = Ideal.exp2 (m (ix2 r d) - newMax S m (ix2 r d)) * a (ix2 r d)
      + ∑ c : Fin 512, wts S m (ix2 r c) * vb (ix2 c d) := by
  pointwise [newAcc, alpha]
  rfl

/-! ## A row of the tables -/

open Cert.Softmax

/-- Row `r` of the tables holds the sum `T` of the weights of the keys seen and their weighted value sums `A`,
    all relative to one running maximum. -/
def Row (s : St Ideal) (r : Fin 1024) (T : ℝ) (A : Fin 128 → ℝ) (seen : Prop) : Prop :=
  ∃ (m : EReal) (W : Fin 128 → ℝ), (∀ j, s.m (ix2 r j) = m) ∧ (∀ j, Held m (s.l (ix2 r j)) (W j)) ∧ ∑ j, W j = T
    ∧ (∀ d, Held m (s.a (ix2 r d)) (A d)) ∧ (seen → m ≠ ⊥)

theorem row_start (r : Fin 1024) : Row (start : St Ideal) r 0 (fun _ => 0) False := by
  refine ⟨⊥, fun _ => 0, fun j => ?_, fun j => ?_, by simp, fun d => ?_, False.elim⟩
  · show k0_pay33 (F := Ideal) (ix2 r j) = ⊥
    pointwise [k0_pay33]; rfl
  · have : (start : St Ideal).l (ix2 r j) = 0 := by
      show k0_pay34 (F := Ideal) (ix2 r j) = 0
      pointwise [k0_pay34]
    rw [this]; exact held_init
  · have : (start : St Ideal).a (ix2 r d) = 0 := by
      show k0_pay35 (F := Ideal) (ix2 r d) = 0
      pointwise [k0_pay35]
    rw [this]; exact held_init

/-- A sum over 512 keys, as the kernel's lanes add it: four keys to a lane. -/
theorem sum_lanes (f : Fin 512 → ℝ) :
    ∑ j : Fin 128, (f ⟨j.val, by omega⟩ + f ⟨128 + j.val, by omega⟩ + f ⟨256 + j.val, by omega⟩ + f ⟨384 + j.val, by omega⟩) = ∑ c, f c := by
  have h : ∀ g : ℕ → ℝ, ∑ j ∈ Finset.range 128, (g j + g (128 + j) + g (256 + j) + g (384 + j)) = ∑ c ∈ Finset.range 512, g c := by
    intro g
    rw [show 512 = 128 + 128 + 128 + 128 from rfl, Finset.sum_range_add, Finset.sum_range_add, Finset.sum_range_add]
    simp only [Finset.sum_add_distrib]
  have e := h fun n => if hn : n < 512 then f ⟨n, hn⟩ else 0
  rw [← Fin.sum_univ_eq_sum_range (fun n => if hn : n < 512 then f ⟨n, hn⟩ else 0),
    ← Fin.sum_univ_eq_sum_range (fun j => _ + _ + _ + _)] at e
  simp only [Fin.is_lt, dite_true, Fin.eta] at e
  rw [← e]
  refine Finset.sum_congr rfl fun j _ => ?_
  rw [dif_pos (by omega), dif_pos (by omega), dif_pos (by omega), dif_pos (by omega)]

/-- A block adds its weights and weighted values to the row. -/
theorem row_step {s : St Ideal} {r : Fin 1024} {T : ℝ} {A : Fin 128 → ℝ} {p : Prop} (h : Row s r T A p)
    (S : FVec Ideal S1024x512 .f32) (vb : FVec Ideal S512x128 .bf16) (v : Fin 512 → Fin 128 → ℝ)
    (hv : ∀ c d, vb (ix2 c d) = (v c d : EReal)) (hS : ∀ c, S (ix2 r c) ≠ ⊤) (c0 : Fin 512) (hc : S (ix2 r c0) ≠ ⊥) (h128 : c0.val < 128) :
    Row (stepS S vb s) r (T + ∑ c, weight (S (ix2 r c))) (fun d => A d + ∑ c, weight (S (ix2 r c)) * v c d) True := by
  obtain ⟨m, W, hm, hl, hT, ha, -⟩ := h
  have hmt : m ≠ ⊤ := (hl 0).ne_top
  obtain ⟨M, hM⟩ : ∃ M : ℝ, ∀ j, newMax S s.m (ix2 r j) = (M : EReal) := by
    simp only [newMax_apply, hm]
    obtain ⟨M, hM⟩ := exists_coe (x := max m (Finset.univ.fold max ⊥ fun x : Fin 128 =>
      max (max (max (S (ix2 r ⟨x.val, by omega⟩)) (S (ix2 r ⟨128 + x.val, by omega⟩))) (S (ix2 r ⟨256 + x.val, by omega⟩)))
        (S (ix2 r ⟨384 + x.val, by omega⟩))))
      (max_ne_top hmt (fold_max_ne_top _ _ bot_ne_top fun i _ => max_ne_top (max_ne_top (max_ne_top (hS _) (hS _)) (hS _)) (hS _)))
      (max_ne_bot_right (fold_max_ne_bot _ _ _ (Finset.mem_univ (⟨c0.val, h128⟩ : Fin 128)) (max_ne_bot_left (max_ne_bot_left (max_ne_bot_left hc)))))
    exact ⟨M, fun _ => hM⟩
  refine ⟨(M : EReal), fun j => W j + (weight (S (ix2 r ⟨j.val, by omega⟩)) + weight (S (ix2 r ⟨128 + j.val, by omega⟩))
    + weight (S (ix2 r ⟨256 + j.val, by omega⟩)) + weight (S (ix2 r ⟨384 + j.val, by omega⟩))), hM, fun j => ?_, ?_, fun d => ?_, fun _ => EReal.coe_ne_bot M⟩
  · show Held _ (newSum S s.m s.l (ix2 r j)) _
    rw [newSum_apply, hM, hm]
    exact (hl j).step4 M (hS _) (hS _) (hS _) (hS _)
  · rw [Finset.sum_add_distrib, hT, sum_lanes fun c => weight (S (ix2 r c))]
  · show Held _ (newAcc S vb s.m s.a (ix2 r d)) _
    rw [newAcc_apply, hM, hm]
    simp only [wts_apply S s.m r M hM, hv]
    exact (ha d).stepSum M hS fun c => v c d

end Cert.DiffWalk
end
-- ==== Proof.Scores.lean ====
module

public import proofs.«01_k».proof.Proof.Block
public import Idealize.ShloMosaic.Lib.WordCmp

/-! # The scores of one block, entry by entry -/

@[expose] public section

set_option maxRecDepth 65536

noncomputable section

namespace Cert.DiffWalk

open Cert.DiffIdeal Cert.DiffIdeal.Gen
open Idealize.ShloMosaic Idealize.ShloMosaic.TcCoe Idealize.SL.Sem

theorem pay2_apply (q : FVec Ideal S1024x128 .bf16) (kb : FVec Ideal S512x128 .bf16) (r : Fin 1024) (c : Fin 512) :
    k0_pay2 q kb (ix2 r c) = ∑ k : Fin 128, q (ix2 r k) * kb (ix2 c k) := by
  pointwise [k0_pay2]

/-- The row of the stacked tables that holds query `i` under map `u`. -/
def rowOf (u : Fin 2) (i : Fin 512) : Fin 1024 := ⟨512 * u.val + i.val, by omega⟩

/-- The lane of a head's 128 that holds coordinate `e` of map `u`. -/
def lane (u : Fin 2) (e : Fin 64) : Fin 128 := ⟨64 * u.val + e.val, by omega⟩

theorem subi_512 (i : Fin 512) : IntOp.subi (BitVec.ofNat 32 (512 + i.val)) 512#32 = BitVec.ofNat 32 i.val := by
  apply BitVec.eq_of_toNat_eq
  simp [IntOp.subi, BitVec.toNat_sub]
  omega

/-- In the block that holds the queries, keys after the query are masked. -/
theorem pay38_apply (q : FVec Ideal S1024x128 .bf16) (kb : FVec Ideal S512x128 .bf16) (u : Fin 2) (i c : Fin 512) :
    k0_pay38 q kb (ix2 (rowOf u i) c) = if c.val ≤ i.val then ∑ k : Fin 128, q (ix2 (rowOf u i) k) * kb (ix2 c k) else ⊥ := by
  pointwise [k0_pay38]
  have hb : Ideal.ofBits FTy.f32 4286578688#32 = ⊥ := rfl
  rw [hb]
  fin_cases u
  · have e : (rowOf 0 i).val = i.val := by simp [rowOf]
    show Scalar.select (IntOp.cmpi .sle (BitVec.ofNat 32 c.val) (Scalar.select (IntOp.cmpi .sge (BitVec.ofNat 32 (rowOf 0 i).val) (BitVec.ofNat 32 512)) _ (BitVec.ofNat 32 (rowOf 0 i).val))) _ _ = _
    rw [e, WordCmp.cmpi_sge_ofNat (by omega) (by omega), Scalar.select_ofBool, if_neg (by simp), WordCmp.cmpi_sle_ofNat (by omega) (by omega), Scalar.select_ofBool]
    simp
  · have e : (rowOf 1 i).val = 512 + i.val := by simp [rowOf]
    show Scalar.select (IntOp.cmpi .sle (BitVec.ofNat 32 c.val) (Scalar.select (IntOp.cmpi .sge (BitVec.ofNat 32 (rowOf 1 i).val) (BitVec.ofNat 32 512)) (IntOp.subi (BitVec.ofNat 32 (rowOf 1 i).val) 512#32) _)) _ _ = _
    rw [e, WordCmp.cmpi_sge_ofNat (by omega) (by omega), Scalar.select_ofBool, if_pos (by simp), subi_512, WordCmp.cmpi_sle_ofNat (by omega) (by omega), Scalar.select_ofBool]
    simp

/-- The scale of the scores: an eighth, over the logarithm of two. -/
theorem scale_eq : (Named.named κ "scale_log2e" 0x3E38AA3B#32 : Ideal .f32) = (((8 * Real.log 2)⁻¹ : ℝ) : EReal) :=
  IdealRules.named_const.ideal_named_scalar _ _ _ _ rfl

theorem pay32_select (x : Vec Ideal S512x128 .f32) (r : Fin 1024) (c : Fin 128) :
    (k0_pay32 x (ix2 r c) : EReal) = if h : r.val < 512
      then Scalar.select (IntOp.cmpi .slt (BitVec.ofNat 32 c.val) 64#32) ((x (ix2 ⟨r.val, h⟩ c) : EReal) * (Named.named (F := Ideal) κ "scale_log2e" 0x3E38AA3B#32 : Ideal .f32)) 0
      else Scalar.select (IntOp.cmpi .sge (BitVec.ofNat 32 c.val) 64#32) ((x (ix2 ⟨r.val - 512, by omega⟩ c) : EReal) * (Named.named (F := Ideal) κ "scale_log2e" 0x3E38AA3B#32 : Ideal .f32)) 0 := by
  pointwise [k0_pay32]

/-- The stacked queries: the lanes of the row's own map, scaled; zero in the lanes of the other map. -/
theorem pay32_apply (x : Vec Ideal S512x128 .f32) (u u' : Fin 2) (i : Fin 512) (e : Fin 64) :
    k0_pay32 x (ix2 (rowOf u i) (lane u' e)) = if u' = u then x (ix2 i (lane u e)) * (((8 * Real.log 2)⁻¹ : ℝ) : EReal) else 0 := by
  rw [pay32_select, scale_eq]
  have h0 : ∀ h, (⟨(rowOf 0 i).val, h⟩ : Fin 512) = i := fun h => Fin.ext (by simp [rowOf])
  have h1 : ∀ h, (⟨(rowOf 1 i).val - 512, h⟩ : Fin 512) = i := fun h => Fin.ext (by simp [rowOf])
  have hr0 : (rowOf 0 i).val < 512 := by simp [rowOf]
  have hr1 : ¬ (rowOf 1 i).val < 512 := by simp [rowOf]
  have e64 : (64#32 : BitVec 32) = BitVec.ofNat 32 64 := rfl
  rw [e64, WordCmp.cmpi_slt_ofNat (by omega) (by omega), WordCmp.cmpi_sge_ofNat (by omega) (by omega)]
  simp only [WordCmp.select_ofBool]
  fin_cases u <;> fin_cases u'
  · simp only [Fin.zero_eta]
    rw [dif_pos hr0, h0]; simp [lane]
  · simp only [Fin.zero_eta, Fin.mk_one]
    rw [dif_pos hr0, h0]; simp [lane]
  · simp only [Fin.zero_eta, Fin.mk_one]
    rw [dif_neg hr1, h1]; simp [lane]
  · simp only [Fin.mk_one]
    rw [dif_neg hr1, h1]; simp [lane]

/-- A sum over the 128 lanes, map by map. -/
theorem sum_lane (f : Fin 128 → EReal) : ∑ k, f k = ∑ u : Fin 2, ∑ e : Fin 64, f (lane u e) := by
  rw [← Finset.sum_product', ← Equiv.sum_comp (finProdFinEquiv (m := 2) (n := 64)) f]
  refine Finset.sum_congr rfl fun p _ => congrArg f (Fin.ext ?_)
  show p.2.val + 64 * p.1.val = 64 * p.1.val + p.2.val
  omega

/-- The product of a stacked query row and a key row: the map's own 64 coordinates, scaled. -/
theorem dot_apply (x : Vec Ideal S512x128 .f32) (kb : Vec Ideal S512x128 .bf16) (X K : Fin 512 → Fin 128 → ℝ)
    (u : Fin 2) (i c : Fin 512) (hx : ∀ e, x (ix2 i (lane u e)) = (X i (lane u e) : EReal)) (hk : ∀ k, kb (ix2 c k) = (K c k : EReal)) :
    ∑ k : Fin 128, k0_pay32 x (ix2 (rowOf u i) k) * kb (ix2 c k)
      = (((∑ e : Fin 64, X i (lane u e) * K c (lane u e)) / 8 / Real.log 2 : ℝ) : EReal) := by
  rw [sum_lane]
  simp only [pay32_apply]
  rw [Finset.sum_eq_single u]
  · have : ∀ e : Fin 64, (if u = u then x (ix2 i (lane u e)) * (((8 * Real.log 2)⁻¹ : ℝ) : EReal) else 0) * kb (ix2 c (lane u e))
        = ((X i (lane u e) * K c (lane u e) * (8 * Real.log 2)⁻¹ : ℝ) : EReal) := fun e => by
      rw [if_pos rfl, hx, hk, ← EReal.coe_mul, ← EReal.coe_mul]; congr 1; ring
    rw [Finset.sum_congr rfl fun e _ => this e, ← Cert.Softmax.coe_sum, ← Finset.sum_mul]
    congr 1
    rw [div_div, div_eq_mul_inv]
  · intro b _ hb
    exact Finset.sum_eq_zero fun e _ => by rw [if_neg hb, zero_mul]
  · intro h; exact absurd (Finset.mem_univ u) h

end Cert.DiffWalk
end
-- ==== Proof.Rows.lean ====
module

public import proofs.«01_k».proof.Proof.Scores

/-! # What the tables of a grid point hold after its blocks

For real queries, keys and values, the row of query `i` and map `u` holds, after the earlier blocks
and the block of the query itself, the sum of the exponentials of the scores of the visible keys and
the sum of the values weighted by them. -/

@[expose] public section

set_option maxRecDepth 65536

noncomputable section

namespace Cert.DiffWalk

open Cert.DiffIdeal Cert.DiffIdeal.Gen Cert.Softmax
open Idealize.ShloMosaic Idealize.ShloMosaic.TcCoe Idealize.SL.Sem

theorem Row.imp {s : St Ideal} {r : Fin 1024} {T : ℝ} {A : Fin 128 → ℝ} {p p' : Prop} (h : Row s r T A p) (hp : p' → p) : Row s r T A p' := by
  obtain ⟨m, W, hm, hl, hT, ha, hs⟩ := h
  exact ⟨m, W, hm, hl, hT, ha, fun x => hs (hp x)⟩

/-- A block's row is the row of the whole. -/
theorem rows_apply (X : Vec Ideal S8192x128 .bf16) (n : ℕ) (h : n < 16) (c : Fin 512) (k : Fin 128) :
    rows X n h (ix2 c k) = X (ix2 ⟨512 * n + c.val, by omega⟩ k) := by
  refine congrArg X (funext fun a => Fin.ext ?_)
  fin_cases a
  · show 512 * n + 1 * c.val = 512 * n + c.val; omega
  · show 0 + 1 * k.val = k.val; omega

section

variable (X : Fin 512 → Fin 128 → ℝ) (K V : Fin 8192 → Fin 128 → ℝ)

/-- The score of query `i` of the tile and key `n`, in map `u`. -/
def score (u : Fin 2) (i : Fin 512) (n : Fin 8192) : ℝ := (∑ e : Fin 64, X i (lane u e) * K n (lane u e)) / 8

/-- Its exponential, by the number of the key. -/
def expo (u : Fin 2) (i : Fin 512) (n : ℕ) : ℝ := if h : n < 8192 then Real.exp (score X K u i ⟨n, h⟩) else 0

/-- The value entry, by the number of the key. -/
def value (n : ℕ) (d : Fin 128) : ℝ := if h : n < 8192 then V ⟨n, h⟩ d else 0

variable {X K V} (x : Vec Ideal S512x128 .f32) (kk vv : Vec Ideal S8192x128 .bf16)
  (hx : ∀ i k, x (ix2 i k) = (X i k : EReal)) (hk : ∀ n k, kk (ix2 n k) = (K n k : EReal)) (hv : ∀ n k, vv (ix2 n k) = (V n k : EReal))

include hx hk in
/-- The base-two score of a visible key, and its weight. -/
theorem dot_rows (u : Fin 2) (i : Fin 512) (n : ℕ) (h : n < 16) (c : Fin 512) :
    ∑ k : Fin 128, k0_pay32 x (ix2 (rowOf u i) k) * rows kk n h (ix2 c k)
      = ((score X K u i ⟨512 * n + c.val, by omega⟩ / Real.log 2 : ℝ) : EReal) :=
  dot_apply x (rows kk n h) X (fun c k => K ⟨512 * n + c.val, by omega⟩ k) u i c (fun e => hx i _) (fun k => by rw [rows_apply, hk])

theorem weight_score (u : Fin 2) (i : Fin 512) (n : ℕ) (h : n < 16) (c : Fin 512) :
    weight ((score X K u i ⟨512 * n + c.val, by omega⟩ / Real.log 2 : ℝ) : EReal) = expo X K u i (512 * n + c.val) := by
  rw [weight_scaled, expW_coe, expo, dif_pos]

include hv in
theorem value_rows (n : ℕ) (h : n < 16) (c : Fin 512) (d : Fin 128) : rows vv n h (ix2 c d) = (value V (512 * n + c.val) d : EReal) := by
  rw [rows_apply, hv, value, dif_pos]

include hx hk hv in
/-- After `n` blocks the row holds the keys before `512 n`. -/
theorem row_upto (u : Fin 2) (i : Fin 512) (n : ℕ) (hn : n ≤ 16) :
    Row (upto (k0_pay32 x) kk vv n hn) (rowOf u i) (∑ k ∈ Finset.range (512 * n), expo X K u i k)
      (fun d => ∑ k ∈ Finset.range (512 * n), expo X K u i k * value V k d) (0 < n) := by
  induction n with
  | zero => simpa [upto] using (row_start (rowOf u i)).imp (fun h : 0 < 0 => absurd h (lt_irrefl 0))
  | succ n ih =>
    have e : ∀ c, k0_pay2 (k0_pay32 x) (rows kk n hn) (ix2 (rowOf u i) c) = ((score X K u i ⟨512 * n + c.val, by omega⟩ / Real.log 2 : ℝ) : EReal) :=
      fun c => (pay2_apply _ _ _ _).trans (dot_rows x kk hx hk u i n hn c)
    have h := row_step (ih (Nat.le_of_succ_le hn)) (k0_pay2 (k0_pay32 x) (rows kk n hn)) (rows vv n hn) (fun c d => value V (512 * n + c.val) d)
      (value_rows vv hv n hn) (fun c => by rw [e]; exact EReal.coe_ne_top _) 0 (by rw [e]; exact EReal.coe_ne_bot _) (by decide)
    have w : ∀ c, weight (k0_pay2 (k0_pay32 x) (rows kk n hn) (ix2 (rowOf u i) c)) = expo X K u i (512 * n + c.val) := fun c => by
      rw [e]; exact weight_score u i n hn c
    simp only [w] at h
    rw [← step_eq] at h
    rw [Nat.mul_succ]
    simp only [Finset.sum_range_add]
    rw [Fin.sum_univ_eq_sum_range (fun c => expo X K u i (512 * n + c)) 512] at h
    have w2 : ∀ d, ∑ c : Fin 512, expo X K u i (512 * n + c.val) * value V (512 * n + c.val) d
        = ∑ c ∈ Finset.range 512, expo X K u i (512 * n + c) * value V (512 * n + c) d :=
      fun d => Fin.sum_univ_eq_sum_range (fun c => expo X K u i (512 * n + c) * value V (512 * n + c) d) 512
    simp only [w2] at h
    exact h.imp fun _ => trivial

/-- The keys up to the query, out of all keys: the earlier blocks, and the part of the query's own block. -/
theorem sum_visible (f : ℕ → ℝ) (t : ℕ) (ht : t < 16) (i : Fin 512) :
    ∑ k : Fin 8192, (if k.val ≤ 512 * t + i.val then f k.val else 0)
      = ∑ k ∈ Finset.range (512 * t), f k + ∑ c : Fin 512, (if c.val ≤ i.val then f (512 * t + c.val) else 0) := by
  rw [Fin.sum_univ_eq_sum_range (fun k => if k ≤ 512 * t + i.val then f k else 0) 8192,
    Fin.sum_univ_eq_sum_range (fun c => if c ≤ i.val then f (512 * t + c) else 0) 512,
    show 8192 = 512 * t + 512 + (8192 - 512 * t - 512) by omega, Finset.sum_range_add, Finset.sum_range_add]
  rw [Finset.sum_eq_zero (s := Finset.range (8192 - 512 * t - 512)) fun k _ => if_neg (by omega), add_zero]
  congr 1
  · exact Finset.sum_congr rfl fun k hk => if_pos (by have := Finset.mem_range.1 hk; omega)
  · refine Finset.sum_congr rfl fun k _ => ?_
    simp

include hx hk hv in
/-- After its own block the row holds the keys up to the query. -/
theorem row_diag (u : Fin 2) (i : Fin 512) (t : ℕ) (ht : t < 16) :
    Row (stepDiag (k0_pay32 x) (rows kk t ht) (rows vv t ht) (upto (k0_pay32 x) kk vv t ht.le)) (rowOf u i)
      (∑ k : Fin 8192, if k.val ≤ 512 * t + i.val then Real.exp (score X K u i k) else 0)
      (fun d => ∑ k : Fin 8192, (if k.val ≤ 512 * t + i.val then Real.exp (score X K u i k) else 0) * V k d) True := by
  have e : ∀ c : Fin 512, k0_pay38 (k0_pay32 x) (rows kk t ht) (ix2 (rowOf u i) c)
      = if c.val ≤ i.val then ((score X K u i ⟨512 * t + c.val, by omega⟩ / Real.log 2 : ℝ) : EReal) else ⊥ :=
    fun c => (pay38_apply _ _ _ _ _).trans (by rw [dot_rows x kk hx hk u i t ht c])
  have hne : ∀ c : Fin 512, k0_pay38 (k0_pay32 x) (rows kk t ht) (ix2 (rowOf u i) c) ≠ ⊤ := fun c => by
    rw [e]; split
    · exact EReal.coe_ne_top _
    · exact bot_ne_top
  have h := row_step (row_upto x kk vv hx hk hv u i t ht.le) (k0_pay38 (k0_pay32 x) (rows kk t ht)) (rows vv t ht) (fun c d => value V (512 * t + c.val) d)
      (value_rows vv hv t ht) hne 0 (by rw [e, if_pos (show (0 : Fin 512).val ≤ i.val from Nat.zero_le _)]; exact EReal.coe_ne_bot _) (by decide)
  have w : ∀ c : Fin 512, weight (k0_pay38 (k0_pay32 x) (rows kk t ht) (ix2 (rowOf u i) c)) = if c.val ≤ i.val then expo X K u i (512 * t + c.val) else 0 := fun c => by
    rw [e]; split
    · exact weight_score u i t ht c
    · exact weight_bot
  simp only [w, ite_mul, zero_mul] at h
  rw [← stepDiag_eq, ← sum_visible (fun n => expo X K u i n) t ht i] at h
  have h2 : ∀ d : Fin 128, ∑ k ∈ Finset.range (512 * t), expo X K u i k * value V k d
      + ∑ c : Fin 512, (if c.val ≤ i.val then expo X K u i (512 * t + c.val) * value V (512 * t + c.val) d else 0)
      = ∑ k : Fin 8192, (if k.val ≤ 512 * t + i.val then expo X K u i k.val * value V k.val d else 0) :=
    fun d => (sum_visible (fun n => expo X K u i n * value V n d) t ht i).symm
  simp only [h2] at h
  simpa only [expo, value, Fin.is_lt, dite_true, Fin.eta, ite_mul, zero_mul] using h

end

end Cert.DiffWalk
end
-- ==== Proof.Result.lean ====
module

public import proofs.«01_k».proof.Proof.Rows

/-! # The output block of a grid point

The block's entry for query `i` and coordinate `d` is the difference of the two maps' means of the
values, normalised by the root of its mean square, times the norm weight and the layer's constant. -/

@[expose] public section

set_option maxRecDepth 65536

noncomputable section

namespace Cert.DiffWalk

open Cert.DiffIdeal Cert.DiffIdeal.Gen Cert.Softmax
open Idealize.ShloMosaic Idealize.ShloMosaic.TcCoe Idealize.SL.Sem

/-- The weight of key `k` for the query row `x` at position `n`, in map `u`: the exponential of the score, zero after the query. -/
def keyWeight (x : Fin 128 → ℝ) (K : Fin 8192 → Fin 128 → ℝ) (n : ℕ) (u : Fin 2) (k : Fin 8192) : ℝ :=
  if k.val ≤ n then Real.exp ((∑ e : Fin 64, x (lane u e) * K k (lane u e)) / 8) else 0

/-- The mean of the values under the softmax of map `u`. -/
def mean (x : Fin 128 → ℝ) (K V : Fin 8192 → Fin 128 → ℝ) (n : ℕ) (u : Fin 2) (d : Fin 128) : ℝ :=
  (∑ k, keyWeight x K n u k * V k d) / ∑ k, keyWeight x K n u k

/-- The normalised row. -/
def normed (o : Fin 128 → ℝ) (w : EReal) (d : Fin 128) : EReal :=
  (o d : EReal) * Ideal.rsqrt (Ideal.div (∑ j : Fin 128, (o j : EReal) * (o j : EReal)) (Ideal.ofBits .f32 0x43000000#32) + Ideal.ofBits .f32 0x358637BD#32)
    * w * Ideal.ofBits .f32 0x3F4CCCCD#32

theorem keyWeight_nonneg (x : Fin 128 → ℝ) (K : Fin 8192 → Fin 128 → ℝ) (n : ℕ) (u : Fin 2) (k : Fin 8192) : 0 ≤ keyWeight x K n u k := by
  unfold keyWeight; split
  · exact (Real.exp_pos _).le
  · exact le_rfl

/-- The first key is always visible, so the weights do not sum to zero. -/
theorem keyWeight_sum (x : Fin 128 → ℝ) (K : Fin 8192 → Fin 128 → ℝ) (n : ℕ) (u : Fin 2) : ∑ k, keyWeight x K n u k ≠ 0 := by
  refine (Finset.sum_pos' (fun k _ => keyWeight_nonneg x K n u k) ⟨0, Finset.mem_univ _, ?_⟩).ne'
  rw [keyWeight, if_pos (show (0 : Fin 8192).val ≤ n from Nat.zero_le n)]
  exact Real.exp_pos _

theorem pay52_apply (a l : Vec Ideal S1024x128 .f32) (lam : Elt Ideal .f32) (i : Fin 512) (d : Fin 128) :
    (k0_pay52 a l lam (ix2 i d) : EReal) = Ideal.div (a (ix2 (rowOf 0 i) d)) (∑ j : Fin 128, l (ix2 (rowOf 0 i) j))
      - lam * Ideal.div (a (ix2 (rowOf 1 i) d)) (∑ j : Fin 128, l (ix2 (rowOf 1 i) j)) := by
  have h0 : ∀ h, (⟨i.val, h⟩ : Fin 1024) = rowOf 0 i := fun h => Fin.ext (by simp [rowOf])
  have h1 : ∀ h, (⟨512 + i.val, h⟩ : Fin 1024) = rowOf 1 i := fun h => Fin.ext (by simp [rowOf])
  pointwise [k0_pay52]
  simp only [h0, h1]

theorem pay54_apply (a l : Vec Ideal S1024x128 .f32) (lam : Elt Ideal .f32) (i : Fin 512) (d : Fin 1) :
    (k0_pay54 a l lam (ix2 i d) : EReal) = Ideal.div (∑ j : Fin 128, (k0_pay52 a l lam (ix2 i j) : EReal) * k0_pay52 a l lam (ix2 i j)) (Ideal.ofBits .f32 0x43000000#32)  := by
  pointwise [k0_pay54, k0_pay52]

theorem pay1_apply (o : FVec Ideal S512x128 .f32) (w : FVec Ideal S1x128 .f32) (ms : FVec Ideal S512x1 .f32) (eps : Ideal .f32) (i : Fin 512) (d : Fin 128) :
    (k0_pay1 o w ms eps (ix2 i d) : EReal) = o (ix2 i d) * Ideal.rsqrt (ms (ix2 i 0) + eps) * w (ix2 0 d) * Ideal.ofBits .f32 0x3F4CCCCD#32 := by
  pointwise [k0_pay1]

theorem result_apply (lam : ℝ) (w : Vec Ideal S1x128 .f32) (s : St Ideal) (i : Fin 512) (T : Fin 2 → ℝ) (A : Fin 2 → Fin 128 → ℝ)
    (h : ∀ u, Row s (rowOf u i) (T u) (A u) True) (hT : ∀ u, T u ≠ 0) (d : Fin 128) :
    (result (lam : EReal) w s (ix2 i d) : EReal) = normed (fun d => A 0 d / T 0 - lam * (A 1 d / T 1)) (w (ix2 0 d)) d := by
  have q : ∀ u d, Ideal.div (s.a (ix2 (rowOf u i) d)) (∑ j : Fin 128, s.l (ix2 (rowOf u i) j)) = ((A u d / T u : ℝ) : EReal) := fun u d => by
    obtain ⟨m, W, hm, hl, hW, ha, hs⟩ := h u
    rw [Held.quotient (hs trivial) (ha d) hl (by rw [hW]; exact hT u), hW]
  have o : ∀ d : Fin 128, (k0_pay52 (F := Ideal) s.a s.l (lam : EReal) (ix2 i d) : EReal) = ((A 0 d / T 0 - lam * (A 1 d / T 1) : ℝ) : EReal) := fun d => by
    refine (pay52_apply s.a s.l (lam : EReal) i d).trans ?_
    rw [q, q, ← EReal.coe_mul, ← EReal.coe_sub]
  have e53 : (k0_pay53 w : FVec Ideal S1x128 .f32) = w := shapeCast_self _ _
  rw [result, pay1_apply, pay54_apply, e53]
  simp only [o]
  rfl

/-- The output block of tile `t`, for real queries, keys and values. -/
theorem block_apply {X : Fin 512 → Fin 128 → ℝ} {K V : Fin 8192 → Fin 128 → ℝ} (x : Vec Ideal S512x128 .f32) (kk vv : Vec Ideal S8192x128 .bf16)
    (hx : ∀ i k, x (ix2 i k) = (X i k : EReal)) (hk : ∀ n k, kk (ix2 n k) = (K n k : EReal)) (hv : ∀ n k, vv (ix2 n k) = (V n k : EReal))
    (lam : ℝ) (w : Vec Ideal S1x128 .f32) (t : ℕ) (ht : t < 16) (i : Fin 512) (d : Fin 128) :
    (result (lam : EReal) w (stepDiag (k0_pay32 x) (rows kk t ht) (rows vv t ht) (upto (k0_pay32 x) kk vv t ht.le)) (ix2 i d) : EReal)
      = normed (fun d => mean (X i) K V (512 * t + i.val) 0 d - lam * mean (X i) K V (512 * t + i.val) 1 d) (w (ix2 0 d)) d :=
  result_apply lam w _ i (fun u => ∑ k, keyWeight (X i) K (512 * t + i.val) u k) (fun u d => ∑ k, keyWeight (X i) K (512 * t + i.val) u k * V k d)
    (fun u => row_diag x kk vv hx hk hv u i t ht) (fun u => keyWeight_sum _ _ _ u) d

end Cert.DiffWalk
end
-- ==== Proof.Spec.lean ====
module

public import proofs.«01_k».proof.Proof.Result

/-! # The layer's value

The queries, keys and values of a sequence and head are columns of the projected tokens. `answer`
is what both programs compute at an output row and column, from real tokens and a real mixing scalar. -/

@[expose] public section

noncomputable section

namespace Cert.DiffWalk

open Idealize.ShloMosaic

/-- The token row of position `n` of sequence `b`. -/
def token (b : Fin 2) (n : Fin 8192) : Fin 16640 := ⟨8192 * b.val + n.val, by omega⟩

/-- Coordinate `k` of head `h` in the column group that starts at `base`. -/
def column (base : ℕ) (hb : base ≤ 7680) (h : Fin 4) (k : Fin 128) : Fin 8192 := ⟨base + 128 * h.val + k.val, by omega⟩

/-- The rows of a column group for one sequence and head. -/
def group (P : Fin 16640 → Fin 8192 → ℝ) (base : ℕ) (hb : base ≤ 7680) (b : Fin 2) (h : Fin 4) (n : Fin 8192) (k : Fin 128) : ℝ :=
  P (token b n) (column base hb h k)

/-- The query, key and value columns of the tokens are the real numbers `P`; nothing is asked of the other columns. -/
structure Tokens (x : (⟨2, ![16640, 8192]⟩ : Shape).Idx → EReal) (P : Fin 16640 → Fin 8192 → ℝ) : Prop where
  query : ∀ b n h k, x (ix2 (token b n) (column 2048 (by decide) h k)) = (P (token b n) (column 2048 (by decide) h k) : EReal)
  key : ∀ b n h k, x (ix2 (token b n) (column 3072 (by decide) h k)) = (P (token b n) (column 3072 (by decide) h k) : EReal)
  value : ∀ b n h k, x (ix2 (token b n) (column 3584 (by decide) h k)) = (P (token b n) (column 3584 (by decide) h k) : EReal)

/-- The attention output of position `n` of sequence `b`, head `h`, before the norm. -/
def mixed (P : Fin 16640 → Fin 8192 → ℝ) (lam : ℝ) (b : Fin 2) (n : Fin 8192) (h : Fin 4) (d : Fin 128) : ℝ :=
  mean (group P 2048 (by decide) b h n) (group P 3072 (by decide) b h) (group P 3584 (by decide) b h) n.val 0 d
    - lam * mean (group P 2048 (by decide) b h n) (group P 3072 (by decide) b h) (group P 3584 (by decide) b h) n.val 1 d

/-- The output at position `n` of sequence `b`, head `h`, coordinate `d`. -/
def answer (P : Fin 16640 → Fin 8192 → ℝ) (lam : ℝ) (w : (⟨1, ![128]⟩ : Shape).Idx → EReal) (b : Fin 2) (n : Fin 8192) (h : Fin 4) (d : Fin 128) : EReal :=
  normed (mixed P lam b n h) (w (ix1 d)) d

end Cert.DiffWalk
end
-- ==== Proof.Ref.lean ====
module

public import proofs.«01_k».proof.Proof.Spec
public import proofs.«01_k».proof.Proof.Gen.DiffRefIdeal.Read

/-! # The reference computes the layer's value -/

@[expose] public section

set_option maxRecDepth 65536

noncomputable section

namespace Cert.DiffRef

open Cert.DiffRefIdeal Cert.DiffRefIdeal.Gen Cert.DiffRefIdeal.Read Cert.Softmax Cert.DiffWalk
open Idealize.ShloMosaic Idealize.ShloMosaic.TcCoe Idealize.SL.Sem

variable (x0 : (⟨S16640x8192, .f32⟩ : BufTy).Contents (Elt Ideal)) (x1 x2 x3 x4 : (⟨S64, .f32⟩ : BufTy).Contents (Elt Ideal)) (x5 : (⟨S128, .f32⟩ : BufTy).Contents (Elt Ideal))

theorem query_at (b : Fin 2) (n : Fin 8192) (h : Fin 4) (u : Fin 2) (e : Fin 64) :
    val_main_v1 (F := Ideal) x0 (ix5 b n h u e) = x0 (ix2 (token b n) (column 2048 (by decide) h (lane u e))) := by
  rw [val_main_v1_apply, val_main_v0_apply]
  refine congrArg x0 (funext fun a => Fin.ext ?_)
  have := b.isLt; have := n.isLt; have := h.isLt; have := u.isLt; have := e.isLt
  match a with
  | ⟨0, _⟩ => show ((((b.val * 8192 + n.val) * 4 + h.val) * 2 + u.val) * 64 + e.val) / 512 = 8192 * b.val + n.val; omega
  | ⟨1, _⟩ => show 2048 + ((((b.val * 8192 + n.val) * 4 + h.val) * 2 + u.val) * 64 + e.val) % 512 = 2048 + 128 * h.val + (64 * u.val + e.val); omega

theorem key_at (b : Fin 2) (n : Fin 8192) (h : Fin 4) (u : Fin 2) (e : Fin 64) :
    val_main_v3 (F := Ideal) x0 (ix5 b n h u e) = x0 (ix2 (token b n) (column 3072 (by decide) h (lane u e))) := by
  rw [val_main_v3_apply, val_main_v2_apply]
  refine congrArg x0 (funext fun a => Fin.ext ?_)
  have := b.isLt; have := n.isLt; have := h.isLt; have := u.isLt; have := e.isLt
  match a with
  | ⟨0, _⟩ => show ((((b.val * 8192 + n.val) * 4 + h.val) * 2 + u.val) * 64 + e.val) / 512 = 8192 * b.val + n.val; omega
  | ⟨1, _⟩ => show 3072 + ((((b.val * 8192 + n.val) * 4 + h.val) * 2 + u.val) * 64 + e.val) % 512 = 3072 + 128 * h.val + (64 * u.val + e.val); omega

theorem value_at (b : Fin 2) (n : Fin 8192) (h : Fin 4) (d : Fin 128) :
    val_main_v5 (F := Ideal) x0 (ix4 b n h d) = x0 (ix2 (token b n) (column 3584 (by decide) h d)) := by
  rw [val_main_v5_apply, val_main_v4_apply]
  refine congrArg x0 (funext fun a => Fin.ext ?_)
  have := b.isLt; have := n.isLt; have := h.isLt; have := d.isLt
  match a with
  | ⟨0, _⟩ => show (((b.val * 8192 + n.val) * 4 + h.val) * 128 + d.val) / 512 = 8192 * b.val + n.val; omega
  | ⟨1, _⟩ => show 3584 + (((b.val * 8192 + n.val) * 4 + h.val) * 128 + d.val) % 512 = 3584 + 128 * h.val + d.val; omega

variable {P : Fin 16640 → Fin 8192 → ℝ} (hP : Tokens x0 P) {lam : ℝ}

theorem eighth : Ideal.ofBits .f32 0x3E000000#32 = ((1 / 8 : ℝ) : EReal) := by
  simp [Ideal.ofBits, Ideal.ieee, -EReal.coe_mul]
  norm_num

/-- The score, real. -/
def sc (P : Fin 16640 → Fin 8192 → ℝ) (b : Fin 2) (h : Fin 4) (u : Fin 2) (n k : Fin 8192) : ℝ :=
  (∑ e : Fin 64, group P 2048 (by decide) b h n (lane u e) * group P 3072 (by decide) b h k (lane u e)) / 8

include hP in
theorem score_at (b : Fin 2) (h : Fin 4) (u : Fin 2) (n k : Fin 8192) :
    val_main_v17 (F := Ideal) x0 (ix5 b h u n k) = (sc P b h u n k : EReal) := by
  have e : val_main_v15 (F := Ideal) x0 (ix5 b h u n k) = ((∑ e : Fin 64, group P 2048 (by decide) b h n (lane u e) * group P 3072 (by decide) b h k (lane u e) : ℝ) : EReal) := by
    rw [val_main_v15_apply, coe_sum]
    refine Finset.sum_congr rfl fun e _ => ?_
    have l : lidx_main_v15 (ix5 b h u n k) e = ix5 b n h u e := funext fun a => by fin_cases a <;> rfl
    have r : ridx_main_v15 (ix5 b h u n k) e = ix5 b k h u e := funext fun a => by fin_cases a <;> rfl
    rw [l, r, query_at, key_at, hP.query, hP.key, ← EReal.coe_mul]
    rfl
  rw [val_main_v17_apply, e, val_main_v16_apply, val_main_cst_2_apply]
  show _ * Ideal.ofBits .f32 0x3E000000#32 = _
  rw [eighth, ← EReal.coe_mul, sc, mul_one_div]

/-- The masked score. -/
def masked (P : Fin 16640 → Fin 8192 → ℝ) (b : Fin 2) (h : Fin 4) (u : Fin 2) (n k : Fin 8192) : EReal :=
  if k.val ≤ n.val then (sc P b h u n k : EReal) else ⊥

include hP in
theorem masked_at (b : Fin 2) (h : Fin 4) (u : Fin 2) (n k : Fin 8192) :
    val_main_v23 (F := Ideal) x0 (ix5 b h u n k) = masked P b h u n k := by
  rw [val_main_v23_apply, score_at x0 hP, val_main_call0_v1_apply, val_main_v22_apply, val_main_v20_apply, val_main_v21_apply,
    val_main_v18_apply, val_main_v19_apply, val_main_v14_apply, val_main_v14_apply]
  show Scalar.select (IntOp.cmpi .sle (BitVec.ofNat 32 k.val) (BitVec.ofNat 32 n.val)) _ (Ideal.ofBits .f32 0xFF800000#32) = _
  rw [WordCmp.cmpi_sle_ofNat (by omega) (by omega), WordCmp.select_ofBool, masked]
  by_cases hk : k.val ≤ n.val
  · simp [hk]
  · simp [hk]; rfl

theorem masked_ne_top (b : Fin 2) (h : Fin 4) (u : Fin 2) (n k : Fin 8192) : masked P b h u n k ≠ ⊤ := by
  unfold masked; split
  · exact EReal.coe_ne_top _
  · exact bot_ne_top

theorem expW_masked (b : Fin 2) (h : Fin 4) (u : Fin 2) (n k : Fin 8192) :
    expW (masked P b h u n k) = keyWeight (group P 2048 (by decide) b h n) (group P 3072 (by decide) b h) n.val u k := by
  unfold masked keyWeight; split
  · rw [expW_coe]; rfl
  · exact expW_bot

include hP in
theorem max_at (b : Fin 2) (h : Fin 4) (u : Fin 2) (n : Fin 8192) : ∃ M : ℝ, val_main_v26 (F := Ideal) x0 (ix4 b h u n) = (M : EReal) := by
  have e : val_main_v24 (F := Ideal) x0 (ix4 b h u n) = Finset.univ.fold max ⊥ (fun k : Fin 8192 => masked P b h u n k) := by
    have hm := fun k => masked_at x0 hP b h u n k
    unfold val_main_v24
    generalize val_main_v23 (F := Ideal) x0 = y at hm
    pointwise [val_main_cst_4]
    simp only [hm]
    rfl
  rw [val_main_v26_apply, e]
  exact exists_coe (max_ne_top bot_ne_top (fold_max_ne_top _ _ bot_ne_top fun k _ => masked_ne_top b h u n k))
    (max_ne_bot_right (fold_max_ne_bot _ _ _ (Finset.mem_univ (0 : Fin 8192)) (by
      rw [masked, if_pos (show (0 : Fin 8192).val ≤ n.val from Nat.zero_le _)]; exact EReal.coe_ne_bot _)))

include hP in
/-- The softmax weight of a key. -/
theorem prob_at (b : Fin 2) (h : Fin 4) (u : Fin 2) (n k : Fin 8192) :
    val_main_v34 (F := Ideal) x0 (ix5 b h u n k) = ((keyWeight (group P 2048 (by decide) b h n) (group P 3072 (by decide) b h) n.val u k
      / ∑ j, keyWeight (group P 2048 (by decide) b h n) (group P 3072 (by decide) b h) n.val u j : ℝ) : EReal) := by
  obtain ⟨M, hM⟩ := max_at x0 hP b h u n
  have e30 : ∀ k, val_main_v30 (F := Ideal) x0 (ix5 b h u n k) = Ideal.exp (masked P b h u n k - (M : EReal)) := fun k => by
    rw [val_main_v30_apply, val_main_v29_apply, masked_at x0 hP, val_main_v28_apply, val_main_v27_apply]
    have : idx_main_v27 (idx_main_v28 (ix5 b h u n k)) = ix4 b h u n := funext fun a => by fin_cases a <;> rfl
    rw [this, hM]; rfl
  rw [val_main_v34_apply, val_main_v33_apply, val_main_v32_apply, val_main_v31_apply, e30]
  have : ∀ k', idx_main_v31 (idx_main_v32 (idx_main_v33 (ix5 b h u n k))) k' = ix5 b h u n k' := fun k' => funext fun a => by fin_cases a <;> rfl
  simp only [this, e30]
  have z : val_main_cst_6 (F := Ideal) (Shape.Idx.first h_S_) = (0 : EReal) := Ideal.ofBits_zero_f32
  rw [z, zero_add]
  refine (softmax_eq (s := masked P b h u n) (masked_ne_top b h u n) M ?_ k).trans ?_
  · simp only [expW_masked]; exact keyWeight_sum _ _ _ u
  · simp only [expW_masked]

/-- Dropping the map axis of the first map. -/
theorem split_0 (b : Fin 2) (h : Fin 4) (n k : Fin 8192) : idx_main_v35 (idx_main_v36 (ix4 b h n k)) = ix5 b h 0 n k := by
  funext a
  have := b.isLt; have := n.isLt; have := h.isLt; have := k.isLt
  refine Fin.ext ?_
  match a with
  | ⟨0, _⟩ => show (((b.val * 4 + h.val) * 8192 + n.val) * 8192 + k.val) / 268435456 = b.val; omega
  | ⟨1, _⟩ => show (((b.val * 4 + h.val) * 8192 + n.val) * 8192 + k.val) / 67108864 % 4 = h.val; omega
  | ⟨2, _⟩ => rfl
  | ⟨3, _⟩ => show (((b.val * 4 + h.val) * 8192 + n.val) * 8192 + k.val) / 8192 % 8192 = n.val; omega
  | ⟨4, _⟩ => show (((b.val * 4 + h.val) * 8192 + n.val) * 8192 + k.val) % 8192 = k.val; omega

/-- Dropping the map axis of the second map. -/
theorem split_1 (b : Fin 2) (h : Fin 4) (n k : Fin 8192) : idx_main_v37 (idx_main_v38 (ix4 b h n k)) = ix5 b h 1 n k := by
  funext a
  have := b.isLt; have := n.isLt; have := h.isLt; have := k.isLt
  refine Fin.ext ?_
  match a with
  | ⟨0, _⟩ => show (((b.val * 4 + h.val) * 8192 + n.val) * 8192 + k.val) / 268435456 = b.val; omega
  | ⟨1, _⟩ => show (((b.val * 4 + h.val) * 8192 + n.val) * 8192 + k.val) / 67108864 % 4 = h.val; omega
  | ⟨2, _⟩ => rfl
  | ⟨3, _⟩ => show (((b.val * 4 + h.val) * 8192 + n.val) * 8192 + k.val) / 8192 % 8192 = n.val; omega
  | ⟨4, _⟩ => show (((b.val * 4 + h.val) * 8192 + n.val) * 8192 + k.val) % 8192 = k.val; omega

variable (hl : ∀ i, val_main_v13 (F := Ideal) x1 x2 x3 x4 i = (lam : EReal))

include hP hl in
theorem mixed_at (b : Fin 2) (n : Fin 8192) (h : Fin 4) (d : Fin 128) :
    val_main_v43 (F := Ideal) x0 x1 x2 x3 x4 (ix4 b n h d) = (mixed P lam b n h d : EReal) := by
  have i43 : idx_main_v43 (ix4 b n h d) = ix4 b h d n := funext fun a => by fin_cases a <;> rfl
  rw [val_main_v43_apply, i43, val_main_v42_apply, mixed, mean, mean, ← mean_sub_mean, coe_sum]
  refine Finset.sum_congr rfl fun k _ => ?_
  have l : lidx_main_v42 (ix4 b h d n) k = ix4 b k h d := funext fun a => by fin_cases a <;> rfl
  have r : ridx_main_v42 (ix4 b h d n) k = ix4 b h n k := funext fun a => by fin_cases a <;> rfl
  have i0 : idx_main_v35 (idx_main_v36 (ix4 b h n k)) = ix5 b h 0 n k := split_0 b h n k
  have i1 : idx_main_v37 (idx_main_v38 (ix4 b h n k)) = ix5 b h 1 n k := split_1 b h n k
  rw [l, r, value_at, hP.value, val_main_v41_apply, val_main_v40_apply, val_main_v39_apply, hl, val_main_v38_apply, val_main_v37_apply,
    val_main_v36_apply, val_main_v35_apply, i0, i1, prob_at x0 hP, prob_at x0 hP]
  rw [EReal.coe_mul, EReal.coe_sub, EReal.coe_mul]
  rfl

include hP hl in
theorem answer_at (b : Fin 2) (n : Fin 8192) (h : Fin 4) (d : Fin 128) :
    val_main_v58 (F := Ideal) x0 x1 x2 x3 x4 x5 (ix4 b n h d) = answer P lam x5 b n h d := by
  have hm := mixed_at x0 x1 x2 x3 x4 hP hl b n h
  rw [val_main_v58_apply, val_main_v57_apply, val_main_v56_apply, val_main_v55_apply, val_main_v54_apply, val_main_v53_apply, val_main_v52_apply,
    val_main_v51_apply, val_main_v50_apply, val_main_v49_apply, val_main_v48_apply, val_main_v47_apply, val_main_v46_apply, val_main_v45_apply, hm]
  have i : ∀ j, idx_main_v45 (idx_main_v46 (idx_main_v52 (ix4 b n h d))) j = ix4 b n h j := fun j => funext fun a => by fin_cases a <;> rfl
  have i5 : idx_main_v54 (idx_main_v55 (ix4 b n h d)) = ix1 d := funext fun a => by fin_cases a; rfl
  simp only [i, val_main_v44_apply, hm, i5]
  have z : val_main_cst_7 (F := Ideal) (Shape.Idx.first h_S_) = (0 : EReal) := Ideal.ofBits_zero_f32
  rw [z, zero_add]
  rfl

end Cert.DiffRef
end
-- ==== Proof.Windows.lean ====
module

public import proofs.«01_k».proof.Proof.Ref
public import proofs.«01_k».proof.Proof.Gen.DiffIdeal.Value
public import Idealize.ShloMosaic.Lib.Pipeline.ValueKit
public import Idealize.ShloMosaic.Lib.Claim

/-! # The blocks of a grid point, as entries of the arguments -/

@[expose] public section

set_option maxRecDepth 65536

noncomputable section

namespace Cert.DiffWalk

open Cert.DiffIdeal Cert.DiffIdeal.Gen
open Idealize.ShloMosaic Idealize.ShloMosaic.TcCoe Idealize.SL.Sem

/-- Grid point `t` is sequence `t / 64`, head `t / 16 % 4`, query tile `t % 16`; the blocks its windows take. -/
theorem places : ∀ t : Fin cfg0.N, ((grid0.coords t 0).val = t.val / 64 ∧ (grid0.coords t 1).val = t.val / 16 % 4 ∧ (grid0.coords t 2).val = t.val % 16)
    ∧ (win0_0.index t 0 = 0) ∧ (win0_1.index t 0 = t.val / 64 * 16 + t.val % 16 ∧ win0_1.index t 1 = 16 + t.val / 16 % 4)
    ∧ (win0_2.index t 0 = t.val / 64 ∧ win0_2.index t 1 = 24 + t.val / 16 % 4)
    ∧ (win0_3.index t 0 = t.val / 64 ∧ win0_3.index t 1 = 28 + t.val / 16 % 4)
    ∧ (win0_4.index t 0 = 0 ∧ win0_4.index t 1 = 0)
    ∧ (win0_5.index t 0 = t.val / 64 * 16 + t.val % 16 ∧ win0_5.index t 1 = t.val / 16 % 4) :=
  (by decide +kernel : ∀ t : Fin grid0.N, _)

variable (m : (ℓ : Loc nD τ sig) → Buf (Elt Ideal) ℓ)

theorem points : cfg0.N = 128 := N_0

/-- The sequence, head and tile of a grid point. -/
def seqOf (t : Fin cfg0.N) : Fin 2 := ⟨t.val / 64, by have := lt_of_lt_of_eq t.isLt points; omega⟩
def headOf (t : Fin cfg0.N) : Fin 4 := ⟨t.val / 16 % 4, by omega⟩
/-- Query `i` of the tile, as a position. -/
def posOf (t : Fin cfg0.N) (i : Fin 512) : Fin 8192 := ⟨512 * (t.val % 16) + i.val, by omega⟩

theorem query_block (c : Dev nD) (t : Fin cfg0.N) (i : Fin 512) (k : Fin 128) :
    X0_1 m c t (ix2 i k) = m ((c : Thread nD τ).loc main_arg0) (ix2 (token (seqOf t) (posOf t i)) (column 2048 (by decide) (headOf t) k)) := by
  have hp := places t
  unfold X0_1 Pipeline.Window.fill
  rw [dif_pos (moved0_1 t _)]
  unfold iblk
  rw [← V_main_arg0 m c]
  refine congrArg (V m c main_arg0) (funext fun a => Fin.ext ?_)
  match a with
  | ⟨0, _⟩ =>
    show win0_1.index t 0 * 512 + 1 * i.val = 8192 * (t.val / 64) + (512 * (t.val % 16) + i.val)
    omega
  | ⟨1, _⟩ =>
    show win0_1.index t 1 * 128 + 1 * k.val = 2048 + 128 * (t.val / 16 % 4) + k.val
    omega

theorem key_block (c : Dev nD) (t : Fin cfg0.N) (n : Fin 8192) (k : Fin 128) :
    X0_2 m c t (ix2 n k) = m ((c : Thread nD τ).loc main_arg0) (ix2 (token (seqOf t) n) (column 3072 (by decide) (headOf t) k)) := by
  have hp := places t
  unfold X0_2 Pipeline.Window.fill
  rw [dif_pos (moved0_2 t _)]
  unfold iblk
  rw [← V_main_arg0 m c]
  refine congrArg (V m c main_arg0) (funext fun a => Fin.ext ?_)
  match a with
  | ⟨0, _⟩ =>
    show win0_2.index t 0 * 8192 + 1 * n.val = 8192 * (t.val / 64) + n.val
    omega
  | ⟨1, _⟩ =>
    show win0_2.index t 1 * 128 + 1 * k.val = 3072 + 128 * (t.val / 16 % 4) + k.val
    omega

theorem value_block (c : Dev nD) (t : Fin cfg0.N) (n : Fin 8192) (k : Fin 128) :
    X0_3 m c t (ix2 n k) = m ((c : Thread nD τ).loc main_arg0) (ix2 (token (seqOf t) n) (column 3584 (by decide) (headOf t) k)) := by
  have hp := places t
  unfold X0_3 Pipeline.Window.fill
  rw [dif_pos (moved0_3 t _)]
  unfold iblk
  rw [← V_main_arg0 m c]
  refine congrArg (V m c main_arg0) (funext fun a => Fin.ext ?_)
  match a with
  | ⟨0, _⟩ =>
    show win0_3.index t 0 * 8192 + 1 * n.val = 8192 * (t.val / 64) + n.val
    omega
  | ⟨1, _⟩ =>
    show win0_3.index t 1 * 128 + 1 * k.val = 3584 + 128 * (t.val / 16 % 4) + k.val
    omega

theorem norm_block (c : Dev nD) (t : Fin cfg0.N) (d : Fin 128) :
    iblk m c 4 t (ix2 0 d) = m ((c : Thread nD τ).loc main_arg5) (ix1 d) := by
  have hp := places t
  unfold iblk
  entry_read
  refine shapeCast_apply _ shapeCasts_S128_S1x128 _ (ix1 d) ?_
  rw [Shape.rowMajor_val_one, Shape.rowMajor_val_two]
  show d.val = (win0_4.index t 0 * 1 + 1 * 0) * 128 + (win0_4.index t 1 * 128 + 1 * d.val)
  omega

theorem lam_block (c : Dev nD) (t : Fin cfg0.N) (i : S_.Idx) :
    iblk m c 0 t (ix1 0) = Cert.DiffRefIdeal.Read.val_main_v13 (F := Ideal) (m ((c : Thread nD τ).loc main_arg1)) (m ((c : Thread nD τ).loc main_arg2))
      (m ((c : Thread nD τ).loc main_arg3)) (m ((c : Thread nD τ).loc main_arg4)) i := by
  unfold iblk
  entry_read
  exact congrArg (Cert.DiffRefIdeal.Read.val_main_v13 (F := Ideal) (m ((c : Thread nD τ).loc main_arg1)) (m ((c : Thread nD τ).loc main_arg2))
      (m ((c : Thread nD τ).loc main_arg3)) (m ((c : Thread nD τ).loc main_arg4))) (funext fun a => a.elim0)

end Cert.DiffWalk
end
-- ==== Proof.Carried.lean ====
module

public import proofs.«01_k».proof.Proof.Windows

/-! # The carried tables of keys and values, and what a grid point writes back -/

@[expose] public section

set_option maxRecDepth 65536

noncomputable section

namespace Cert.DiffWalk

open Cert.DiffIdeal Cert.DiffIdeal.Gen Cert.DiffIdeal.Value
open Idealize.ShloMosaic Idealize.ShloMosaic.TcCoe Idealize.SL.Sem

/-! ## What the first tile of a head keeps -/

theorem keys_kept (x : Vec Ideal S8192x128 .f32) : (k0_pay30 (F := Ideal) x : S8192x128.Idx → EReal) = x := by
  unfold k0_pay30
  exact shapeCast_self _ _

theorem values_kept (x : Vec Ideal S8192x128 .f32) : (k0_pay31 (F := Ideal) x : S8192x128.Idx → EReal) = x := by
  unfold k0_pay31
  exact shapeCast_self _ _

section First

variable {F : FTy → Type} [FloatOps F] [Named F]

variable (c : Dev nD) (i : grid0.Coords) (arg3 : Memref sig .tc .smem S1 .f32) (harg3 : arg3.IsWhole) (arg4 : Memref sig .tc .vmem S512x128 .f32) (harg4 : arg4.IsWhole) (arg5 : Memref sig .tc .vmem S8192x128 .f32) (harg5 : arg5.IsWhole) (arg6 : Memref sig .tc .vmem S8192x128 .f32) (harg6 : arg6.IsWhole) (arg7 : Memref sig .tc .vmem S1x128 .f32) (harg7 : arg7.IsWhole) (arg8 : Memref sig .tc .vmem S512x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole)

theorem first_keys (hc0 : cond0_0 i) (x0 : Vec F S1 .f32) (x1 : Vec F S512x128 .f32) (x2 x3 : Vec F S8192x128 .f32)
    (x4 : Vec F S1x128 .f32) : sout0_A_0 c i arg3 harg3 arg4 harg4 arg5 harg5 arg6 harg6 arg7 harg7 arg8 harg8 arg9 harg9 arg10 harg10 arg11 harg11 arg12 harg12 arg13 harg13 hc0 x0 x1 x2 x3 x4 = k0_pay30 x2 := by
  unfold sout0_A_0 kernelRun0_A
  dsimp only
  unfold kernelRun0_A.sl.HS0_1
  rw [View.read_writes_full, View.readAt_full, harg5.read_unread]

theorem first_values (hc0 : cond0_0 i) (x0 : Vec F S1 .f32) (x1 : Vec F S512x128 .f32) (x2 x3 : Vec F S8192x128 .f32)
    (x4 : Vec F S1x128 .f32) : sout0_A_1 c i arg3 harg3 arg4 harg4 arg5 harg5 arg6 harg6 arg7 harg7 arg8 harg8 arg9 harg9 arg10 harg10 arg11 harg11 arg12 harg12 arg13 harg13 hc0 x0 x1 x2 x3 x4 = k0_pay31 x3 := by
  unfold sout0_A_1 kernelRun0_A
  dsimp only
  unfold kernelRun0_A.sl.HS1_1
  rw [View.read_writes_full, View.readAt_full, harg6.read_unread]

end First

/-! ## The tables at every point -/

variable (m : (ℓ : Loc nD τ sig) → Buf (Elt Ideal) ℓ)

/-- The two tables after a first tile. -/
theorem kept_first (c : Dev nD) (t : Fin cfg0.N) (h0 : t.val % 16 = 0) :
    ((outsAt0 m c t.val t.isLt).2.1 : S8192x128.Idx → EReal) = X0_2 m c t ∧ ((outsAt0 m c t.val t.isLt).2.2 : S8192x128.Idx → EReal) = X0_3 m c t := by
  rw [outsAt0_A m c t h0]
  dsimp only
  exact ⟨(first_keys ..).trans (keys_kept _), (first_values ..).trans (values_kept _)⟩

/-- A later tile leaves the tables as they were. -/
theorem kept_later (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  rfl

/-- The tables hold the key and value rows of the point's sequence and head. -/
theorem carried (c : Dev nD) (n : ℕ) (h : n < cfg0.N) :
    (∀ r k, (outsAt0 m c n h).2.1 (ix2 r k) = m ((c : Thread nD τ).loc main_arg0) (ix2 (token (seqOf ⟨n, h⟩) r) (column 3072 (by decide) (headOf ⟨n, h⟩) k)))
    ∧ (∀ r k, (outsAt0 m c n h).2.2 (ix2 r k) = m ((c : Thread nD τ).loc main_arg0) (ix2 (token (seqOf ⟨n, h⟩) r) (column 3584 (by decide) (headOf ⟨n, h⟩) k))) := by
  induction n with
  | zero =>
    obtain ⟨hk, hv⟩ := kept_first m c ⟨0, h⟩ rfl
    exact ⟨fun r k => (congrFun hk (ix2 r k)).trans (key_block m c ⟨0, h⟩ r k), fun r k => (congrFun hv (ix2 r k)).trans (value_block m c ⟨0, h⟩ r k)⟩
  | succ n ih =>
    by_cases h0 : (n + 1) % 16 = 0
    · obtain ⟨hk, hv⟩ := kept_first m c ⟨n + 1, h⟩ h0
      exact ⟨fun r k => (congrFun hk (ix2 r k)).trans (key_block m c ⟨n + 1, h⟩ r k), fun r k => (congrFun hv (ix2 r k)).trans (value_block m c ⟨n + 1, h⟩ r k)⟩
    · have hs : seqOf ⟨n + 1, h⟩ = seqOf ⟨n, (Nat.lt_succ_self n).trans h⟩ := Fin.ext (by show (n + 1) / 64 = n / 64; omega)
      have hh : headOf ⟨n + 1, h⟩ = headOf ⟨n, (Nat.lt_succ_self n).trans h⟩ := Fin.ext (by show (n + 1) / 16 % 4 = n / 16 % 4; omega)
      have e := kept_later m c ⟨n + 1, h⟩ h0
      dsimp only [Nat.add_sub_cancel] at e
      rw [e, hs, hh]
      exact ih ((Nat.lt_succ_self n).trans h)

/-! ## The block a point writes back -/

/-- The lambda of the layer, as the reference's host code computes it. -/
abbrev lamRef (c : Dev nD) (i : S_.Idx) : EReal :=
  Cert.DiffRefIdeal.Read.val_main_v13 (F := Ideal) (m ((c : Thread nD τ).loc main_arg1)) (m ((c : Thread nD τ).loc main_arg2))
    (m ((c : Thread nD τ).loc main_arg3)) (m ((c : Thread nD τ).loc main_arg4)) i

theorem written (c : Dev nD) (P : Fin 16640 → Fin 8192 → ℝ) (lam : ℝ) (hP : Tokens (m ((c : Thread nD τ).loc main_arg0)) P)
    (hl : ∀ i, lamRef m c i = (lam : EReal)) (t : Fin cfg0.N) (i : Fin 512) (d : Fin 128) :
    (dats m 0 c).flushed 5 t (ix2 i d) = answer P lam (m ((c : Thread nD τ).loc main_arg5)) (seqOf t) (posOf t i) (headOf t) d := by
  have hp := (places t).1.2.2
  have ht : t.val % 16 < 16 := Nat.mod_lt _ (by decide)
  have hq : ∀ i k, X0_1 m c t (ix2 i k) = ((group P 2048 (by decide) (seqOf t) (headOf t) (posOf t i) k : ℝ) : EReal) :=
    fun i k => (query_block m c t i k).trans (hP.query ..)
  have hlam : iblk m c 0 t (ix1 0) = (lam : EReal) := (lam_block m c t ix0).trans (hl _)
  have hw : iblk m c 4 t (ix2 0 d) = m ((c : Thread nD τ).loc main_arg5) (ix1 d) := norm_block m c t d
  by_cases h0 : t.val % 16 = 0
  · rw [flushed5_A m c t h0]
    have hk : ∀ n k, (k0_pay30 (F := Ideal) (X0_2 m c t)) (ix2 n k) = ((group P 3072 (by decide) (seqOf t) (headOf t) n k : ℝ) : EReal) :=
      fun n k => (congrFun (keys_kept _) (ix2 n k)).trans ((key_block m c t n k).trans (hP.key ..))
    have hv : ∀ n k, (k0_pay31 (F := Ideal) (X0_3 m c t)) (ix2 n k) = ((group P 3584 (by decide) (seqOf t) (headOf t) n k : ℝ) : EReal) :=
      fun n k => (congrFun (values_kept _) (ix2 n k)).trans ((value_block m c t n k).trans (hP.value ..))
    have e := congrFun (point_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (X0_1 m c t) (X0_2 m c t) (X0_3 m c t) (iblk m c 4 t) (t.val % 16) hp ht) (ix2 i d)
    refine Eq.trans e ?_
    rw [hlam]
    refine (block_apply _ _ _ hq hk hv lam (iblk m c 4 t) (t.val % 16) ht i d).trans ?_
    rw [hw]
    rfl
  · rw [flushed5_B m c t h0]
    have hlt : t.val - 1 < cfg0.N := Nat.lt_of_le_of_lt (Nat.sub_le _ _) t.isLt
    have hs : seqOf ⟨t.val - 1, hlt⟩ = seqOf t := Fin.ext (by show (t.val - 1) / 64 = t.val / 64; omega)
    have hh : headOf ⟨t.val - 1, hlt⟩ = headOf t := Fin.ext (by show (t.val - 1) / 16 % 4 = t.val / 16 % 4; omega)
    obtain ⟨ck, cv⟩ := carried m c (t.val - 1) hlt
    rw [hs, hh] at ck cv
    have e := congrFun (point_later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (X0_1 m c t) (X0_2 m c t) (X0_3 m c t) (iblk m c 4 t) (outsAt0 m c (t.val - 1) hlt).2.1 (outsAt0 m c (t.val - 1) hlt).2.2 (t.val % 16) hp ht) (ix2 i d)
    refine Eq.trans e ?_
    rw [hlam]
    refine (block_apply _ _ _ hq (fun n k => (ck n k).trans (hP.key ..)) (fun n k => (cv n k).trans (hP.value ..)) lam (iblk m c 4 t) (t.val % 16) ht i d).trans ?_
    rw [hw]
    rfl

end Cert.DiffWalk
end
-- ==== Proof.Final.lean ====
module

public import proofs.«01_k».proof.Proof.Carried

/-! # The two result arrays

The written blocks tile the kernel's result, so it is `answer` at every row and column; the reference's last
reshape puts `answer` at the same places. -/

@[expose] public section

set_option maxRecDepth 65536

noncomputable section

namespace Cert.DiffWalk

open Cert.DiffIdeal Cert.DiffIdeal.Gen Cert.DiffIdeal.Value
open Idealize.ShloMosaic Idealize.ShloMosaic.TcCoe Idealize.SL.Sem

variable (m : (ℓ : Loc nD τ sig) → Buf (Elt Ideal) ℓ)

/-- Row `8192 b + n`, column `128 h + d` of the result holds `answer` at `b, n, h, d`. -/
def table (P : Fin 16640 → Fin 8192 → ℝ) (lam : ℝ) (w : S128.Idx → EReal) (i : S16384x512.Idx) : EReal :=
  answer P lam w ⟨(i 0).val / 8192, by have h : (i 0).val < 16384 := (i 0).isLt; omega⟩ ⟨(i 0).val % 8192, by omega⟩
    ⟨(i 1).val / 128, by have h : (i 1).val < 512 := (i 1).isLt; omega⟩ ⟨(i 1).val % 128, by omega⟩

/-- The block of point `t` is 512 rows and 128 columns. -/
theorem mem_block (t : Fin cfg0.N) (i : S16384x512.Idx) : i ∈ ((cfg0.win 5).blk t).view.set ↔
    ((t.val / 64 * 16 + t.val % 16) * 512 ≤ (i 0).val ∧ (i 0).val < (t.val / 64 * 16 + t.val % 16) * 512 + 512)
    ∧ (t.val / 16 % 4 * 128 ≤ (i 1).val ∧ (i 1).val < t.val / 16 % 4 * 128 + 128) := by
  have hp := (places t).2.2.2.2.2.2
  show i ∈ ((View.whole main_v10).slice (win0_5.rect t)).set ↔ _
  rw [View.set_slice_whole, Rect.mem_set_unit, ← hp.1, ← hp.2]
  exact ⟨fun h => ⟨h 0, h 1⟩, fun h a => match a with
    | ⟨0, _⟩ => h.1
    | ⟨1, _⟩ => h.2⟩

/-- Every entry of the result is in some point's block. -/
theorem covered (i : S16384x512.Idx) : ∃ t : Fin cfg0.N, (cfg0.win 5).flush t = true ∧ i ∈ ((cfg0.win 5).blk t).view.set := by
  have h0 : (i 0).val < 16384 := (i 0).isLt
  have h1 : (i 1).val < 512 := (i 1).isLt
  refine ⟨⟨(i 0).val / 8192 * 64 + (i 1).val / 128 * 16 + (i 0).val % 8192 / 512, by rw [points]; omega⟩, flush0_5 _, ?_⟩
  rw [mem_block]
  dsimp only
  omega

/-- The kernel's result array. -/
theorem kernel_table (c : Dev nD) (P : Fin 16640 → Fin 8192 → ℝ) (lam : ℝ) (hP : Tokens (m ((c : Thread nD τ).loc main_arg0)) P)
    (hl : ∀ i, lamRef m c i = (lam : EReal)) :
    (dats m 0 c).arrAt 5 cfg0.N = table P lam (m ((c : Thread nD τ).loc main_arg5)) := by
  refine (dats m 0 c).arrAt_eq_of_cover 5 _ (fun t _ => ?_) covered
  have hp := (places t).2.2.2.2.2.2
  have hN := lt_of_lt_of_eq t.isLt points
  have key : ∀ (i : Fin 512) (d : Fin 128), (dats m 0 c).flushed 5 t (ix2 i d)
      = ((cfg0.win 5).blk t).view.read (Elt Ideal) (table P lam (m ((c : Thread nD τ).loc main_arg5))) (ix2 i d) := by
    intro i d
    refine (written m c P lam hP hl t i d).trans ?_
    show _ = answer P lam _ ⟨(win0_5.index t 0 * 512 + 1 * i.val) / 8192, _⟩ ⟨(win0_5.index t 0 * 512 + 1 * i.val) % 8192, _⟩
      ⟨(win0_5.index t 1 * 128 + 1 * d.val) / 128, _⟩ ⟨(win0_5.index t 1 * 128 + 1 * d.val) % 128, _⟩
    congr 1
    · exact Fin.ext (by show t.val / 64 = _; dsimp only; omega)
    · exact Fin.ext (by show 512 * (t.val % 16) + i.val = _; dsimp only; omega)
    · exact Fin.ext (by show t.val / 16 % 4 = _; dsimp only; omega)
    · exact Fin.ext (by show d.val = _; dsimp only; omega)
  funext j
  have e : j = ix2 (j 0) (j 1) := eq_ix2 j
  rw [e]
  exact key (j 0) (j 1)

/-- The reference's result array. -/
theorem reference_table (x0 : S16640x8192.Idx → EReal) (x1 x2 x3 x4 : S64.Idx → EReal) (x5 : S128.Idx → EReal)
    (P : Fin 16640 → Fin 8192 → ℝ) (lam : ℝ) (hP : Tokens x0 P)
    (hl : ∀ i, Cert.DiffRefIdeal.Read.val_main_v13 (F := Ideal) x1 x2 x3 x4 i = (lam : EReal)) :
    Cert.DiffRefIdeal.Read.val_main_v60 (F := Ideal) x0 x1 x2 x3 x4 x5 = table P lam x5 := by
  funext i
  have h0 : (i 0).val < 16384 := (i 0).isLt
  have h1 : (i 1).val < 512 := (i 1).isLt
  rw [Cert.DiffRefIdeal.Read.val_main_v60_apply, Cert.DiffRefIdeal.Read.val_main_v59_apply]
  refine Eq.trans ?_ (Cert.DiffRef.answer_at x0 x1 x2 x3 x4 x5 hP hl _ _ _ _)
  refine congrArg (Cert.DiffRefIdeal.Read.val_main_v58 (F := Ideal) x0 x1 x2 x3 x4 x5) (funext fun a => Fin.ext ?_)
  match a with
  | ⟨0, _⟩ => show ((i 0).val * 512 + (i 1).val) / 4194304 = (i 0).val / 8192; omega
  | ⟨1, _⟩ => show ((i 0).val * 512 + (i 1).val) / 512 % 8192 = (i 0).val % 8192; omega
  | ⟨2, _⟩ => show ((i 0).val * 512 + (i 1).val) / 128 % 4 = (i 1).val / 128; omega
  | ⟨3, _⟩ => show ((i 0).val * 512 + (i 1).val) % 128 = (i 1).val % 128; omega

end Cert.DiffWalk
end
-- ==== Proof.Finite.lean ====
module

public import proofs.«01_k».proof.Proof.Final
public import proofs.«01_k».proof.Proof.Gen.Pre_diff_finite
public import Idealize.ShloMosaic.Lib.ReduceAll

/-! # What the precondition gives

The query, key and value columns and the four lambda vectors are real numbers, and so is the mixing scalar. -/

@[expose] public section

set_option maxRecDepth 65536

noncomputable section

namespace Cert.DiffWalk

open Idealize.ShloMosaic

/-- A number below +∞ in absolute value is real. -/
theorem real_of_below (x : EReal) (h : Ideal.cmp .olt (max x (-x)) (Ideal.ofBits .f32 0x7F800000#32) = 1#1) : x = (x.toReal : EReal) := by
  have top : Ideal.ofBits .f32 0x7F800000#32 = ⊤ := by simp [Ideal.ofBits, Ideal.ieee]
  rw [top] at h
  refine (EReal.coe_toReal ?_ ?_).symm
  · rintro rfl
    simp [Ideal.cmp] at h
  · rintro rfl
    simp [Ideal.cmp] at h

/-- Two bits whose conjunction is set are set. -/
theorem both (a b : BitVec 1) (h : IntOp.andi a b = 1#1) : a = 1#1 ∧ b = 1#1 := by
  revert a b; decide

open Cert.Pre_diff_finite Cert.Pre_diff_finite.Facts in
/-- The precondition, read entry by entry. -/
theorem entries_real [Cert.Pre_diff_finite.Facts] (x0 : S16640x8192.Idx → EReal) (x1 x2 x3 x4 : S64.Idx → EReal) (x5 : S128.Idx → EReal)
    (h : Cert.Pre_diff_finite.fn (F := Ideal) x0 x1 x2 x3 x4 x5 = fun _ => 1#1) :
    Tokens x0 (fun r q => (x0 (ix2 r q)).toReal) ∧ (∀ j, x1 j = ((x1 j).toReal : EReal)) ∧ (∀ j, x2 j = ((x2 j).toReal : EReal))
      ∧ (∀ j, x3 j = ((x3 j).toReal : EReal)) ∧ (∀ j, x4 j = ((x4 j).toReal : EReal)) := by
  haveI : Subsingleton S_.Idx := ⟨fun a b => funext fun d => d.elim0⟩
  have e := congrFun h ix0
  unfold Cert.Pre_diff_finite.fn Cert.Pre_diff_finite.fn_part1 at e
  obtain ⟨e, e4⟩ := both _ _ e
  obtain ⟨e, e3⟩ := both _ _ e
  obtain ⟨e, e2⟩ := both _ _ e
  obtain ⟨e, e1⟩ := both _ _ e
  obtain ⟨eq, ek⟩ := both _ _ e
  have q := Host.reduce_andi_all _ _ _ _ _ eq
  have k := Host.reduce_andi_all _ _ _ _ _ ek
  refine ⟨⟨fun b n h d => ?_, fun b n h d => ?_, fun b n h d => ?_⟩, fun j => real_of_below _ (Host.reduce_andi_all _ _ _ _ _ e1 j),
    fun j => real_of_below _ (Host.reduce_andi_all _ _ _ _ _ e2 j), fun j => real_of_below _ (Host.reduce_andi_all _ _ _ _ _ e3 j),
    fun j => real_of_below _ (Host.reduce_andi_all _ _ _ _ _ e4 j)⟩
  · refine real_of_below _ (Eq.trans ?_ (q (ix2 ⟨8192 * b.val + n.val, by omega⟩ ⟨128 * h.val + d.val, by omega⟩)))
    refine congrArg (fun i => Ideal.cmp .olt (max (x0 i) (-(x0 i))) (Ideal.ofBits .f32 0x7F800000#32)) (funext fun a => Fin.ext ?_)
    match a with
    | ⟨0, _⟩ => show 8192 * b.val + n.val = 0 + (8192 * b.val + n.val); omega
    | ⟨1, _⟩ => show 2048 + 128 * h.val + d.val = 2048 + (128 * h.val + d.val); omega
  · refine real_of_below _ (Eq.trans ?_ (k (ix2 ⟨8192 * b.val + n.val, by omega⟩ ⟨128 * h.val + d.val, by omega⟩)))
    refine congrArg (fun i => Ideal.cmp .olt (max (x0 i) (-(x0 i))) (Ideal.ofBits .f32 0x7F800000#32)) (funext fun a => Fin.ext ?_)
    match a with
    | ⟨0, _⟩ => show 8192 * b.val + n.val = 0 + (8192 * b.val + n.val); omega
    | ⟨1, _⟩ => show 3072 + 128 * h.val + d.val = 3072 + (128 * h.val + d.val); omega
  · refine real_of_below _ (Eq.trans ?_ (k (ix2 ⟨8192 * b.val + n.val, by omega⟩ ⟨512 + 128 * h.val + d.val, by omega⟩)))
    refine congrArg (fun i => Ideal.cmp .olt (max (x0 i) (-(x0 i))) (Ideal.ofBits .f32 0x7F800000#32)) (funext fun a => Fin.ext ?_)
    match a with
    | ⟨0, _⟩ => show 8192 * b.val + n.val = 0 + (8192 * b.val + n.val); omega
    | ⟨1, _⟩ => show 3584 + 128 * h.val + d.val = 3072 + (512 + 128 * h.val + d.val); omega

open Cert.DiffRefIdeal Cert.DiffRefIdeal.Facts Cert.DiffRefIdeal.Gen Cert.DiffRefIdeal.Read in
/-- Of real vectors the mixing scalar is real. -/
theorem lam_real (x1 x2 x3 x4 : S64.Idx → EReal) (h1 : ∀ j, x1 j = ((x1 j).toReal : EReal)) (h2 : ∀ j, x2 j = ((x2 j).toReal : EReal))
    (h3 : ∀ j, x3 j = ((x3 j).toReal : EReal)) (h4 : ∀ j, x4 j = ((x4 j).toReal : EReal)) :
    ∃ lam : ℝ, ∀ i, val_main_v13 (F := Ideal) x1 x2 x3 x4 i = (lam : EReal) := by
  refine ⟨Real.exp (∑ j, (x1 j).toReal * (x2 j).toReal) - Real.exp (∑ j, (x3 j).toReal * (x4 j).toReal) + 13421773 / 67108864, fun i => ?_⟩
  have z : val_main_cst (F := Ideal) (Shape.Idx.first h_S_) = (0 : EReal) := Ideal.ofBits_zero_f32
  have z' : val_main_cst_0 (F := Ideal) (Shape.Idx.first h_S_) = (0 : EReal) := Ideal.ofBits_zero_f32
  have lit : val_main_cst_1 (F := Ideal) i = ((13421773 / 67108864 : ℝ) : EReal) := by
    show Ideal.ofBits .f32 0x3E4CCCCD#32 = _
    simp [Ideal.ofBits, Ideal.ieee, -EReal.coe_mul]
    norm_num
  have s (x y : S64.Idx → EReal) (hx : ∀ j, x j = ((x j).toReal : EReal)) (hy : ∀ j, y j = ((y j).toReal : EReal)) :
      ∑ j, x j * y j = ((∑ j, (x j).toReal * (y j).toReal : ℝ) : EReal) := by
    rw [Cert.Softmax.coe_sum]
    refine Finset.sum_congr rfl fun j _ => ?_
    rw [EReal.coe_mul, ← hx, ← hy]
  have a : val_main_v7 (F := Ideal) x1 x2 i = ((∑ j, (x1 j).toReal * (x2 j).toReal : ℝ) : EReal) := by
    rw [val_main_v7_apply, z, zero_add]; exact s x1 x2 h1 h2
  have b : val_main_v10 (F := Ideal) x3 x4 i = ((∑ j, (x3 j).toReal * (x4 j).toReal : ℝ) : EReal) := by
    rw [val_main_v10_apply, z', zero_add]; exact s x3 x4 h3 h4
  rw [val_main_v13_apply, val_main_v12_apply, val_main_v8_apply, val_main_v11_apply, a, b, lit]
  simp only [Ideal.addf_def, Ideal.subf_def, Ideal.hostUnary_exp_def]
  rw [Ideal.exp_coe, Ideal.exp_coe, ← EReal.coe_sub, ← EReal.coe_add]

end Cert.DiffWalk
end
-- ==== Proof.FfnMath.lean ====
module

public import Idealize.ShloMosaic.Lib.Pointwise

/-! # Rows of a feed-forward

What a feed-forward does to one token: its normalised row, and one gated hidden entry of it. -/

@[expose] public section

noncomputable section

namespace Cert.FfnWalk

open Idealize.ShloMosaic

/-- A normalised row: the row over the root of its mean square, times the weights. -/
def normed (x w : Fin 1024 → EReal) (k : Fin 1024) : EReal :=
  x k * Ideal.rsqrt (Ideal.div (∑ j, x j * x j) (Ideal.ofBits .f32 0x44800000#32) + Ideal.ofBits .f32 0x358637BD#32) * w k

/-- A hidden entry: the gated product of a row with a column of each of the two weights. -/
def hidden (h wg wu : Fin 1024 → EReal) : EReal :=
  (∑ k, h k * wg k) * Ideal.div 1 (1 + Ideal.exp (0 - ∑ k, h k * wg k)) * ∑ k, h k * wu k

end Cert.FfnWalk
end
-- ==== Proof.MoeBlock.lean ====
module

public import proofs.«01_k».proof.Proof.Gen.MoeIdeal.Value
public import proofs.«01_k».proof.Proof.FfnMath
public import Idealize.ShloMosaic.Lib.Pointwise
public import Idealize.ShloMosaic.Lib.Pipeline.ValueKit
public import Idealize.ShloMosaic.Lib.VecWindow

/-! # One point of the experts

A tile is 1280 tokens.  Its normalised rows are kept for the eight experts, each in seven groups of 512 hidden columns.
Every group adds its part, times the tokens' gates for the expert, to an accumulator. -/

@[expose] public section

set_option maxRecDepth 65536

noncomputable section

namespace Cert.MoeWalk

open Cert.MoeIdeal Cert.MoeIdeal.Gen Cert.FfnWalk
open Idealize.ShloMosaic Idealize.ShloMosaic.TcCoe Idealize.SL.Sem

/-- The normalised rows as the first point stores them. -/
theorem normed_at (x : Vec Ideal S1280x1024 .f32) (w : Vec Ideal S1x1024 .f32) (i : Fin 1280) (k : Fin 1024) :
    k0_pay3 x w (ix2 i k) = normed (fun j => x (ix2 i j)) (fun j => w (ix2 0 j)) k := by
  unfold k0_pay3
  rw [shapeCast_self, shapeCast_self]
  pointwise []
  rfl

/-- The accumulator starts at zero. -/
theorem zero_at (i : Fin 1280) (d : Fin 1024) : k0_pay4 (F := Ideal) (ix2 i d) = 0 := by
  unfold k0_pay4
  rw [shapeCast_self]
  pointwise []

theorem squeeze_cols (w : Vec Ideal S1x1024x512 .bf16) (k : Fin 1024) (f : Fin 512) :
    shapeCast S1024x512 w shapeCasts_S1x1024x512_S1024x512 (ix2 k f) = w (ix3 0 k f) := by
  refine shapeCast_apply _ shapeCasts_S1x1024x512_S1024x512 _ (ix3 0 k f) ?_
  rw [Shape.rowMajor_val_two, Shape.rowMajor_val_three]
  show (0 * 1024 + k.val) * 512 + f.val = k.val * 512 + f.val
  omega

theorem squeeze_rows (w : Vec Ideal S1x512x1024 .bf16) (f : Fin 512) (d : Fin 1024) :
    shapeCast S512x1024 w shapeCasts_S1x512x1024_S512x1024 (ix2 f d) = w (ix3 0 f d) := by
  refine shapeCast_apply _ shapeCasts_S1x512x1024_S512x1024 _ (ix3 0 f d) ?_
  rw [Shape.rowMajor_val_two, Shape.rowMajor_val_three]
  show (0 * 512 + f.val) * 1024 + d.val = f.val * 1024 + d.val
  omega

/-- One group of hidden columns of one expert. -/
theorem part_at (h : Vec Ideal S1280x1024 .bf16) (wg wu : Vec Ideal S1x1024x512 .bf16)
    (wd : Vec Ideal S1x512x1024 .bf16) (i : Fin 1280) (d : Fin 1024) :
    k0_pay5 h wg wu wd (ix2 i d)
      = ∑ f : Fin 512, hidden (fun k => h (ix2 i k)) (fun k => wg (ix3 0 k f)) (fun k => wu (ix3 0 k f)) * wd (ix3 0 f d) := by
  simp only [← squeeze_cols, ← squeeze_rows]
  unfold k0_pay5
  generalize shapeCast S1024x512 wg _ = g
  generalize shapeCast S1024x512 wu _ = u
  generalize shapeCast S512x1024 wd _ = e
  pointwise []
  rfl

/-- The tokens' gates for the expert of a point. -/
theorem gate_at (p : grid0.Coords) (dg : Vec Ideal S1280x128 .f32) (e : Fin 128) (he : (p 1).val = e.val) (i : Fin 1280) :
    k0_pay6 p dg (ix1 i) = dg (ix2 i e) := by
  unfold k0_pay6
  pointwise []
  rw [he, Finset.sum_eq_single e]
  · rw [WordCmp.cmpi_eq_ofNat (by omega) (by omega), Scalar.select_ofBool, if_pos (by simp)]
  · intro x _ hx
    have : x.val ≠ e.val := fun h => hx (Fin.ext h)
    rw [WordCmp.cmpi_eq_ofNat (by omega) (by omega), Scalar.select_ofBool, if_neg (by simpa using this)]
  · exact fun h => absurd (Finset.mem_univ _) h

/-- The group's part, times the gates, joins the accumulator. -/
theorem add_at (p : Vec Ideal S1280x1024 .f32) (g : Vec Ideal S1280 .f32) (a : Vec Ideal S1280x1024 .f32) (i : Fin 1280) (d : Fin 1024) :
    k0_pay1 p g a (ix2 i d) = a (ix2 i d) + g (ix1 i) * p (ix2 i d) := by
  unfold k0_pay1
  rw [shapeCast_self]
  pointwise []

/-- The last point adds the tokens' rows and normalises once more. -/
theorem last_at (x a : Vec Ideal S1280x1024 .f32) (w : Vec Ideal S1x1024 .f32) (i : Fin 1280) (d : Fin 1024) :
    k0_pay2 x a w (ix2 i d) = normed (fun j => x (ix2 i j) + a (ix2 i j)) (fun j => w (ix2 0 j)) d := by
  unfold k0_pay2
  rw [shapeCast_self]
  pointwise []
  rfl

section Stores

variable (c : Dev nD) (i : grid0.Coords) (arg3 : Memref sig .tc .vmem S1280x1024 .f32) (harg3 : arg3.IsWhole)
  (arg4 : Memref sig .tc .vmem S1x1024 .f32) (harg4 : arg4.IsWhole)
  (arg5 : Memref sig .tc .vmem S1280x128 .f32) (harg5 : arg5.IsWhole)
  (arg6 : Memref sig .tc .vmem S1x1024x512 .bf16) (harg6 : arg6.IsWhole)
  (arg7 : Memref sig .tc .vmem S1x1024x512 .bf16) (harg7 : arg7.IsWhole)
  (arg8 : Memref sig .tc .vmem S1x512x1024 .bf16) (harg8 : arg8.IsWhole)
  (arg9 : Memref sig .tc .vmem S1x1024 .f32) (harg9 : arg9.IsWhole)
  (arg10 : Memref sig .tc .vmem S1280x1024 .f32) (harg10 : arg10.IsWhole)
  (arg11 : Memref sig .tc .vmem S1280x1024 .bf16) (harg11 : arg11.IsWhole)
  (arg12 : Memref sig .tc .vmem S1280x1024 .f32) (harg12 : arg12.IsWhole)

variable {F : FTy → Type} [FloatOps F]
variable (x0 : Vec F S1280x1024 .f32) (x1 : Vec F S1x1024 .f32) (x2 : Vec F S1280x128 .f32) (x3 x4 : Vec F S1x1024x512 .bf16)
  (x5 : Vec F S1x512x1024 .bf16) (x6 : Vec F S1x1024 .f32) (xs0 : Vec F S1280x1024 .bf16) (xs1 : Vec F S1280x1024 .f32)

/-- The first point of a tile keeps the normalised rows. -/
theorem first_rows (hc0 : cond0_0 i) (hc1 : ¬cond0_1 i) :
    sout0_A_0 c i arg3 harg3 arg4 harg4 arg5 harg5 arg6 harg6 arg7 harg7 arg8 harg8 arg9 harg9 arg10 harg10 arg11 harg11 arg12 harg12 hc0 hc1 x0 x1 x2 x3 x4 x5 x6
      = k0_pay3 x0 x1 := by
  unfold sout0_A_0 kernelRun0_A
  dsimp only
  simp only [kernelRun0_A.sl.HS0_1, kernelRun0_A.sl.HS1_1, kernelRun0_A.sl.r, kernelRun0_A.sl.r_1, kernelRun0_A.sl.v35, kernelRun0_A.sl.v0, kernelRun0_A.sl.v1, kernelRun0_A.sl.v2, kernelRun0_A.sl.v3, kernelRun0_A.sl.v4, kernelRun0_A.sl.v5]
  rw [View.read_writes_full]
  rw [View.readAt_full, View.readAt_full, harg3.read_unread, harg4.read_unread]

theorem first_sum (hc0 : cond0_0 i) (hc1 : ¬cond0_1 i) :
    sout0_A_1 c i arg3 harg3 arg4 harg4 arg5 harg5 arg6 harg6 arg7 harg7 arg8 harg8 arg9 harg9 arg10 harg10 arg11 harg11 arg12 harg12 hc0 hc1 x0 x1 x2 x3 x4 x5 x6
      = k0_pay1 (k0_pay5 (k0_pay3 x0 x1) x3 x4 x5) (k0_pay6 i x2) (k0_pay4 (F := F)) := by
  unfold sout0_A_1 kernelRun0_A
  dsimp only
  simp only [kernelRun0_A.sl.HS0_1, kernelRun0_A.sl.HS1_1, kernelRun0_A.sl.r, kernelRun0_A.sl.r_1, kernelRun0_A.sl.v35, kernelRun0_A.sl.v0, kernelRun0_A.sl.v1, kernelRun0_A.sl.v2, kernelRun0_A.sl.v3, kernelRun0_A.sl.v4, kernelRun0_A.sl.v5]
  rw [View.read_writes_full]
  rw [View.readCov_full, View.readCov_full]
  repeat rw [View.readAt_full]
  rw [harg3.read_unread, harg4.read_unread, harg5.read_unread, harg6.read_unread, harg7.read_unread, harg8.read_unread]

theorem next_sum (hc0 : ¬cond0_0 i) (hc1 : ¬cond0_1 i) :
    sout0_B_1 c i arg3 harg3 arg4 harg4 arg5 harg5 arg6 harg6 arg7 harg7 arg8 harg8 arg9 harg9 arg10 harg10 arg11 harg11 arg12 harg12 hc0 hc1 x0 x1 x2 x3 x4 x5 x6 xs0 xs1
      = k0_pay1 (k0_pay5 xs0 x3 x4 x5) (k0_pay6 i x2) xs1 := by
  unfold sout0_B_1 kernelRun0_B
  dsimp only
  simp only [kernelRun0_B.sl.r, kernelRun0_B.sl.r_1, kernelRun0_B.sl.v0, kernelRun0_B.sl.v1, kernelRun0_B.sl.v2, kernelRun0_B.sl.v3, kernelRun0_B.sl.v4]
  rw [View.read_writes_full]
  repeat rw [View.readAt_full]
  rw [harg11.read_unread, harg5.read_unread, harg6.read_unread, harg7.read_unread, harg8.read_unread, harg12.read_unread]

theorem last_rows (hc0 : ¬cond0_0 i) (hc1 : cond0_1 i) :
    out0_C_7 c i arg3 harg3 arg4 harg4 arg5 harg5 arg6 harg6 arg7 harg7 arg8 harg8 arg9 harg9 arg10 harg10 arg11 harg11 arg12 harg12 hc0 hc1 x0 x1 x2 x3 x4 x5 x6 xs0 xs1
      = k0_pay2 x0 (k0_pay1 (k0_pay5 xs0 x3 x4 x5) (k0_pay6 i x2) xs1) x6 := by
  unfold out0_C_7 kernelRun0_C
  dsimp only
  simp only [kernelRun0_C.sl.HS1_1, kernelRun0_C.sl.r, kernelRun0_C.sl.r_1, kernelRun0_C.sl.v46, kernelRun0_C.sl.v0, kernelRun0_C.sl.v1, kernelRun0_C.sl.v2, kernelRun0_C.sl.v3, kernelRun0_C.sl.v4]
  rw [View.read_writes_full]
  rw [View.readCov_full]
  repeat rw [View.readAt_full]
  rw [harg3.read_unread, harg9.read_unread, harg11.read_unread, harg5.read_unread, harg6.read_unread, harg7.read_unread, harg8.read_unread, harg12.read_unread]

end Stores

end Cert.MoeWalk
end
-- ==== Proof.MoeLoose.lean ====
module

public import proofs.«01_k».proof.Proof.FfnMath

/-! # Sums under a finite gate

A finite gate may be taken into a sum, but for a sum that holds an infinity: then both sides are infinite, with signs that may
differ.  The last normalisation makes a row with an infinite entry zero, whatever the sign. -/

@[expose] public section

noncomputable section

namespace Cert.MoeWalk

open Cert.FfnWalk
open Idealize.ShloMosaic

/-- One of the two infinities. -/
def Infinite (a : EReal) : Prop := a = ⊤ ∨ a = ⊥

/-- Equal, or both infinite. -/
def Loose (a b : EReal) : Prop := a = b ∨ (Infinite a ∧ Infinite b)

theorem Loose.refl (a : EReal) : Loose a a := Or.inl rfl

theorem Loose.trans {a b c : EReal} (h : Loose a b) (k : Loose b c) : Loose a c := by
  rcases h with rfl | ⟨ha, hb⟩
  · exact k
  · rcases k with rfl | ⟨_, hc⟩
    · exact Or.inr ⟨ha, hb⟩
    · exact Or.inr ⟨ha, hc⟩

theorem Infinite.add {a : EReal} (h : Infinite a) (b : EReal) : Infinite (a + b) := by
  rcases h with rfl | rfl
  · induction b with
    | bot => exact Or.inr rfl
    | top => exact Or.inl rfl
    | coe r => exact Or.inl rfl
  · exact Or.inr (EReal.bot_add b)

theorem Infinite.scale {a : EReal} (h : Infinite a) {g : ℝ} (hg : g ≠ 0) : Infinite (g * a) := by
  rcases lt_or_gt_of_ne hg with n | p
  · rcases h with rfl | rfl
    · exact Or.inr (EReal.coe_mul_top_of_neg n)
    · exact Or.inl (EReal.coe_mul_bot_of_neg n)
  · rcases h with rfl | rfl
    · exact Or.inl (EReal.coe_mul_top_of_pos p)
    · exact Or.inr (EReal.coe_mul_bot_of_pos p)

theorem Loose.add {a b c d : EReal} (h : Loose a b) (k : Loose c d) : Loose (a + c) (b + d) := by
  rcases h with rfl | ⟨ha, hb⟩
  · rcases k with rfl | ⟨hc, hd⟩
    · exact Or.inl rfl
    · rw [add_comm a c, add_comm a d]
      exact Or.inr ⟨hc.add a, hd.add a⟩
  · exact Or.inr ⟨ha.add c, hb.add d⟩

/-- Over a sum of two, term by term. -/
theorem gate_add (g : ℝ) (a b : EReal) : Loose (g * (a + b)) (g * a + g * b) := by
  rcases eq_or_ne g 0 with rfl | hg
  · left
    simp
  by_cases ha : Infinite a
  · exact Or.inr ⟨(ha.add b).scale hg, (ha.scale hg).add _⟩
  by_cases hb : Infinite b
  · right
    rw [add_comm a b, add_comm (g * a)]
    exact ⟨(hb.add a).scale hg, (hb.scale hg).add _⟩
  · left
    lift a to ℝ using ⟨fun h => ha (Or.inl h), fun h => ha (Or.inr h)⟩
    lift b to ℝ using ⟨fun h => hb (Or.inl h), fun h => hb (Or.inr h)⟩
    norm_cast
    exact mul_add g a b

/-- A finite gate over a sum, term by term. -/
theorem gate_sum {ι : Type} (s : Finset ι) (g : ℝ) (f : ι → EReal) : Loose (g * ∑ i ∈ s, f i) (∑ i ∈ s, g * f i) := by
  classical
  induction s using Finset.induction_on with
  | empty => left; simp
  | insert a s ha ih =>
    rw [Finset.sum_insert ha, Finset.sum_insert ha]
    exact (gate_add g _ _).trans ((Loose.refl _).add ih)

/-- Sums of terms that agree agree. -/
theorem loose_sum {ι : Type} (s : Finset ι) (f g : ι → EReal) (h : ∀ i, Loose (f i) (g i)) : Loose (∑ i ∈ s, f i) (∑ i ∈ s, g i) := by
  classical
  induction s using Finset.induction_on with
  | empty => left; simp
  | insert a s ha ih =>
    rw [Finset.sum_insert ha, Finset.sum_insert ha]
    exact (h a).add ih

theorem width_word : Ideal.ofBits .f32 0x44800000#32 = ((1024 : ℝ) : EReal) := by
  simp [Ideal.ofBits, Ideal.ieee]
  rw [← EReal.coe_mul]
  norm_num

theorem small_word : Ideal.ofBits .f32 0x358637BD#32 ≠ ⊥ := by
  simp [Ideal.ofBits, Ideal.ieee]
  rw [← EReal.coe_mul]
  exact EReal.coe_ne_bot _

/-- A row with an infinite entry is normalised to zero. -/
theorem normed_infinite (x w : Fin 1024 → EReal) (j : Fin 1024) (h : Infinite (x j)) (k : Fin 1024) : normed x w k = 0 := by
  have sq : ∀ a : EReal, 0 ≤ a * a := by
    intro a
    induction a with
    | bot => simp
    | top => simp
    | coe r => exact_mod_cast mul_self_nonneg r
  have big : x j * x j = ⊤ := by rcases h with h | h <;> rw [h] <;> rfl
  have sum : ∑ i, x i * x i = ⊤ :=
    top_le_iff.mp (big ▸ Finset.single_le_sum (f := fun i => x i * x i) (fun i _ => sq (x i)) (Finset.mem_univ j))
  have div : Ideal.div ⊤ ((1024 : ℝ) : EReal) = ⊤ := by
    have hne : ((1024 : ℝ) : EReal) ≠ 0 := by norm_num
    rw [Ideal.div, if_neg hne, ← EReal.coe_inv]
    exact EReal.top_mul_coe_of_pos (by norm_num)
  unfold normed
  rw [sum, width_word, div, EReal.top_add_of_ne_bot small_word, Ideal.rsqrt_top, mul_zero, zero_mul]

/-- Rows that agree have the same normalised row. -/
theorem normed_loose (x y w : Fin 1024 → EReal) (h : ∀ j, Loose (x j) (y j)) (k : Fin 1024) : normed x w k = normed y w k := by
  by_cases hi : ∃ j, Infinite (x j) ∧ Infinite (y j)
  · obtain ⟨j, hx, hy⟩ := hi
    rw [normed_infinite x w j hx, normed_infinite y w j hy]
  · have e : x = y := funext fun j => (h j).resolve_right fun hj => hi ⟨j, hj⟩
    rw [e]

end Cert.MoeWalk
end
-- ==== Proof.MoeTable.lean ====
module

public import proofs.«01_k».proof.Proof.MoeBlock
public import proofs.«01_k».proof.Proof.MoeLoose
public import proofs.«01_k».proof.Proof.Gen.MoeRefIdeal.Read

/-! # The experts' result array

The kept rows are the tile's normalised rows at every point; the accumulator holds the gated parts of the groups seen. -/

@[expose] public section

set_option maxRecDepth 65536

noncomputable section

namespace Cert.MoeWalk

open Cert.MoeIdeal Cert.MoeIdeal.Gen Cert.MoeIdeal.Value Cert.FfnWalk
open Idealize.ShloMosaic Idealize.ShloMosaic.TcCoe Idealize.SL.Sem

theorem points : cfg0.N = 728 := N_0

/-- Point `t` is tile `t / 56`, expert `t / 7 % 8`, group `t % 7`. -/
theorem places : ∀ t : Fin cfg0.N, (win0_0.index t 0 = t.val / 56 ∧ win0_0.index t 1 = 0) ∧ (win0_1.index t 0 = 0 ∧ win0_1.index t 1 = 0)
    ∧ (win0_2.index t 0 = t.val / 56 ∧ win0_2.index t 1 = 0)
    ∧ (win0_3.index t 0 = t.val / 7 % 8 ∧ win0_3.index t 1 = 0 ∧ win0_3.index t 2 = t.val % 7)
    ∧ (win0_4.index t 0 = t.val / 7 % 8 ∧ win0_4.index t 1 = 0 ∧ win0_4.index t 2 = t.val % 7)
    ∧ (win0_5.index t 0 = t.val / 7 % 8 ∧ win0_5.index t 1 = t.val % 7 ∧ win0_5.index t 2 = 0)
    ∧ (win0_6.index t 0 = 0 ∧ win0_6.index t 1 = 0) ∧ (win0_7.index t 0 = t.val / 56 ∧ win0_7.index t 1 = 0)
    ∧ (grid0.coords t 1).val = t.val / 7 % 8 :=
  (by decide +kernel : ∀ t : Fin grid0.N, _)

/-- Row `i` of the tile of point `n`. -/
def rowOf (n : ℕ) (h : n < cfg0.N) (i : Fin 1280) : Fin 16640 := ⟨1280 * (n / 56) + i.val, by have := lt_of_lt_of_eq h points; omega⟩

/-- The expert of point `n`. -/
def expertOf (n : ℕ) : Fin 8 := ⟨n / 7 % 8, by omega⟩

/-- Hidden column `f` of group `n % 7`. -/
def colOf (n : ℕ) (f : Fin 512) : Fin 3584 := ⟨512 * (n % 7) + f.val, by omega⟩

/-- The lane of an expert's gate. -/
def lane (e : Fin 8) : Fin 128 := ⟨e.val, by omega⟩

variable (m : (ℓ : Loc nD τ sig) → Buf (Elt Ideal) ℓ)

theorem x_block (c : Dev nD) (t : Fin cfg0.N) (i : Fin 1280) (k : Fin 1024) :
    iblk m c 0 t (ix2 i k) = m ((c : Thread nD τ).loc main_arg0) (ix2 (rowOf t.val t.isLt i) k) := by
  have hp := places t
  unfold iblk
  rw [← V_main_arg0 m c]
  refine congrArg (V m c main_arg0) (funext fun a => Fin.ext ?_)
  match a with
  | ⟨0, _⟩ => show win0_0.index t 0 * 1280 + 1 * i.val = 1280 * (t.val / 56) + i.val; omega
  | ⟨1, _⟩ => show win0_0.index t 1 * 1024 + 1 * k.val = k.val; omega

theorem norm_block (c : Dev nD) (t : Fin cfg0.N) (k : Fin 1024) :
    iblk m c 1 t (ix2 0 k) = m ((c : Thread nD τ).loc main_arg1) (ix1 k) := by
  have hp := places t
  unfold iblk
  entry_read
  refine shapeCast_apply _ shapeCasts_S1024_S1x1024 _ (ix1 k) ?_
  rw [Shape.rowMajor_val_one, Shape.rowMajor_val_two]
  show k.val = (win0_1.index t 0 * 1 + 1 * 0) * 1024 + (win0_1.index t 1 * 1024 + 1 * k.val)
  omega

theorem gate_block (c : Dev nD) (t : Fin cfg0.N) (i : Fin 1280) (k : Fin 128) :
    iblk m c 2 t (ix2 i k) = m ((c : Thread nD τ).loc main_arg2) (ix2 (rowOf t.val t.isLt i) k) := by
  have hp := places t
  unfold iblk
  rw [← V_main_arg2 m c]
  refine congrArg (V m c main_arg2) (funext fun a => Fin.ext ?_)
  match a with
  | ⟨0, _⟩ => show win0_2.index t 0 * 1280 + 1 * i.val = 1280 * (t.val / 56) + i.val; omega
  | ⟨1, _⟩ => show win0_2.index t 1 * 128 + 1 * k.val = k.val; omega

theorem wg_block (c : Dev nD) (t : Fin cfg0.N) (k : Fin 1024) (f : Fin 512) :
    iblk m c 3 t (ix3 0 k f) = m ((c : Thread nD τ).loc main_arg3) (ix3 (expertOf t.val) k (colOf t.val f)) := by
  have hp := places t
  unfold iblk
  entry_read
  refine congrArg (m ((c : Thread nD τ).loc main_arg3)) (funext fun a => Fin.ext ?_)
  match a with
  | ⟨0, _⟩ => show win0_3.index t 0 * 1 + 1 * 0 = t.val / 7 % 8; omega
  | ⟨1, _⟩ => show win0_3.index t 1 * 1024 + 1 * k.val = k.val; omega
  | ⟨2, _⟩ => show win0_3.index t 2 * 512 + 1 * f.val = 512 * (t.val % 7) + f.val; omega

theorem wu_block (c : Dev nD) (t : Fin cfg0.N) (k : Fin 1024) (f : Fin 512) :
    iblk m c 4 t (ix3 0 k f) = m ((c : Thread nD τ).loc main_arg4) (ix3 (expertOf t.val) k (colOf t.val f)) := by
  have hp := places t
  unfold iblk
  entry_read
  refine congrArg (m ((c : Thread nD τ).loc main_arg4)) (funext fun a => Fin.ext ?_)
  match a with
  | ⟨0, _⟩ => show win0_4.index t 0 * 1 + 1 * 0 = t.val / 7 % 8; omega
  | ⟨1, _⟩ => show win0_4.index t 1 * 1024 + 1 * k.val = k.val; omega
  | ⟨2, _⟩ => show win0_4.index t 2 * 512 + 1 * f.val = 512 * (t.val % 7) + f.val; omega

theorem wd_block (c : Dev nD) (t : Fin cfg0.N) (f : Fin 512) (d : Fin 1024) :
    iblk m c 5 t (ix3 0 f d) = m ((c : Thread nD τ).loc main_arg5) (ix3 (expertOf t.val) (colOf t.val f) d) := by
  have hp := places t
  unfold iblk
  entry_read
  refine congrArg (m ((c : Thread nD τ).loc main_arg5)) (funext fun a => Fin.ext ?_)
  match a with
  | ⟨0, _⟩ => show win0_5.index t 0 * 1 + 1 * 0 = t.val / 7 % 8; omega
  | ⟨1, _⟩ => show win0_5.index t 1 * 512 + 1 * f.val = 512 * (t.val % 7) + f.val; omega
  | ⟨2, _⟩ => show win0_5.index t 2 * 1024 + 1 * d.val = d.val; omega

theorem final_block (c : Dev nD) (t : Fin cfg0.N) (k : Fin 1024) :
    iblk m c 6 t (ix2 0 k) = m ((c : Thread nD τ).loc main_arg6) (ix1 k) := by
  have hp := places t
  unfold iblk
  entry_read
  refine shapeCast_apply _ shapeCasts_S1024_S1x1024 _ (ix1 k) ?_
  rw [Shape.rowMajor_val_one, Shape.rowMajor_val_two]
  show k.val = (win0_6.index t 0 * 1 + 1 * 0) * 1024 + (win0_6.index t 1 * 1024 + 1 * k.val)
  omega

/-! ## The sum over the experts and their hidden columns -/

/-- A sum over `a * b` places, read in `a` runs of `b`. -/
theorem sum_runs (a b : ℕ) (g : Fin (a * b) → EReal) : ∑ q, g q = ∑ i : Fin a, ∑ j : Fin b, g (finProdFinEquiv (i, j)) := by
  rw [← Equiv.sum_comp finProdFinEquiv g, Fintype.sum_prod_type]

/-- What the group of place `q` adds: the gate of its expert times the sum of its hidden columns. -/
def group (g : Fin 8 → EReal) (p : Fin 8 → Fin 3584 → EReal) (q : ℕ) : EReal := g (expertOf q) * ∑ f : Fin 512, p (expertOf q) (colOf q f)

theorem group_mod (g : Fin 8 → EReal) (p : Fin 8 → Fin 3584 → EReal) (n : ℕ) : group g p n = group g p (n % 56) := by
  have he : expertOf n = expertOf (n % 56) := Fin.ext (by show n / 7 % 8 = n % 56 / 7 % 8; omega)
  have hf : colOf n = colOf (n % 56) := funext fun f => Fin.ext (by show 512 * (n % 7) + f.val = 512 * (n % 56 % 7) + f.val; omega)
  unfold group
  rw [he, hf]

/-- The sum of the first `j` groups. -/
def upto (g : Fin 8 → EReal) (p : Fin 8 → Fin 3584 → EReal) (j : ℕ) : EReal := ∑ q ∈ Finset.range j, group g p q

theorem upto_zero (g : Fin 8 → EReal) (p : Fin 8 → Fin 3584 → EReal) : upto g p 0 = 0 := by simp [upto]

theorem upto_succ (g : Fin 8 → EReal) (p : Fin 8 → Fin 3584 → EReal) (n : ℕ) : upto g p (n % 56) + group g p n = upto g p (n % 56 + 1) := by
  rw [group_mod]
  exact (Finset.sum_range_succ _ _).symm

/-- All groups together: every expert's sum over its hidden columns, times its gate. -/
theorem upto_all (g : Fin 8 → EReal) (p : Fin 8 → Fin 3584 → EReal) (hg : ∀ e, g e = ((g e).toReal : EReal)) :
    Loose (∑ e, g e * ∑ f, p e f) (upto g p 56) := by
  unfold upto
  rw [← Fin.sum_univ_eq_sum_range (group g p) 56]
  refine Loose.trans ?_ (Or.inl (sum_runs 8 7 (fun q => group g p q.val)).symm)
  refine loose_sum _ _ _ fun e => ?_
  have hp : ∑ f, p e f = ∑ j : Fin 7, ∑ f : Fin 512, p e (finProdFinEquiv (j, f)) := sum_runs 7 512 (p e)
  have hs : Loose (g e * ∑ j : Fin 7, ∑ f : Fin 512, p e (finProdFinEquiv (j, f)))
      (∑ j : Fin 7, g e * ∑ f : Fin 512, p e (finProdFinEquiv (j, f))) := by
    rw [hg e]
    exact gate_sum _ _ _
  rw [hp]
  refine hs.trans (Or.inl (Finset.sum_congr rfl fun j _ => ?_))
  have hv : (finProdFinEquiv (e, j) : Fin (8 * 7)).val = j.val + 7 * e.val := rfl
  have he : expertOf (finProdFinEquiv (e, j) : Fin (8 * 7)).val = e := Fin.ext (by rw [hv]; show (j.val + 7 * e.val) / 7 % 8 = e.val; omega)
  unfold group
  rw [he]
  refine congrArg (g e * ·) (Finset.sum_congr rfl fun f _ => congrArg (p e) (Fin.ext ?_))
  rw [hv]
  show f.val + 512 * j.val = 512 * ((j.val + 7 * e.val) % 7) + f.val
  omega

/-- The part of hidden column `f` of expert `e` in entry `n, d`. -/
def part (x : S16640x1024.Idx → EReal) (w : S1024.Idx → EReal) (wg wu : S8x1024x3584.Idx → EReal) (wd : S8x3584x1024.Idx → EReal)
    (n : Fin 16640) (d : Fin 1024) (e : Fin 8) (f : Fin 3584) : EReal :=
  hidden (normed (fun j => x (ix2 n j)) (fun j => w (ix1 j))) (fun k => wg (ix3 e k f)) (fun k => wu (ix3 e k f)) * wd (ix3 e f d)

/-- The part of a hidden column, of the arguments. -/
abbrev partOf (c : Dev nD) : Fin 16640 → Fin 1024 → Fin 8 → Fin 3584 → EReal :=
  part (m ((c : Thread nD τ).loc main_arg0)) (m ((c : Thread nD τ).loc main_arg1)) (m ((c : Thread nD τ).loc main_arg3))
    (m ((c : Thread nD τ).loc main_arg4)) (m ((c : Thread nD τ).loc main_arg5))

/-- A token's gates, of the arguments. -/
abbrev gatesOf (c : Dev nD) (n : Fin 16640) : Fin 8 → EReal := fun e => m ((c : Thread nD τ).loc main_arg2) (ix2 n (lane e))

/-- The normalised rows of the tile of point `n`. -/
abbrev rowsOf (c : Dev nD) (n : ℕ) (h : n < cfg0.N) (i : Fin 1280) : Fin 1024 → EReal :=
  normed (fun j => m ((c : Thread nD τ).loc main_arg0) (ix2 (rowOf n h i) j)) (fun j => m ((c : Thread nD τ).loc main_arg1) (ix1 j))

/-- One group, over kept rows that are the normalised rows. -/
theorem step_at (c : Dev nD) (t : Fin cfg0.N) (h : Vec Ideal S1280x1024 .bf16) (a : Vec Ideal S1280x1024 .f32)
    (hh : ∀ i k, h (ix2 i k) = rowsOf m c t.val t.isLt i k) (i : Fin 1280) (d : Fin 1024) :
    k0_pay1 (k0_pay5 h (iblk m c 3 t) (iblk m c 4 t) (iblk m c 5 t)) (k0_pay6 (grid0.coords t) (iblk m c 2 t)) a (ix2 i d)
      = a (ix2 i d) + group (gatesOf m c (rowOf t.val t.isLt i)) (partOf m c (rowOf t.val t.isLt i) d) t.val := by
  rw [add_at, gate_at _ _ (lane (expertOf t.val)) (places t).2.2.2.2.2.2.2.2, part_at]
  simp only [hh, wg_block, wu_block, wd_block, gate_block]
  rfl

theorem rows_first (c : Dev nD) (t : Fin cfg0.N) (i : Fin 1280) (k : Fin 1024) :
    k0_pay3 (F := Ideal) (iblk m c 0 t) (iblk m c 1 t) (ix2 i k) = rowsOf m c t.val t.isLt i k := by
  refine (normed_at _ _ i k).trans ?_
  simp only [x_block, norm_block]

/-- What the carried buffers hold after point `n`; the accumulator of a tile's last point is not carried on. -/
theorem carried (c : Dev nD) (n : ℕ) (h : n < cfg0.N) :
    (∀ i k, (outsAt0 m c n h).2.1 (ix2 i k) = rowsOf m c n h i k)
    ∧ (n % 56 ≠ 55 → ∀ i d, (outsAt0 m c n h).2.2 (ix2 i d) = upto (gatesOf m c (rowOf n h i)) (partOf m c (rowOf n h i) d) (n % 56 + 1)) := by
  have first : ∀ (t : Fin cfg0.N), t.val % 56 = 0 →
      (∀ i k, (outsAt0 m c t.val t.isLt).2.1 (ix2 i k) = rowsOf m c t.val t.isLt i k)
      ∧ (t.val % 56 ≠ 55 → ∀ i d, (outsAt0 m c t.val t.isLt).2.2 (ix2 i d)
        = upto (gatesOf m c (rowOf t.val t.isLt i)) (partOf m c (rowOf t.val t.isLt i) d) (t.val % 56 + 1)) := by
    intro t h0
    rw [outsAt0_A m c t h0 (by omega)]
    dsimp only
    refine ⟨fun i k => (congrFun (first_rows ..) (ix2 i k)).trans (rows_first m c t i k), fun _ i d => ?_⟩
    refine (congrFun (first_sum ..) (ix2 i d)).trans ((step_at m c t _ _ (rows_first m c t) i d).trans ?_)
    rw [zero_at, ← upto_zero (gatesOf m c (rowOf t.val t.isLt i)) (partOf m c (rowOf t.val t.isLt i) d), ← h0]
    exact upto_succ _ _ t.val
  induction n with
  | zero => exact first ⟨0, h⟩ rfl
  | succ n ih =>
    by_cases h0 : (n + 1) % 56 = 0
    · exact first ⟨n + 1, h⟩ h0
    · obtain ⟨ir, is⟩ := ih ((Nat.lt_succ_self n).trans h)
      have hr : ∀ i, rowOf n ((Nat.lt_succ_self n).trans h) i = rowOf (n + 1) h i :=
        fun i => Fin.ext (by show 1280 * (n / 56) + i.val = 1280 * ((n + 1) / 56) + i.val; omega)
      have hn : n % 56 + 1 = (n + 1) % 56 := by omega
      simp only [hr, rowsOf] at ir
      have is := is (by omega)
      simp only [hr, hn] at is
      by_cases h1 : (n + 1) % 56 = 55
      · have e := outsAt0_C m c ⟨n + 1, h⟩ h0 h1
        dsimp only at e
        rw [e]
        dsimp only
        exact ⟨ir, fun hne => absurd h1 hne⟩
      · have e := outsAt0_B m c ⟨n + 1, h⟩ h0 h1
        dsimp only at e
        rw [e]
        dsimp only
        refine ⟨ir, fun _ i d => ?_⟩
        refine (congrFun (next_sum ..) (ix2 i d)).trans ((step_at m c ⟨n + 1, h⟩ _ _ ir i d).trans ?_)
        refine (congrArg (· + _) (is i d)).trans (upto_succ _ _ (n + 1))

/-! ## The result -/

/-- The layer's last rows: a token's row and its gated experts, normalised. -/
def fed (x : S16640x1024.Idx → EReal) (w : S1024.Idx → EReal) (dg : S16640x128.Idx → EReal) (wg wu : S8x1024x3584.Idx → EReal)
    (wd : S8x3584x1024.Idx → EReal) (fw : S1024.Idx → EReal) (n : Fin 16640) (d : Fin 1024) : EReal :=
  normed (fun j => x (ix2 n j) + ∑ e : Fin 8, dg (ix2 n (lane e)) * ∑ f : Fin 3584, part x w wg wu wd n j e f) (fun j => fw (ix1 j)) d

/-- `fed` of the arguments. -/
def table (c : Dev nD) (i : S16640x1024.Idx) : EReal :=
  fed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

/-- The gates that the experts use are finite. -/
abbrev Gates (dg : S16640x128.Idx → EReal) : Prop :=
  ∀ (n : Fin 16640) (e : Fin 8), dg (ix2 n (lane e)) = ((dg (ix2 n (lane e))).toReal : EReal)

/-- What the last point of a tile writes back. -/
theorem written (c : Dev nD) (hg : Gates (m ((c : Thread nD τ).loc main_arg2))) (t : Fin cfg0.N) (h1 : t.val % 56 = 55) (i : Fin 1280) (d : Fin 1024) :
    (dats m 0 c).flushed 7 t (ix2 i d) = table m c (ix2 (rowOf t.val t.isLt i) d) := by
  have hlt := t.isLt
  obtain ⟨ir, is⟩ := carried m c (t.val - 1) (by omega)
  have hr : ∀ i, rowOf (t.val - 1) (by omega) i = rowOf t.val t.isLt i :=
    fun i => Fin.ext (by show 1280 * ((t.val - 1) / 56) + i.val = 1280 * (t.val / 56) + i.val; omega)
  have hn : (t.val - 1) % 56 + 1 = t.val % 56 := by omega
  have is := is (by omega)
  simp only [hr, rowsOf] at ir
  simp only [hr, hn] at is
  have sum : ∀ j, k0_pay1 (k0_pay5 (outsAt0 m c (t.val - 1) (by omega)).2.1 (iblk m c 3 t) (iblk m c 4 t) (iblk m c 5 t))
      (k0_pay6 (grid0.coords t) (iblk m c 2 t)) (outsAt0 m c (t.val - 1) (by omega)).2.2 (ix2 i j)
      = upto (gatesOf m c (rowOf t.val t.isLt i)) (partOf m c (rowOf t.val t.isLt i) j) 56 := by
    intro j
    refine (step_at m c t _ _ ir i j).trans ((congrArg (· + _) (is i j)).trans ((upto_succ _ _ t.val).trans ?_))
    rw [h1]
  rw [flushed7_C m c t (by omega) h1]
  refine (congrFun (last_rows ..) (ix2 i d)).trans ((last_at _ _ _ i d).trans ?_)
  simp only [sum, x_block, final_block]
  exact (normed_loose _ _ _ (fun j => (Loose.refl _).add (upto_all _ _ (hg _))) d).symm

theorem mem_block (t : Fin cfg0.N) (i : S16640x1024.Idx) : i ∈ ((cfg0.win 7).blk t).view.set ↔
    (t.val / 56 * 1280 ≤ (i 0).val ∧ (i 0).val < t.val / 56 * 1280 + 1280) ∧ (0 * 1024 ≤ (i 1).val ∧ (i 1).val < 0 * 1024 + 1024) := by
  have hp := (places t).2.2.2.2.2.2.2.1
  show i ∈ ((View.whole main_v5).slice (win0_7.rect t)).set ↔ _
  rw [View.set_slice_whole, Rect.mem_set_unit, ← hp.1, ← hp.2]
  exact ⟨fun h => ⟨h 0, h 1⟩, fun h a => match a with
    | ⟨0, _⟩ => h.1
    | ⟨1, _⟩ => h.2⟩

theorem covered (i : S16640x1024.Idx) : ∃ t : Fin cfg0.N, (cfg0.win 7).flush t = true ∧ i ∈ ((cfg0.win 7).blk t).view.set := by
  have h0 : (i 0).val < 16640 := (i 0).isLt
  have h1 : (i 1).val < 1024 := (i 1).isLt
  refine ⟨⟨56 * ((i 0).val / 1280) + 55, by rw [points]; omega⟩, (flush0_7 _).mpr (by dsimp only; omega), ?_⟩
  rw [mem_block]
  dsimp only
  omega

/-- The kernel's result array. -/
theorem kernel_table (c : Dev nD) (hg : Gates (m ((c : Thread nD τ).loc main_arg2))) : (dats m 0 c).arrAt 7 cfg0.N = table m c := by
  refine (dats m 0 c).arrAt_eq_of_cover 7 _ (fun t ht => ?_) covered
  have hp := (places t).2.2.2.2.2.2.2.1
  have key : ∀ (i : Fin 1280) (d : Fin 1024), (dats m 0 c).flushed 7 t (ix2 i d)
      = ((cfg0.win 7).blk t).view.read (Elt Ideal) (table m c) (ix2 i d) := by
    intro i d
    refine (written m c hg t ((flush0_7 t).mp ht) i d).trans ?_
    refine congrArg (table m c) (funext fun a => Fin.ext ?_)
    match a with
    | ⟨0, _⟩ => show 1280 * (t.val / 56) + i.val = win0_7.index t 0 * 1280 + 1 * i.val; omega
    | ⟨1, _⟩ => show d.val = win0_7.index t 1 * 1024 + 1 * d.val; omega
  funext j
  have e : j = ix2 (j 0) (j 1) := eq_ix2 j
  rw [e]
  exact key (j 0) (j 1)

end Cert.MoeWalk
end
-- ==== Proof.MergeBlock.lean ====
module

public import proofs.«01_k».proof.Proof.Gen.MergeIdeal.Value
public import Idealize.ShloMosaic.Lib.Pointwise
public import Idealize.ShloMosaic.Lib.Pipeline.ValueKit
public import Idealize.ShloMosaic.Lib.Claim

/-! # One tile of the merge

A tile is 640 tokens.  The three branch products are weighted by their gates, added, projected, and added to the
tokens' rows. -/

@[expose] public section

set_option maxRecDepth 65536

noncomputable section

namespace Cert.MergeWalk

open Cert.MergeIdeal Cert.MergeIdeal.Gen
open Idealize.ShloMosaic Idealize.ShloMosaic.TcCoe Idealize.SL.Sem

/-- The gate of a pre-activation. -/
def gate (z : EReal) : EReal := Ideal.div 1 (1 + Ideal.exp (0 - z))

/-- A row of a branch against a column of its projection. -/
def branch (o w : Fin 512 → EReal) : EReal := ∑ k, o k * w k

/-- The first two gated branches of a tile. -/
theorem first_branches (g1 : Vec Ideal S640x1024 .f32) (o1 : Vec Ideal S640x512 .bf16) (w1 : Vec Ideal S512x1024 .bf16)
    (g2 : Vec Ideal S640x1024 .f32) (o2 : Vec Ideal S640x512 .bf16) (w2 : Vec Ideal S512x1024 .bf16) (i : Fin 640) (k : Fin 1024) :
    k0_pay2 g1 o1 w1 g2 o2 w2 (ix2 i k)
      = gate (g1 (ix2 i k)) * branch (fun j => o1 (ix2 i j)) (fun j => w1 (ix2 j k))
        + gate (g2 (ix2 i k)) * branch (fun j => o2 (ix2 i j)) (fun j => w2 (ix2 j k)) := by
  unfold k0_pay2
  rw [shapeCast_self, shapeCast_self]
  pointwise []
  rfl

/-- A tile's result, given the first two gated branches. -/
theorem tile_from (s : FVec Ideal S640x1024 .f32) (g3 : Vec Ideal S640x1024 .f32) (o3 : Vec Ideal S640x512 .bf16)
    (w3 : Vec Ideal S512x1024 .bf16) (wo : Vec Ideal S1024x1024 .bf16) (x : Vec Ideal S640x1024 .f32) (i : Fin 640) (d : Fin 1024) :
    k0_pay1 s (k0_pay3 g3) (k0_pay4 (F := Ideal)) o3 w3 x wo (ix2 i d)
      = x (ix2 i d) + ∑ k : Fin 1024, (s (ix2 i k)
          + gate (g3 (ix2 i k)) * branch (fun j => o3 (ix2 i j)) (fun j => w3 (ix2 j k))) * wo (ix2 k d) := by
  unfold k0_pay1 k0_pay3 k0_pay4
  rw [shapeCast_self, shapeCast_self]
  pointwise []
  rfl

theorem zero_offsets : (![0, 0] : Fin 2 → ℕ) = fun _ => 0 := by
  funext a
  match a with
  | ⟨0, _⟩ => rfl
  | ⟨1, _⟩ => rfl

/-- A tile's result as the body stores it. -/
theorem tile_at (x : Vec Ideal S640x1024 .f32) (o1 o2 o3 : Vec Ideal S640x512 .bf16)
    (g1 g2 g3 : Vec Ideal S640x1024 .f32) (w1 w2 w3 : Vec Ideal S512x1024 .bf16) (wo : Vec Ideal S1024x1024 .bf16) (i : Fin 640) (d : Fin 1024) :
    out0_11 x o1 o2 o3 g1 g2 g3 w1 w2 w3 wo (ix2 i d)
      = x (ix2 i d) + ∑ k : Fin 1024, ((gate (g1 (ix2 i k)) * branch (fun j => o1 (ix2 i j)) (fun j => w1 (ix2 j k))
          + gate (g2 (ix2 i k)) * branch (fun j => o2 (ix2 i j)) (fun j => w2 (ix2 j k)))
          + gate (g3 (ix2 i k)) * branch (fun j => o3 (ix2 i j)) (fun j => w3 (ix2 j k))) * wo (ix2 k d) := by
  unfold out0_11
  rw [View.canon_cons_unit_zero zero_offsets, View.ld_unit_zero (S := S640x1024) zero_offsets, View.ld_unit_zero (S := S640x512) zero_offsets,
    View.ld_unit_zero (S := S512x1024) zero_offsets, View.ld_unit_zero (S := S640x1024) zero_offsets, View.ld_unit_zero (S := S640x512) zero_offsets,
    View.ld_unit_zero (S := S512x1024) zero_offsets, View.ld_unit_zero (S := S640x1024) zero_offsets, View.ld_unit_zero (S := S640x512) zero_offsets,
    View.ld_unit_zero (S := S512x1024) zero_offsets, View.ld_unit_zero (S := S1024x1024) zero_offsets, View.ld_unit_zero (S := S640x1024) zero_offsets]
  rw [tile_from]
  simp only [first_branches]

/-! ## The blocks of a grid point, as entries of the arguments -/

theorem points : cfg0.N = 26 := N_0

/-- Every window that moves takes tile `t`; the gates are the last three groups of 1024 columns. -/
theorem places : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 5)
    ∧ (win0_5.index t 0 = t.val ∧ win0_5.index t 1 = 6) ∧ (win0_6.index t 0 = t.val ∧ win0_6.index t 1 = 7)
    ∧ (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = 0 ∧ win0_10.index t 1 = 0)
    ∧ (win0_11.index t 0 = t.val ∧ win0_11.index t 1 = 0) :=
  (by decide +kernel : ∀ t : Fin grid0.N, _)

variable (m : (ℓ : Loc nD τ sig) → Buf (Elt Ideal) ℓ)

/-- Row `i` of tile `t`. -/
def rowOf (t : Fin cfg0.N) (i : Fin 640) : Fin 16640 := ⟨640 * t.val + i.val, by have := lt_of_lt_of_eq t.isLt points; omega⟩

theorem x_block (c : Dev nD) (t : Fin cfg0.N) (i : Fin 640) (k : Fin 1024) :
    iblk m c 0 t (ix2 i k) = m ((c : Thread nD τ).loc main_arg0) (ix2 (rowOf t i) k) := by
  have hp := places t
  unfold iblk
  rw [← V_main_arg0 m c]
  refine congrArg (V m c main_arg0) (funext fun a => Fin.ext ?_)
  match a with
  | ⟨0, _⟩ => show win0_0.index t 0 * 640 + 1 * i.val = 640 * t.val + i.val; omega
  | ⟨1, _⟩ => show win0_0.index t 1 * 1024 + 1 * k.val = k.val; omega

theorem a_block (c : Dev nD) (t : Fin cfg0.N) (i : Fin 640) (k : Fin 512) :
    iblk m c 1 t (ix2 i k) = m ((c : Thread nD τ).loc main_arg1) (ix2 (rowOf t i) k) := by
  have hp := places t
  unfold iblk
  rw [← V_main_arg1 m c]
  refine congrArg (V m c main_arg1) (funext fun a => Fin.ext ?_)
  match a with
  | ⟨0, _⟩ => show win0_1.index t 0 * 640 + 1 * i.val = 640 * t.val + i.val; omega
  | ⟨1, _⟩ => show win0_1.index t 1 * 512 + 1 * k.val = k.val; omega

theorem b_block (c : Dev nD) (t : Fin cfg0.N) (i : Fin 640) (k : Fin 512) :
    iblk m c 2 t (ix2 i k) = m ((c : Thread nD τ).loc main_arg2) (ix2 (rowOf t i) k) := by
  have hp := places t
  unfold iblk
  rw [← V_main_arg2 m c]
  refine congrArg (V m c main_arg2) (funext fun a => Fin.ext ?_)
  match a with
  | ⟨0, _⟩ => show win0_2.index t 0 * 640 + 1 * i.val = 640 * t.val + i.val; omega
  | ⟨1, _⟩ => show win0_2.index t 1 * 512 + 1 * k.val = k.val; omega

theorem c_block (c : Dev nD) (t : Fin cfg0.N) (i : Fin 640) (k : Fin 512) :
    iblk m c 3 t (ix2 i k) = m ((c : Thread nD τ).loc main_arg3) (ix2 (rowOf t i) k) := by
  have hp := places t
  unfold iblk
  rw [← V_main_arg3 m c]
  refine congrArg (V m c main_arg3) (funext fun a => Fin.ext ?_)
  match a with
  | ⟨0, _⟩ => show win0_3.index t 0 * 640 + 1 * i.val = 640 * t.val + i.val; omega
  | ⟨1, _⟩ => show win0_3.index t 1 * 512 + 1 * k.val = k.val; omega

/-- Column `k` of the gates of branch `b`. -/
def gateCol (b : Fin 3) (k : Fin 1024) : Fin 8192 := ⟨5120 + 1024 * b.val + k.val, by omega⟩

theorem gate_a (c : Dev nD) (t : Fin cfg0.N) (i : Fin 640) (k : Fin 1024) :
    iblk m c 4 t (ix2 i k) = m ((c : Thread nD τ).loc main_arg4) (ix2 (rowOf t i) (gateCol 0 k)) := by
  have hp := places t
  unfold iblk
  rw [← V_main_arg4 m c]
  refine congrArg (V m c main_arg4) (funext fun a => Fin.ext ?_)
  match a with
  | ⟨0, _⟩ => show win0_4.index t 0 * 640 + 1 * i.val = 640 * t.val + i.val; omega
  | ⟨1, _⟩ => show win0_4.index t 1 * 1024 + 1 * k.val = 5120 + 1024 * 0 + k.val; omega

theorem gate_b (c : Dev nD) (t : Fin cfg0.N) (i : Fin 640) (k : Fin 1024) :
    iblk m c 5 t (ix2 i k) = m ((c : Thread nD τ).loc main_arg4) (ix2 (rowOf t i) (gateCol 1 k)) := by
  have hp := places t
  unfold iblk
  rw [← V_main_arg4 m c]
  refine congrArg (V m c main_arg4) (funext fun a => Fin.ext ?_)
  match a with
  | ⟨0, _⟩ => show win0_5.index t 0 * 640 + 1 * i.val = 640 * t.val + i.val; omega
  | ⟨1, _⟩ => show win0_5.index t 1 * 1024 + 1 * k.val = 5120 + 1024 * 1 + k.val; omega

theorem gate_c (c : Dev nD) (t : Fin cfg0.N) (i : Fin 640) (k : Fin 1024) :
    iblk m c 6 t (ix2 i k) = m ((c : Thread nD τ).loc main_arg4) (ix2 (rowOf t i) (gateCol 2 k)) := by
  have hp := places t
  unfold iblk
  rw [← V_main_arg4 m c]
  refine congrArg (V m c main_arg4) (funext fun a => Fin.ext ?_)
  match a with
  | ⟨0, _⟩ => show win0_6.index t 0 * 640 + 1 * i.val = 640 * t.val + i.val; omega
  | ⟨1, _⟩ => show win0_6.index t 1 * 1024 + 1 * k.val = 5120 + 1024 * 2 + k.val; omega

theorem wa_block (c : Dev nD) (t : Fin cfg0.N) (i : Fin 512) (k : Fin 1024) :
    iblk m c 7 t (ix2 i k) = m ((c : Thread nD τ).loc main_arg5) (ix2 i k) := by
  have hp := places t
  unfold iblk
  entry_read
  refine congrArg (m ((c : Thread nD τ).loc main_arg5)) (funext fun a => Fin.ext ?_)
  match a with
  | ⟨0, _⟩ => show win0_7.index t 0 * 512 + 1 * i.val = i.val; omega
  | ⟨1, _⟩ => show win0_7.index t 1 * 1024 + 1 * k.val = k.val; omega

theorem wb_block (c : Dev nD) (t : Fin cfg0.N) (i : Fin 512) (k : Fin 1024) :
    iblk m c 8 t (ix2 i k) = m ((c : Thread nD τ).loc main_arg6) (ix2 i k) := by
  have hp := places t
  unfold iblk
  entry_read
  refine congrArg (m ((c : Thread nD τ).loc main_arg6)) (funext fun a => Fin.ext ?_)
  match a with
  | ⟨0, _⟩ => show win0_8.index t 0 * 512 + 1 * i.val = i.val; omega
  | ⟨1, _⟩ => show win0_8.index t 1 * 1024 + 1 * k.val = k.val; omega

theorem wc_block (c : Dev nD) (t : Fin cfg0.N) (i : Fin 512) (k : Fin 1024) :
    iblk m c 9 t (ix2 i k) = m ((c : Thread nD τ).loc main_arg7) (ix2 i k) := by
  have hp := places t
  unfold iblk
  entry_read
  refine congrArg (m ((c : Thread nD τ).loc main_arg7)) (funext fun a => Fin.ext ?_)
  match a with
  | ⟨0, _⟩ => show win0_9.index t 0 * 512 + 1 * i.val = i.val; omega
  | ⟨1, _⟩ => show win0_9.index t 1 * 1024 + 1 * k.val = k.val; omega

theorem wo_block (c : Dev nD) (t : Fin cfg0.N) (i : Fin 1024) (k : Fin 1024) :
    iblk m c 10 t (ix2 i k) = m ((c : Thread nD τ).loc main_arg8) (ix2 i k) := by
  have hp := places t
  unfold iblk
  entry_read
  refine congrArg (m ((c : Thread nD τ).loc main_arg8)) (funext fun a => Fin.ext ?_)
  match a with
  | ⟨0, _⟩ => show win0_10.index t 0 * 1024 + 1 * i.val = i.val; omega
  | ⟨1, _⟩ => show win0_10.index t 1 * 1024 + 1 * k.val = k.val; omega

end Cert.MergeWalk
end
-- ==== Proof.MergeTable.lean ====
module

public import proofs.«01_k».proof.Proof.MergeBlock
public import proofs.«01_k».proof.Proof.Gen.MergeRefIdeal.Read

/-! # The two result arrays of the merge -/

@[expose] public section

set_option maxRecDepth 65536

noncomputable section

namespace Cert.MergeWalk

open Cert.MergeIdeal Cert.MergeIdeal.Gen Cert.MergeIdeal.Value
open Idealize.ShloMosaic Idealize.ShloMosaic.TcCoe Idealize.SL.Sem

/-- The merged rows: a token's row, plus its three gated branches through the output projection. -/
def merged (x : S16640x1024.Idx → EReal) (oa ob oc : S16640x512.Idx → EReal) (p : S16640x8192.Idx → EReal)
    (wa wb wc : S512x1024.Idx → EReal) (wo : S1024x1024.Idx → EReal) (n : Fin 16640) (d : Fin 1024) : EReal :=
  x (ix2 n d) + ∑ k : Fin 1024, ((gate (p (ix2 n (gateCol 0 k))) * branch (fun j => oa (ix2 n j)) (fun j => wa (ix2 j k))
      + gate (p (ix2 n (gateCol 1 k))) * branch (fun j => ob (ix2 n j)) (fun j => wb (ix2 j k)))
      + gate (p (ix2 n (gateCol 2 k))) * branch (fun j => oc (ix2 n j)) (fun j => wc (ix2 j k))) * wo (ix2 k d)

variable (m : (ℓ : Loc nD τ sig) → Buf (Elt Ideal) ℓ)

/-- `merged` of the arguments. -/
def table (c : Dev nD) (i : S16640x1024.Idx) : EReal :=
  merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (i 0) (i 1)

/-- What point `t` writes back. -/
theorem written (c : Dev nD) (t : Fin cfg0.N) (i : Fin 640) (d : Fin 1024) :
    (dats m 0 c).flushed 11 t (ix2 i d) = table m c (ix2 (rowOf t i) d) := by
  rw [flushed11]
  refine (tile_at _ _ _ _ _ _ _ _ _ _ _ i d).trans ?_
  simp only [x_block, a_block, b_block, c_block, gate_a, gate_b, gate_c, wa_block, wb_block, wc_block, wo_block]
  rfl

/-- The block of point `t` is tile `t`, all columns. -/
theorem mem_block (t : Fin cfg0.N) (i : S16640x1024.Idx) : i ∈ ((cfg0.win 11).blk t).view.set ↔
    (t.val * 640 ≤ (i 0).val ∧ (i 0).val < t.val * 640 + 640) ∧ (0 * 1024 ≤ (i 1).val ∧ (i 1).val < 0 * 1024 + 1024) := by
  have hp := (places t).2.2.2.2.2.2.2.2.2.2.2
  show i ∈ ((View.whole main_v4).slice (win0_11.rect t)).set ↔ _
  rw [View.set_slice_whole, Rect.mem_set_unit, ← hp.1, ← hp.2]
  exact ⟨fun h => ⟨h 0, h 1⟩, fun h a => match a with
    | ⟨0, _⟩ => h.1
    | ⟨1, _⟩ => h.2⟩

theorem covered (i : S16640x1024.Idx) : ∃ t : Fin cfg0.N, (cfg0.win 11).flush t = true ∧ i ∈ ((cfg0.win 11).blk t).view.set := by
  have h0 : (i 0).val < 16640 := (i 0).isLt
  have h1 : (i 1).val < 1024 := (i 1).isLt
  refine ⟨⟨(i 0).val / 640, by rw [points]; omega⟩, flush0_11 _, ?_⟩
  rw [mem_block]
  dsimp only
  omega

/-- The kernel's result array. -/
theorem kernel_table (c : Dev nD) : (dats m 0 c).arrAt 11 cfg0.N = table m c := by
  refine (dats m 0 c).arrAt_eq_of_cover 11 _ (fun t _ => ?_) covered
  have hp := (places t).2.2.2.2.2.2.2.2.2.2.2
  have key : ∀ (i : Fin 640) (d : Fin 1024), (dats m 0 c).flushed 11 t (ix2 i d)
      = ((cfg0.win 11).blk t).view.read (Elt Ideal) (table m c) (ix2 i d) := by
    intro i d
    refine (written m c t i d).trans ?_
    refine congrArg (table m c) (funext fun a => Fin.ext ?_)
    match a with
    | ⟨0, _⟩ => show 640 * t.val + i.val = win0_11.index t 0 * 640 + 1 * i.val; omega
    | ⟨1, _⟩ => show d.val = win0_11.index t 1 * 1024 + 1 * d.val; omega
  funext j
  have e : j = ix2 (j 0) (j 1) := eq_ix2 j
  rw [e]
  exact key (j 0) (j 1)

end Cert.MergeWalk

namespace Cert.MergeRef

open Cert.MergeRefIdeal Cert.MergeRefIdeal.Read Cert.MergeWalk
open Idealize.ShloMosaic Idealize.ShloMosaic.TcCoe Idealize.SL.Sem

variable (x0 : (⟨S16640x1024, .f32⟩ : BufTy).Contents (Elt Ideal)) (x1 x2 x3 : (⟨S16640x512, .bf16⟩ : BufTy).Contents (Elt Ideal))
  (x4 : (⟨S16640x8192, .f32⟩ : BufTy).Contents (Elt Ideal)) (x5 x6 x7 : (⟨S512x1024, .f32⟩ : BufTy).Contents (Elt Ideal))
  (x8 : (⟨S1024x1024, .f32⟩ : BufTy).Contents (Elt Ideal))

theorem one_word : Ideal.ofBits .f32 0x3F800000#32 = 1 := by
  simp [Ideal.ofBits, Ideal.ieee, -EReal.coe_mul]
  norm_num

/-- A gate of the reference. -/
theorem gate_at (n : Fin 16640) (k : Fin 3072) :
    val_main_v6 (F := Ideal) x4 (ix2 n k) = gate (x4 (ix2 n ⟨5120 + k.val, by omega⟩)) := by
  rw [val_main_v6_apply, val_main_v5_apply, val_main_v4_apply, val_main_v3_apply, val_main_v2_apply, val_main_v1_apply, val_main_v0_apply,
    val_main_cst_0_apply, val_main_cst_apply]
  simp only [Ideal.hostDivf_def, Ideal.addf_def, Ideal.hostUnary_exp_def, Ideal.hostNegf_def, Ideal.negf_def]
  show Ideal.div (Ideal.ofBits .f32 0x3F800000#32) (Ideal.ofBits .f32 0x3F800000#32 + Ideal.exp (-x4 (idx_main_v0 (ix2 n k)))) = _
  rw [one_word]
  unfold gate
  rw [zero_sub]
  refine congrArg (fun z => Ideal.div 1 (1 + Ideal.exp (-(x4 z)))) (funext fun a => ?_)
  match a with
  | ⟨0, _⟩ => rfl
  | ⟨1, _⟩ => rfl

/-- The gates of the three branches. -/
theorem gate_first (n : Fin 16640) (k : Fin 1024) : val_main_v7 (F := Ideal) x4 (ix2 n k) = gate (x4 (ix2 n (gateCol 0 k))) := by
  rw [val_main_v7_apply]
  refine ((congrArg (val_main_v6 (F := Ideal) x4) (?_ : _ = ix2 n ⟨k.val, by omega⟩)).trans (gate_at x4 n _)).trans ?_
  · exact eq_ix2 _
  · refine congrArg (fun z => gate (x4 (ix2 n z))) (Fin.ext ?_)
    show 5120 + k.val = 5120 + 1024 * 0 + k.val
    omega

theorem gate_second (n : Fin 16640) (k : Fin 1024) : val_main_v11 (F := Ideal) x4 (ix2 n k) = gate (x4 (ix2 n (gateCol 1 k))) := by
  rw [val_main_v11_apply]
  refine ((congrArg (val_main_v6 (F := Ideal) x4) (?_ : _ = ix2 n ⟨1024 + k.val, by omega⟩)).trans (gate_at x4 n _)).trans ?_
  · exact eq_ix2 _
  · refine congrArg (fun z => gate (x4 (ix2 n z))) (Fin.ext ?_)
    show 5120 + (1024 + k.val) = 5120 + 1024 * 1 + k.val
    omega

theorem gate_third (n : Fin 16640) (k : Fin 1024) : val_main_v16 (F := Ideal) x4 (ix2 n k) = gate (x4 (ix2 n (gateCol 2 k))) := by
  rw [val_main_v16_apply]
  refine ((congrArg (val_main_v6 (F := Ideal) x4) (?_ : _ = ix2 n ⟨2048 + k.val, by omega⟩)).trans (gate_at x4 n _)).trans ?_
  · exact eq_ix2 _
  · refine congrArg (fun z => gate (x4 (ix2 n z))) (Fin.ext ?_)
    show 5120 + (2048 + k.val) = 5120 + 1024 * 2 + k.val
    omega

/-- The branch products. -/
theorem product_first (n : Fin 16640) (k : Fin 1024) :
    val_main_v9 (F := Ideal) x1 x5 (ix2 n k) = branch (fun j => x1 (ix2 n j)) (fun j => x5 (ix2 j k)) := by
  rw [val_main_v9_apply]
  refine Finset.sum_congr rfl fun j _ => congrArg₂ (· * ·) ((val_main_v8_apply x1 _).trans (congrArg x1 ?_)) (congrArg x5 ?_)
  · exact eq_ix2 _
  · exact eq_ix2 _

theorem product_second (n : Fin 16640) (k : Fin 1024) :
    val_main_v13 (F := Ideal) x2 x6 (ix2 n k) = branch (fun j => x2 (ix2 n j)) (fun j => x6 (ix2 j k)) := by
  rw [val_main_v13_apply]
  refine Finset.sum_congr rfl fun j _ => congrArg₂ (· * ·) ((val_main_v12_apply x2 _).trans (congrArg x2 ?_)) (congrArg x6 ?_)
  · exact eq_ix2 _
  · exact eq_ix2 _

theorem product_third (n : Fin 16640) (k : Fin 1024) :
    val_main_v18 (F := Ideal) x3 x7 (ix2 n k) = branch (fun j => x3 (ix2 n j)) (fun j => x7 (ix2 j k)) := by
  rw [val_main_v18_apply]
  refine Finset.sum_congr rfl fun j _ => congrArg₂ (· * ·) ((val_main_v17_apply x3 _).trans (congrArg x3 ?_)) (congrArg x7 ?_)
  · exact eq_ix2 _
  · exact eq_ix2 _

/-- The reference's result at an entry. -/
theorem merged_at (n : Fin 16640) (d : Fin 1024) :
    val_main_v22 (F := Ideal) x0 x1 x2 x3 x4 x5 x6 x7 x8 (ix2 n d) = merged x0 x1 x2 x3 x4 x5 x6 x7 x8 n d := by
  rw [val_main_v22_apply, val_main_v21_apply]
  simp only [Ideal.addf_def]
  refine congrArg (x0 (ix2 n d) + ·) (Finset.sum_congr rfl fun k _ => congrArg₂ (· * ·) ?_ (congrArg x8 (eq_ix2 _)))
  have e : lidx_main_v21 (ix2 n d) k = ix2 n k := eq_ix2 _
  rw [e, val_main_v20_apply, val_main_v15_apply, val_main_v10_apply, val_main_v14_apply, val_main_v19_apply,
    gate_first, gate_second, gate_third, product_first, product_second, product_third]
  simp only [Ideal.addf_def, Ideal.mulf_def]

theorem reference_table (i : S16640x1024.Idx) :
    val_main_v22 (F := Ideal) x0 x1 x2 x3 x4 x5 x6 x7 x8 i = merged x0 x1 x2 x3 x4 x5 x6 x7 x8 (i 0) (i 1) := by
  have e : i = ix2 (i 0) (i 1) := eq_ix2 i
  exact (congrArg (val_main_v22 (F := Ideal) x0 x1 x2 x3 x4 x5 x6 x7 x8) e).trans (merged_at x0 x1 x2 x3 x4 x5 x6 x7 x8 (i 0) (i 1))

end Cert.MergeRef
end
-- ==== Proof.MoeRefTable.lean ====
module

public import proofs.«01_k».proof.Proof.MoeTable
public import proofs.«01_k».proof.Proof.MergeTable
public import proofs.«01_k».proof.Proof.Finite
public import proofs.«01_k».proof.Pre_moe_gates

/-! # The experts' reference, entry by entry -/

@[expose] public section

set_option maxRecDepth 65536

noncomputable section

namespace Cert.MoeRef

open Cert.MoeRefIdeal Cert.MoeRefIdeal.Read Cert.MoeWalk Cert.FfnWalk
open Idealize.ShloMosaic Idealize.ShloMosaic.TcCoe Idealize.SL.Sem

variable (x0 : (⟨S16640x1024, .f32⟩ : BufTy).Contents (Elt Ideal)) (x1 : (⟨S1024, .f32⟩ : BufTy).Contents (Elt Ideal))
  (x2 : (⟨S16640x128, .f32⟩ : BufTy).Contents (Elt Ideal)) (x3 x4 : (⟨S8x1024x3584, .f32⟩ : BufTy).Contents (Elt Ideal))
  (x5 : (⟨S8x3584x1024, .f32⟩ : BufTy).Contents (Elt Ideal)) (x6 : (⟨S1024, .f32⟩ : BufTy).Contents (Elt Ideal))

/-- The reference's normalised rows. -/
theorem normed_row (n : Fin 16640) (k : Fin 1024) :
    val_main_v12 (F := Ideal) x0 x1 (ix2 n k) = normed (fun j => x0 (ix2 n j)) (fun j => x1 (ix1 j)) k := by
  rw [val_main_v12_apply, val_main_v11_apply, val_main_v10_apply, val_main_v9_apply, val_main_v8_apply, val_main_v7_apply,
    val_main_v6_apply, val_main_v5_apply, val_main_v4_apply, val_main_v3_apply, val_main_v2_apply, val_main_v1_apply]
  simp only [val_main_v0_apply, val_main_cst_apply, val_main_cst_0_apply, val_main_cst_1_apply]
  simp only [Ideal.hostDivf_def, Ideal.addf_def, Ideal.mulf_def]
  have e : ∀ j : Fin 1024, idx_main_v1 (idx_main_v2 (idx_main_v8 (ix2 n k))) j = ix2 n j := fun j => eq_ix2 _
  have e' : idx_main_v10 (idx_main_v11 (ix2 n k)) = ix1 k := eq_ix1 _
  have z : FloatOps.ofBits (F := Ideal) .f32 0x00000000#32 = 0 := Ideal.ofBits_zero .f32
  rw [z, zero_add, e']
  simp only [e]
  rfl

/-- The reference's hidden columns of an expert. -/
theorem hidden_row (e : Fin 8) (n : Fin 16640) (f : Fin 3584) :
    val_main_v18 (F := Ideal) x0 x1 x3 x4 (ix3 e n f)
      = hidden (normed (fun j => x0 (ix2 n j)) (fun j => x1 (ix1 j))) (fun k => x3 (ix3 e k f)) (fun k => x4 (ix3 e k f)) := by
  have eg : val_main_v14 (F := Ideal) x0 x1 x3 (ix3 e n f)
      = ∑ k, normed (fun j => x0 (ix2 n j)) (fun j => x1 (ix1 j)) k * x3 (ix3 e k f) := by
    rw [val_main_v14_apply, val_main_v13_apply]
    refine Finset.sum_congr rfl fun k _ => (mul_comm _ _).trans (congrArg₂ (· * ·) ((congrArg _ (?_ : _ = ix2 n k)).trans (normed_row x0 x1 n k)) (congrArg x3 ?_))
    · exact eq_ix2 _
    · exact eq_ix3 _
  have eu : val_main_v17 (F := Ideal) x0 x1 x4 (ix3 e n f)
      = ∑ k, normed (fun j => x0 (ix2 n j)) (fun j => x1 (ix1 j)) k * x4 (ix3 e k f) := by
    rw [val_main_v17_apply, val_main_v16_apply]
    refine Finset.sum_congr rfl fun k _ => (mul_comm _ _).trans (congrArg₂ (· * ·) ((congrArg _ (?_ : _ = ix2 n k)).trans (normed_row x0 x1 n k)) (congrArg x4 ?_))
    · exact eq_ix2 _
    · exact eq_ix3 _
  rw [val_main_v18_apply, val_main_v15_apply, val_main_call0_v5_apply, val_main_call0_v4_apply, val_main_call0_v3_apply,
    val_main_call0_v2_apply, val_main_call0_v1_apply, val_main_call0_v0_apply, val_main_call0_cst_0_apply, val_main_call0_cst_apply, eg, eu]
  simp only [Ideal.hostDivf_def, Ideal.addf_def, Ideal.mulf_def, Ideal.hostUnary_exp_def, Ideal.hostNegf_def, Ideal.negf_def]
  have one : FloatOps.ofBits (F := Ideal) .f32 0x3F800000#32 = 1 := Cert.MergeRef.one_word
  rw [one]
  unfold FfnWalk.hidden
  rw [zero_sub]

/-- An expert's output, times the tokens' gates for it. -/
theorem gated_at (e : Fin 8) (n : Fin 16640) (d : Fin 1024) :
    val_main_v24 (F := Ideal) x0 x1 x2 x3 x4 x5 (ix3 e n d) = x2 (ix2 n (lane e)) * ∑ f : Fin 3584, part x0 x1 x3 x4 x5 n d e f := by
  rw [val_main_v24_apply, val_main_v23_apply, val_main_v22_apply, val_main_v21_apply, val_main_v20_apply, val_main_v19_apply, Ideal.mulf_def]
  refine congrArg₂ (· * ·) (congrArg x2 ?_) (Finset.sum_congr rfl fun f _ => congrArg₂ (· * ·) ((congrArg _ (?_ : _ = ix3 e n f)).trans (hidden_row x0 x1 x3 x4 e n f)) (congrArg x5 ?_))
  · exact eq_ix2 _
  · exact eq_ix3 _
  · exact eq_ix3 _

/-- The rows before the last normalisation. -/
theorem row_at (n : Fin 16640) (d : Fin 1024) :
    val_main_v26 (F := Ideal) x0 x1 x2 x3 x4 x5 (ix2 n d)
      = x0 (ix2 n d) + ∑ e : Fin 8, x2 (ix2 n (lane e)) * ∑ f : Fin 3584, part x0 x1 x3 x4 x5 n d e f := by
  rw [val_main_v26_apply, val_main_v25_apply, val_main_cst_2_apply, Ideal.addf_def]
  have z : FloatOps.ofBits (F := Ideal) .f32 0x00000000#32 = 0 := Ideal.ofBits_zero .f32
  rw [z, zero_add]
  refine congrArg (_ + ·) (Finset.sum_congr rfl fun e _ => (congrArg _ (?_ : _ = ix3 e n d)).trans (gated_at x0 x1 x2 x3 x4 x5 e n d))
  exact eq_ix3 _

/-- The reference's result array. -/
theorem reference_table (i : S16640x1024.Idx) : val_main_v39 (F := Ideal) x0 x1 x2 x3 x4 x5 x6 i = fed x0 x1 x2 x3 x4 x5 x6 (i 0) (i 1) := by
  obtain ⟨n, d, rfl⟩ : ∃ n d, i = ix2 n d := ⟨i 0, i 1, eq_ix2 i⟩
  rw [val_main_v39_apply, val_main_v38_apply, val_main_v37_apply, val_main_v36_apply, val_main_v35_apply, val_main_v34_apply,
    val_main_v33_apply, val_main_v32_apply, val_main_v31_apply, val_main_v30_apply, val_main_v29_apply, val_main_v28_apply]
  simp only [val_main_v27_apply, val_main_cst_3_apply, val_main_cst_4_apply, val_main_cst_5_apply]
  simp only [Ideal.hostDivf_def, Ideal.addf_def, Ideal.mulf_def]
  have e : ∀ j : Fin 1024, idx_main_v28 (idx_main_v29 (idx_main_v35 (ix2 n d))) j = ix2 n j := fun j => eq_ix2 _
  have e' : idx_main_v37 (idx_main_v38 (ix2 n d)) = ix1 d := eq_ix1 _
  have z : FloatOps.ofBits (F := Ideal) .f32 0x00000000#32 = 0 := Ideal.ofBits_zero .f32
  rw [z, zero_add, e']
  simp only [e, row_at]
  rfl

end Cert.MoeRef

namespace Cert.MoeWalk

open Idealize.ShloMosaic Idealize.ShloMosaic.TcCoe

open Cert.Pre_moe_gates Cert.Pre_moe_gates.Facts in
/-- The precondition, read entry by entry. -/
theorem gates_read [Cert.Pre_moe_gates.Facts] (x0 : S16640x1024.Idx → EReal) (x1 : S1024.Idx → EReal) (x2 : S16640x128.Idx → EReal)
    (x3 x4 : S8x1024x3584.Idx → EReal) (x5 : S8x3584x1024.Idx → EReal) (x6 : S1024.Idx → EReal)
    (h : Cert.Pre_moe_gates.fn (F := Ideal) x0 x1 x2 x3 x4 x5 x6 = fun _ => 1#1) : Gates x2 := by
  haveI : Subsingleton S_.Idx := ⟨fun a b => funext fun d => d.elim0⟩
  have g := congrFun h ix0
  unfold Cert.Pre_moe_gates.fn at g
  intro n e
  have b := Host.reduce_andi_all _ _ _ _ _ g (ix2 n e)
  have at_lane : extractStridedSlice S16640x8 ![0, 0] x2 slices_S16640x128_S16640x8_0_0 (ix2 n e) = x2 (ix2 n (lane e)) := by
    refine congrArg x2 (funext fun a => Fin.ext ?_)
    match a with
    | ⟨0, _⟩ => show 0 + n.val = n.val; omega
    | ⟨1, _⟩ => show 0 + e.val = e.val; omega
  have r := Cert.DiffWalk.real_of_below _ b
  dsimp only at r
  rwa [at_lane] at r

end Cert.MoeWalk
end
-- ==== Proof.FfnBlock.lean ====
module

public import proofs.«01_k».proof.Proof.Gen.FfnIdeal.Value
public import proofs.«01_k».proof.Proof.FfnMath
public import Idealize.ShloMosaic.Lib.Pointwise
public import Idealize.ShloMosaic.Lib.Pipeline.ValueKit
public import Idealize.ShloMosaic.Lib.VecWindow

/-! # One point of the feed-forward

A tile is 1280 tokens.  Its normalised rows are kept for the eleven groups of 256 hidden columns, and each group adds its
part to an accumulator. -/

@[expose] public section

set_option maxRecDepth 65536

noncomputable section

namespace Cert.FfnWalk

open Cert.FfnIdeal Cert.FfnIdeal.Gen
open Idealize.ShloMosaic Idealize.ShloMosaic.TcCoe Idealize.SL.Sem

/-- The normalised rows as the first point stores them. -/
theorem normed_at (x : Vec Ideal S1280x1024 .f32) (w : Vec Ideal S1x1024 .f32) (i : Fin 1280) (k : Fin 1024) :
    k0_pay2 x w (ix2 i k) = normed (fun j => x (ix2 i j)) (fun j => w (ix2 0 j)) k := by
  unfold k0_pay2
  rw [shapeCast_self, shapeCast_self]
  pointwise []
  rfl

/-- The accumulator starts at zero. -/
theorem zero_at (i : Fin 1280) (d : Fin 1024) : k0_pay3 (F := Ideal) (ix2 i d) = 0 := by
  unfold k0_pay3
  rw [shapeCast_self]
  pointwise []

theorem squeeze_cols (w : Vec Ideal S1x1024x256 .bf16) (k : Fin 1024) (f : Fin 256) :
    shapeCast S1024x256 w shapeCasts_S1x1024x256_S1024x256 (ix2 k f) = w (ix3 0 k f) := by
  refine shapeCast_apply _ shapeCasts_S1x1024x256_S1024x256 _ (ix3 0 k f) ?_
  rw [Shape.rowMajor_val_two, Shape.rowMajor_val_three]
  show (0 * 1024 + k.val) * 256 + f.val = k.val * 256 + f.val
  omega

theorem squeeze_rows (w : Vec Ideal S1x256x1024 .bf16) (f : Fin 256) (d : Fin 1024) :
    shapeCast S256x1024 w shapeCasts_S1x256x1024_S256x1024 (ix2 f d) = w (ix3 0 f d) := by
  refine shapeCast_apply _ shapeCasts_S1x256x1024_S256x1024 _ (ix3 0 f d) ?_
  rw [Shape.rowMajor_val_two, Shape.rowMajor_val_three]
  show (0 * 256 + f.val) * 1024 + d.val = f.val * 1024 + d.val
  omega

/-- One group of hidden columns adds its part. -/
theorem part_at (h : Vec Ideal S1280x1024 .bf16) (wg wu : Vec Ideal S1x1024x256 .bf16) (wd : Vec Ideal S1x256x1024 .bf16)
    (a : Vec Ideal S1280x1024 .f32) (i : Fin 1280) (d : Fin 1024) :
    k0_pay4 h wg wu wd a (ix2 i d) = a (ix2 i d)
      + ∑ f : Fin 256, hidden (fun k => h (ix2 i k)) (fun k => wg (ix3 0 k f)) (fun k => wu (ix3 0 k f)) * wd (ix3 0 f d) := by
  simp only [← squeeze_cols, ← squeeze_rows]
  unfold k0_pay4
  rw [shapeCast_self]
  generalize shapeCast S1024x256 wg _ = g
  generalize shapeCast S1024x256 wu _ = u
  generalize shapeCast S256x1024 wd _ = e
  pointwise []
  rfl

/-- The last point adds the tokens' rows. -/
theorem last_at (x a : Vec Ideal S1280x1024 .f32) (i : Fin 1280) (d : Fin 1024) :
    k0_pay1 x a (ix2 i d) = x (ix2 i d) + a (ix2 i d) := by
  unfold k0_pay1
  pointwise []

section Stores

variable (c : Dev nD) (i : grid0.Coords) (arg3 : Memref sig .tc .vmem S1280x1024 .f32) (harg3 : arg3.IsWhole)
  (arg4 : Memref sig .tc .vmem S1x1024 .f32) (harg4 : arg4.IsWhole)
  (arg5 : Memref sig .tc .vmem S1280x128 .f32) (harg5 : arg5.IsWhole)
  (arg6 : Memref sig .tc .vmem S1x1024x256 .bf16) (harg6 : arg6.IsWhole)
  (arg7 : Memref sig .tc .vmem S1x1024x256 .bf16) (harg7 : arg7.IsWhole)
  (arg8 : Memref sig .tc .vmem S1x256x1024 .bf16) (harg8 : arg8.IsWhole)
  (arg9 : Memref sig .tc .vmem S1x1024 .f32) (harg9 : arg9.IsWhole)
  (arg10 : Memref sig .tc .vmem S1280x1024 .f32) (harg10 : arg10.IsWhole)
  (arg11 : Memref sig .tc .vmem S1280x1024 .bf16) (harg11 : arg11.IsWhole)
  (arg12 : Memref sig .tc .vmem S1280x1024 .f32) (harg12 : arg12.IsWhole)

variable {F : FTy → Type} [FloatOps F]
variable (x0 : Vec F S1280x1024 .f32) (x1 : Vec F S1x1024 .f32) (x2 : Vec F S1280x128 .f32) (x3 x4 : Vec F S1x1024x256 .bf16)
  (x5 : Vec F S1x256x1024 .bf16) (x6 : Vec F S1x1024 .f32) (xs0 : Vec F S1280x1024 .bf16) (xs1 : Vec F S1280x1024 .f32)

/-- The first point of a tile keeps the normalised rows. -/
theorem first_rows (hc0 : cond0_0 i) (hc1 : ¬cond0_1 i) :
    sout0_A_0 c i arg3 harg3 arg4 harg4 arg5 harg5 arg6 harg6 arg7 harg7 arg8 harg8 arg9 harg9 arg10 harg10 arg11 harg11 arg12 harg12 hc0 hc1 x0 x1 x2 x3 x4 x5 x6
      = k0_pay2 x0 x1 := by
  unfold sout0_A_0 kernelRun0_A
  dsimp only
  unfold kernelRun0_A.sl.HS0_1
  rw [View.read_writes_full]
  rw [View.readAt_full, View.readAt_full, harg3.read_unread, harg4.read_unread]

theorem first_sum (hc0 : cond0_0 i) (hc1 : ¬cond0_1 i) :
    sout0_A_1 c i arg3 harg3 arg4 harg4 arg5 harg5 arg6 harg6 arg7 harg7 arg8 harg8 arg9 harg9 arg10 harg10 arg11 harg11 arg12 harg12 hc0 hc1 x0 x1 x2 x3 x4 x5 x6
      = k0_pay4 (k0_pay2 x0 x1) x3 x4 x5 (k0_pay3 (F := F)) := by
  unfold sout0_A_1 kernelRun0_A
  dsimp only
  rw [View.read_writes_full]
  unfold kernelRun0_A.sl.v5 kernelRun0_A.sl.v25 kernelRun0_A.sl.HS0_1 kernelRun0_A.sl.HS1_1
  rw [View.readCov_full, View.readCov_full]
  repeat rw [View.readAt_full]
  rw [harg3.read_unread, harg4.read_unread, harg6.read_unread, harg7.read_unread, harg8.read_unread]

theorem next_sum (hc0 : ¬cond0_0 i) (hc1 : ¬cond0_1 i) :
    sout0_B_1 c i arg3 harg3 arg4 harg4 arg5 harg5 arg6 harg6 arg7 harg7 arg8 harg8 arg9 harg9 arg10 harg10 arg11 harg11 arg12 harg12 hc0 hc1 x0 x1 x2 x3 x4 x5 x6 xs0 xs1
      = k0_pay4 xs0 x3 x4 x5 xs1 := by
  unfold sout0_B_1 kernelRun0_B
  dsimp only
  rw [View.read_writes_full]
  repeat rw [View.readAt_full]
  rw [harg11.read_unread, harg6.read_unread, harg7.read_unread, harg8.read_unread, harg12.read_unread]

theorem last_rows (hc0 : ¬cond0_0 i) (hc1 : cond0_1 i) :
    out0_C_7 c i arg3 harg3 arg4 harg4 arg5 harg5 arg6 harg6 arg7 harg7 arg8 harg8 arg9 harg9 arg10 harg10 arg11 harg11 arg12 harg12 hc0 hc1 x0 x1 x2 x3 x4 x5 x6 xs0 xs1
      = k0_pay1 x0 (k0_pay4 xs0 x3 x4 x5 xs1) := by
  unfold out0_C_7 kernelRun0_C
  dsimp only
  rw [View.read_writes_full]
  unfold kernelRun0_C.sl.v36 kernelRun0_C.sl.HS1_1
  rw [View.readCov_full]
  repeat rw [View.readAt_full]
  rw [harg3.read_unread, harg11.read_unread, harg6.read_unread, harg7.read_unread, harg8.read_unread, harg12.read_unread]

end Stores

end Cert.FfnWalk
end
-- ==== Proof.FfnTable.lean ====
module

public import proofs.«01_k».proof.Proof.FfnBlock
public import proofs.«01_k».proof.Proof.MergeTable
public import proofs.«01_k».proof.Proof.Gen.FfnRefIdeal.Read

/-! # The feed-forward's result array

The kept rows are the tile's normalised rows at every point; the accumulator holds the sum over the hidden columns seen. -/

@[expose] public section

set_option maxRecDepth 65536

noncomputable section

namespace Cert.FfnWalk

open Cert.FfnIdeal Cert.FfnIdeal.Gen Cert.FfnIdeal.Value
open Idealize.ShloMosaic Idealize.ShloMosaic.TcCoe Idealize.SL.Sem

theorem points : cfg0.N = 143 := N_0

/-- Point `t` is tile `t / 11`, group `t % 11`. -/
theorem places : ∀ t : Fin cfg0.N, (win0_0.index t 0 = t.val / 11 ∧ win0_0.index t 1 = 0) ∧ (win0_1.index t 0 = 0 ∧ win0_1.index t 1 = 0)
    ∧ (win0_3.index t 0 = 0 ∧ win0_3.index t 1 = 0 ∧ win0_3.index t 2 = t.val % 11)
    ∧ (win0_4.index t 0 = 0 ∧ win0_4.index t 1 = 0 ∧ win0_4.index t 2 = t.val % 11)
    ∧ (win0_5.index t 0 = 0 ∧ win0_5.index t 1 = t.val % 11 ∧ win0_5.index t 2 = 0) ∧ (win0_7.index t 0 = t.val / 11 ∧ win0_7.index t 1 = 0) :=
  (by decide +kernel : ∀ t : Fin grid0.N, _)

/-- Row `i` of the tile of point `n`. -/
def rowOf (n : ℕ) (h : n < cfg0.N) (i : Fin 1280) : Fin 16640 := ⟨1280 * (n / 11) + i.val, by have := lt_of_lt_of_eq h points; omega⟩

/-- Hidden column `f` of group `n % 11`. -/
def colOf (n : ℕ) (f : Fin 256) : Fin 2816 := ⟨256 * (n % 11) + f.val, by omega⟩

variable (m : (ℓ : Loc nD τ sig) → Buf (Elt Ideal) ℓ)

theorem x_block (c : Dev nD) (t : Fin cfg0.N) (i : Fin 1280) (k : Fin 1024) :
    iblk m c 0 t (ix2 i k) = m ((c : Thread nD τ).loc main_arg0) (ix2 (rowOf t.val t.isLt i) k) := by
  have hp := places t
  unfold iblk
  rw [← V_main_arg0 m c]
  refine congrArg (V m c main_arg0) (funext fun a => Fin.ext ?_)
  match a with
  | ⟨0, _⟩ => show win0_0.index t 0 * 1280 + 1 * i.val = 1280 * (t.val / 11) + i.val; omega
  | ⟨1, _⟩ => show win0_0.index t 1 * 1024 + 1 * k.val = k.val; omega

theorem norm_block (c : Dev nD) (t : Fin cfg0.N) (k : Fin 1024) :
    iblk m c 1 t (ix2 0 k) = m ((c : Thread nD τ).loc main_arg1) (ix1 k) := by
  have hp := places t
  unfold iblk
  entry_read
  refine shapeCast_apply _ shapeCasts_S1024_S1x1024 _ (ix1 k) ?_
  rw [Shape.rowMajor_val_one, Shape.rowMajor_val_two]
  show k.val = (win0_1.index t 0 * 1 + 1 * 0) * 1024 + (win0_1.index t 1 * 1024 + 1 * k.val)
  omega

theorem gate_block (c : Dev nD) (t : Fin cfg0.N) (k : Fin 1024) (f : Fin 256) :
    iblk m c 3 t (ix3 0 k f) = m ((c : Thread nD τ).loc main_arg2) (ix2 k (colOf t.val f)) := by
  have hp := places t
  unfold iblk
  entry_read
  refine congrArg (m ((c : Thread nD τ).loc main_arg2)) (funext fun a => Fin.ext ?_)
  match a with
  | ⟨0, _⟩ => show win0_3.index t 1 * 1024 + 1 * k.val = k.val; omega
  | ⟨1, _⟩ => show win0_3.index t 2 * 256 + 1 * f.val = 256 * (t.val % 11) + f.val; omega

theorem up_block (c : Dev nD) (t : Fin cfg0.N) (k : Fin 1024) (f : Fin 256) :
    iblk m c 4 t (ix3 0 k f) = m ((c : Thread nD τ).loc main_arg3) (ix2 k (colOf t.val f)) := by
  have hp := places t
  unfold iblk
  entry_read
  refine congrArg (m ((c : Thread nD τ).loc main_arg3)) (funext fun a => Fin.ext ?_)
  match a with
  | ⟨0, _⟩ => show win0_4.index t 1 * 1024 + 1 * k.val = k.val; omega
  | ⟨1, _⟩ => show win0_4.index t 2 * 256 + 1 * f.val = 256 * (t.val % 11) + f.val; omega

theorem down_block (c : Dev nD) (t : Fin cfg0.N) (f : Fin 256) (d : Fin 1024) :
    iblk m c 5 t (ix3 0 f d) = m ((c : Thread nD τ).loc main_arg4) (ix2 (colOf t.val f) d) := by
  have hp := places t
  unfold iblk
  entry_read
  refine congrArg (m ((c : Thread nD τ).loc main_arg4)) (funext fun a => Fin.ext ?_)
  match a with
  | ⟨0, _⟩ => show win0_5.index t 1 * 256 + 1 * f.val = 256 * (t.val % 11) + f.val; omega
  | ⟨1, _⟩ => show win0_5.index t 2 * 1024 + 1 * d.val = d.val; omega

/-! ## The sum over the hidden columns -/

/-- The part of hidden column `f` in entry `n, d`. -/
def part (x : S16640x1024.Idx → EReal) (w : S1024.Idx → EReal) (wg wu : S1024x2816.Idx → EReal) (wd : S2816x1024.Idx → EReal)
    (n : Fin 16640) (d : Fin 1024) (f : Fin 2816) : EReal :=
  hidden (normed (fun j => x (ix2 n j)) (fun j => w (ix1 j))) (fun k => wg (ix2 k f)) (fun k => wu (ix2 k f)) * wd (ix2 f d)

/-- The sum of the first `j` groups of 256. -/
def upto (g : Fin 2816 → EReal) (j : ℕ) : EReal := ∑ s ∈ Finset.range (256 * j), if h : s < 2816 then g ⟨s, h⟩ else 0

theorem upto_zero (g : Fin 2816 → EReal) : upto g 0 = 0 := by simp [upto]

theorem upto_succ (g : Fin 2816 → EReal) (n : ℕ) : upto g (n % 11) + ∑ f : Fin 256, g (colOf n f) = upto g (n % 11 + 1) := by
  unfold upto
  rw [show 256 * (n % 11 + 1) = 256 * (n % 11) + 256 from by ring, Finset.sum_range_add, ← Fin.sum_univ_eq_sum_range
    (fun s => if h : 256 * (n % 11) + s < 2816 then g ⟨256 * (n % 11) + s, h⟩ else 0) 256]
  refine congrArg (_ + ·) (Finset.sum_congr rfl fun f _ => ?_)
  rw [dif_pos (by omega : 256 * (n % 11) + f.val < 2816)]
  rfl

theorem upto_all (g : Fin 2816 → EReal) : upto g 11 = ∑ f, g f := by
  unfold upto
  rw [← Fin.sum_univ_eq_sum_range (fun s => if h : s < 2816 then g ⟨s, h⟩ else 0) 2816]
  exact Finset.sum_congr rfl fun f _ => dif_pos f.isLt

/-- The part of a hidden column, of the arguments. -/
abbrev partOf (c : Dev nD) : Fin 16640 → Fin 1024 → Fin 2816 → EReal :=
  part (m ((c : Thread nD τ).loc main_arg0)) (m ((c : Thread nD τ).loc main_arg1)) (m ((c : Thread nD τ).loc main_arg2))
    (m ((c : Thread nD τ).loc main_arg3)) (m ((c : Thread nD τ).loc main_arg4))

/-- The normalised rows of the tile of point `n`. -/
abbrev rowsOf (c : Dev nD) (n : ℕ) (h : n < cfg0.N) (i : Fin 1280) : Fin 1024 → EReal :=
  normed (fun j => m ((c : Thread nD τ).loc main_arg0) (ix2 (rowOf n h i) j)) (fun j => m ((c : Thread nD τ).loc main_arg1) (ix1 j))

/-- One group, over kept rows that are the normalised rows. -/
theorem step_at (c : Dev nD) (t : Fin cfg0.N) (h : Vec Ideal S1280x1024 .bf16) (a : Vec Ideal S1280x1024 .f32)
    (hh : ∀ i k, h (ix2 i k) = rowsOf m c t.val t.isLt i k) (i : Fin 1280) (d : Fin 1024) :
    k0_pay4 h (iblk m c 3 t) (iblk m c 4 t) (iblk m c 5 t) a (ix2 i d)
      = a (ix2 i d) + ∑ f : Fin 256, partOf m c (rowOf t.val t.isLt i) d (colOf t.val f) := by
  refine (part_at h _ _ _ a i d).trans ?_
  simp only [hh, gate_block, up_block, down_block]
  rfl

theorem rows_first (c : Dev nD) (t : Fin cfg0.N) (i : Fin 1280) (k : Fin 1024) :
    k0_pay2 (F := Ideal) (iblk m c 0 t) (iblk m c 1 t) (ix2 i k) = rowsOf m c t.val t.isLt i k := by
  refine (normed_at _ _ i k).trans ?_
  simp only [x_block, norm_block]

/-- What the carried buffers hold after point `n`; the accumulator of a tile's last point is not carried on. -/
theorem carried (c : Dev nD) (n : ℕ) (h : n < cfg0.N) :
    (∀ i k, (outsAt0 m c n h).2.1 (ix2 i k) = rowsOf m c n h i k)
    ∧ (n % 11 ≠ 10 → ∀ i d, (outsAt0 m c n h).2.2 (ix2 i d) = upto (partOf m c (rowOf n h i) d) (n % 11 + 1)) := by
  have first : ∀ (t : Fin cfg0.N), t.val % 11 = 0 →
      (∀ i k, (outsAt0 m c t.val t.isLt).2.1 (ix2 i k) = rowsOf m c t.val t.isLt i k)
      ∧ (t.val % 11 ≠ 10 → ∀ i d, (outsAt0 m c t.val t.isLt).2.2 (ix2 i d) = upto (partOf m c (rowOf t.val t.isLt i) d) (t.val % 11 + 1)) := by
    intro t h0
    rw [outsAt0_A m c t h0 (by omega)]
    dsimp only
    refine ⟨fun i k => (congrFun (first_rows ..) (ix2 i k)).trans (rows_first m c t i k), fun _ i d => ?_⟩
    refine (congrFun (first_sum ..) (ix2 i d)).trans ((step_at m c t _ _ (rows_first m c t) i d).trans ?_)
    rw [zero_at, ← upto_zero (partOf m c (rowOf t.val t.isLt i) d), ← h0]
    exact upto_succ _ t.val
  induction n with
  | zero => exact first ⟨0, h⟩ rfl
  | succ n ih =>
    by_cases h0 : (n + 1) % 11 = 0
    · exact first ⟨n + 1, h⟩ h0
    · obtain ⟨ir, is⟩ := ih ((Nat.lt_succ_self n).trans h)
      have hr : ∀ i, rowOf n ((Nat.lt_succ_self n).trans h) i = rowOf (n + 1) h i :=
        fun i => Fin.ext (by show 1280 * (n / 11) + i.val = 1280 * ((n + 1) / 11) + i.val; omega)
      have hn : n % 11 + 1 = (n + 1) % 11 := by omega
      simp only [hr, rowsOf] at ir
      have is := is (by omega)
      simp only [hr, hn] at is
      by_cases h1 : (n + 1) % 11 = 10
      · have e := outsAt0_C m c ⟨n + 1, h⟩ h0 h1
        dsimp only at e
        rw [e]
        dsimp only
        exact ⟨ir, fun hne => absurd h1 hne⟩
      · have e := outsAt0_B m c ⟨n + 1, h⟩ h0 h1
        dsimp only at e
        rw [e]
        dsimp only
        refine ⟨ir, fun _ i d => ?_⟩
        refine (congrFun (next_sum ..) (ix2 i d)).trans ((step_at m c ⟨n + 1, h⟩ _ _ ir i d).trans ?_)
        refine (congrArg (· + _) (is i d)).trans (upto_succ _ (n + 1))

/-! ## The result -/

/-- The feed-forward's rows: a token's row, plus its normalised row through the gated hidden columns. -/
def fed (x : S16640x1024.Idx → EReal) (w : S1024.Idx → EReal) (wg wu : S1024x2816.Idx → EReal) (wd : S2816x1024.Idx → EReal)
    (n : Fin 16640) (d : Fin 1024) : EReal :=
  x (ix2 n d) + ∑ f : Fin 2816, part x w wg wu wd n d f

/-- `fed` of the arguments. -/
def table (c : Dev nD) (i : S16640x1024.Idx) : EReal :=
  fed (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- What the last point of a tile writes back. -/
theorem written (c : Dev nD) (t : Fin cfg0.N) (h1 : t.val % 11 = 10) (i : Fin 1280) (d : Fin 1024) :
    (dats m 0 c).flushed 7 t (ix2 i d) = table m c (ix2 (rowOf t.val t.isLt i) d) := by
  have hlt := t.isLt
  obtain ⟨ir, is⟩ := carried m c (t.val - 1) (by omega)
  have hr : ∀ i, rowOf (t.val - 1) (by omega) i = rowOf t.val t.isLt i :=
    fun i => Fin.ext (by show 1280 * ((t.val - 1) / 11) + i.val = 1280 * (t.val / 11) + i.val; omega)
  have hn : (t.val - 1) % 11 + 1 = t.val % 11 := by omega
  have is := is (by omega)
  simp only [hr, rowsOf] at ir
  simp only [hr, hn] at is
  rw [flushed7_C m c t (by omega) h1]
  refine (congrFun (last_rows ..) (ix2 i d)).trans ((last_at _ _ i d).trans ?_)
  rw [x_block]
  refine congrArg (fun z : EReal => (show EReal from m ((c : Thread nD τ).loc main_arg0) (ix2 (rowOf t.val t.isLt i) d)) + z) ((step_at m c t _ _ ir i d).trans ((congrArg (· + _) (is i d)).trans ((upto_succ _ t.val).trans ?_)))
  rw [h1]
  exact upto_all _

theorem mem_block (t : Fin cfg0.N) (i : S16640x1024.Idx) : i ∈ ((cfg0.win 7).blk t).view.set ↔
    (t.val / 11 * 1280 ≤ (i 0).val ∧ (i 0).val < t.val / 11 * 1280 + 1280) ∧ (0 * 1024 ≤ (i 1).val ∧ (i 1).val < 0 * 1024 + 1024) := by
  have hp := (places t).2.2.2.2.2
  show i ∈ ((View.whole main_v9).slice (win0_7.rect t)).set ↔ _
  rw [View.set_slice_whole, Rect.mem_set_unit, ← hp.1, ← hp.2]
  exact ⟨fun h => ⟨h 0, h 1⟩, fun h a => match a with
    | ⟨0, _⟩ => h.1
    | ⟨1, _⟩ => h.2⟩

theorem covered (i : S16640x1024.Idx) : ∃ t : Fin cfg0.N, (cfg0.win 7).flush t = true ∧ i ∈ ((cfg0.win 7).blk t).view.set := by
  have h0 : (i 0).val < 16640 := (i 0).isLt
  have h1 : (i 1).val < 1024 := (i 1).isLt
  refine ⟨⟨11 * ((i 0).val / 1280) + 10, by rw [points]; omega⟩, (flush0_7 _).mpr (by dsimp only; omega), ?_⟩
  rw [mem_block]
  dsimp only
  omega

/-- The kernel's result array. -/
theorem kernel_table (c : Dev nD) : (dats m 0 c).arrAt 7 cfg0.N = table m c := by
  refine (dats m 0 c).arrAt_eq_of_cover 7 _ (fun t ht => ?_) covered
  have hp := (places t).2.2.2.2.2
  have key : ∀ (i : Fin 1280) (d : Fin 1024), (dats m 0 c).flushed 7 t (ix2 i d)
      = ((cfg0.win 7).blk t).view.read (Elt Ideal) (table m c) (ix2 i d) := by
    intro i d
    refine (written m c t ((flush0_7 t).mp ht) i d).trans ?_
    refine congrArg (table m c) (funext fun a => Fin.ext ?_)
    match a with
    | ⟨0, _⟩ => show 1280 * (t.val / 11) + i.val = win0_7.index t 0 * 1280 + 1 * i.val; omega
    | ⟨1, _⟩ => show d.val = win0_7.index t 1 * 1024 + 1 * d.val; omega
  funext j
  have e : j = ix2 (j 0) (j 1) := eq_ix2 j
  rw [e]
  exact key (j 0) (j 1)

end Cert.FfnWalk

namespace Cert.FfnRef

open Cert.FfnRefIdeal Cert.FfnRefIdeal.Read Cert.FfnWalk
open Idealize.ShloMosaic Idealize.ShloMosaic.TcCoe Idealize.SL.Sem

variable (x0 : (⟨S16640x1024, .f32⟩ : BufTy).Contents (Elt Ideal)) (x1 : (⟨S1024, .f32⟩ : BufTy).Contents (Elt Ideal))
  (x2 x3 : (⟨S1024x2816, .f32⟩ : BufTy).Contents (Elt Ideal)) (x4 : (⟨S2816x1024, .f32⟩ : BufTy).Contents (Elt Ideal))

/-- The reference's normalised rows. -/
theorem normed_row (n : Fin 16640) (k : Fin 1024) :
    val_main_v12 (F := Ideal) x0 x1 (ix2 n k) = normed (fun j => x0 (ix2 n j)) (fun j => x1 (ix1 j)) k := by
  rw [val_main_v12_apply, val_main_v11_apply, val_main_v10_apply, val_main_v9_apply, val_main_v8_apply, val_main_v7_apply,
    val_main_v6_apply, val_main_v5_apply, val_main_v4_apply, val_main_v3_apply, val_main_v2_apply, val_main_v1_apply]
  simp only [val_main_v0_apply, val_main_cst_apply, val_main_cst_0_apply, val_main_cst_1_apply]
  simp only [Ideal.hostDivf_def, Ideal.addf_def, Ideal.mulf_def]
  have e : ∀ j : Fin 1024, idx_main_v1 (idx_main_v2 (idx_main_v8 (ix2 n k))) j = ix2 n j := fun j => eq_ix2 _
  have e' : idx_main_v10 (idx_main_v11 (ix2 n k)) = ix1 k := eq_ix1 _
  have z : FloatOps.ofBits (F := Ideal) .f32 0x00000000#32 = 0 := Ideal.ofBits_zero .f32
  rw [z, zero_add, e']
  simp only [e]
  rfl

/-- The reference's hidden columns. -/
theorem hidden_row (n : Fin 16640) (f : Fin 2816) :
    val_main_v16 (F := Ideal) x0 x1 x2 x3 (ix2 n f)
      = hidden (normed (fun j => x0 (ix2 n j)) (fun j => x1 (ix1 j))) (fun k => x2 (ix2 k f)) (fun k => x3 (ix2 k f)) := by
  have eg : val_main_v13 (F := Ideal) x0 x1 x2 (ix2 n f)
      = ∑ k, normed (fun j => x0 (ix2 n j)) (fun j => x1 (ix1 j)) k * x2 (ix2 k f) := by
    rw [val_main_v13_apply]
    refine Finset.sum_congr rfl fun k _ => congrArg₂ (· * ·) ((congrArg _ (?_ : _ = ix2 n k)).trans (normed_row x0 x1 n k)) (congrArg x2 ?_)
    · exact eq_ix2 _
    · exact eq_ix2 _
  have eu : val_main_v15 (F := Ideal) x0 x1 x3 (ix2 n f)
      = ∑ k, normed (fun j => x0 (ix2 n j)) (fun j => x1 (ix1 j)) k * x3 (ix2 k f) := by
    rw [val_main_v15_apply]
    refine Finset.sum_congr rfl fun k _ => congrArg₂ (· * ·) ((congrArg _ (?_ : _ = ix2 n k)).trans (normed_row x0 x1 n k)) (congrArg x3 ?_)
    · exact eq_ix2 _
    · exact eq_ix2 _
  rw [val_main_v16_apply, val_main_v14_apply, val_main_call0_v5_apply, val_main_call0_v4_apply, val_main_call0_v3_apply,
    val_main_call0_v2_apply, val_main_call0_v1_apply, val_main_call0_v0_apply, val_main_call0_cst_0_apply, val_main_call0_cst_apply, eg, eu]
  simp only [Ideal.hostDivf_def, Ideal.addf_def, Ideal.mulf_def, Ideal.hostUnary_exp_def, Ideal.hostNegf_def, Ideal.negf_def]
  have one : FloatOps.ofBits (F := Ideal) .f32 0x3F800000#32 = 1 := Cert.MergeRef.one_word
  rw [one]
  unfold FfnWalk.hidden
  rw [zero_sub]

/-- The reference's result array. -/
theorem reference_table (i : S16640x1024.Idx) : val_main_v18 (F := Ideal) x0 x1 x2 x3 x4 i = fed x0 x1 x2 x3 x4 (i 0) (i 1) := by
  obtain ⟨n, d, rfl⟩ : ∃ n d, i = ix2 n d := ⟨i 0, i 1, eq_ix2 i⟩
  rw [val_main_v18_apply, val_main_v17_apply, Ideal.addf_def]
  refine congrArg (_ + ·) (Finset.sum_congr rfl fun f _ => congrArg₂ (· * ·) ((congrArg _ (?_ : _ = ix2 n f)).trans (hidden_row x0 x1 x2 x3 n f)) (congrArg x4 ?_))
  · exact eq_ix2 _
  · exact eq_ix2 _

end Cert.FfnRef
end
-- ==== Proof.ProjIdealFrame.lean ====
module

public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

/-! # The run of the input projection over the extended reals

A tile of 1280 tokens is visited eight times, once for each group of 1024 columns.  The first visit normalises the rows,
keeps them, and fills the small result's block; the other seven leave that block alone, and the last of them is where it
is written back.  So its buffer is carried from the first visit to the last. -/

@[expose] public section

set_option maxRecDepth 16384

noncomputable section

namespace Cert.ProjIdeal.Visit

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Entry

variable (m : (ℓ : Loc nD τ sig) → Buf (Elt F) ℓ) (ρ : Dev nD → PrngReg)

/-! ## Before the region -/

/-- The buffers as the host operations leave them. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! No host operation writes an argument. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Window `w`'s block at point `t`, of the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input's buffer holds its block at every point. -/

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The arguments after a run whose arrays start as the region finds them. -/
theorem arguments_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩

end Entry

/-! ## Which visit a point is -/

/-- A tile's first visit. -/
abbrev first (i : grid0.Coords) : Prop := k0_cond1 i = 1#1

theorem first_iff : ∀ t : Fin cfg0.N, first (grid0.coords t) ↔ t.val % 8 = 0 :=
  (fun t => by
    have ht : t.val < 104 := Nat.lt_of_lt_of_eq t.isLt N_0
    have e0 : (grid0.coords t 0).val = t.val / 8 % 13 := Pipeline.Grid.coords_val t 0 (by decide) rfl
    have e1 : (grid0.coords t 1).val = t.val / 1 % 8 := Pipeline.Grid.coords_val t 1 (by decide) rfl
    simp only [first, k0_cond1, e0, e1]
    word_cmp
   : ∀ t : Fin grid0.N, first (grid0.coords t) ↔ t.val % 8 = 0)

/-- The small result is stored into at the first visits only. -/
theorem live5 : ∀ t : Fin cfg0.N, t.val % 8 = 0 → cfg0.idle 5 (grid0.coords t) = false := by decide +kernel
theorem idle5 : ∀ t : Fin cfg0.N, ¬t.val % 8 = 0 → cfg0.idle 5 (grid0.coords t) = true := by decide +kernel

/-- The small result's buffer holds nothing of its tile exactly before the first visits. -/
def fresh5Tab (n : ℕ) : Bool := n % 8 == 0
theorem fresh5Tab_step : ∀ t : Fin cfg0.N,
    fresh5Tab (t.val + 1) = ((cfg0.win 5).flush t || (cfg0.idle 5 (cfg0.grid.coords t) && fresh5Tab t.val)) := by decide +kernel
theorem fresh5 (t : Fin cfg0.N) (h : ¬t.val % 8 = 0) : cfg0.fresh 5 t.val = false := by
  rw [Pipeline.Cfg.fresh_tab cfg0 5 fresh5Tab rfl fresh5Tab_step t.val (Nat.le_of_lt t.isLt)]
  unfold fresh5Tab
  simpa using h

/-! ## The body on any buffers -/

/-- A buffer of each result, and the kept rows' buffer, to state contents through. -/
abbrev VO4 : View sig .tc .vmem S1280x1024 .f32 := (Memref.whole cc0_stg4_0 : Memref sig .tc .vmem S1280x1024 .f32).view
abbrev VO5 : View sig .tc .vmem S1280x128 .f32 := (Memref.whole cc0_stg5_0 : Memref sig .tc .vmem S1280x128 .f32).view
abbrev kept : Memref sig .tc .vmem S1280x1024 .bf16 := Memref.whole cc0_scratch0
abbrev VK : View sig .tc .vmem S1280x1024 .bf16 := kept.view

/-- The buffers of point `t`. -/
abbrev ms0 (t : Fin cfg0.N) : Memref sig .tc .vmem S1280x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1280x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1280x128 .f32 := win0_5.stage (cfg0.slots t 5)
abbrev hs5 (t : Fin cfg0.N) : (ms5 t).IsWhole := hstage0_5 ((cfg0.slots t 5).cast nbuf0_5)

/-- The launch's invariant: the kept rows' buffer and the generator's register, at anything. -/
theorem launch_eq (c : Dev nD) :
    (Pipeline.ΦA spec0 c : sProp (MT nD τ sig Unit (Elt F) ℕ (UR sig nD τ) ℕ))
      = iprop(iprop((∃ d, owns (c : Thread nD τ) kept fullShare d)) ∗ (∃ r, prngReg c r)) := by
  unfold Pipeline.ΦA; rw [scopedRest0_eq]; simp only [kept, owns_whole]; try rfl

section Body

variable (c : Dev nD) (i : grid0.Coords) (arg2 : Memref sig .tc .vmem S1280x1024 .f32) (harg2 : arg2.IsWhole)
  (arg3 : Memref sig .tc .vmem S1x1024 .f32) (harg3 : arg3.IsWhole) (arg4 : Memref sig .tc .vmem S1024x1024 .bf16) (harg4 : arg4.IsWhole)
  (arg5 : Memref sig .tc .vmem S1024x128 .bf16) (harg5 : arg5.IsWhole) (arg6 : Memref sig .tc .vmem S1280x1024 .f32) (harg6 : arg6.IsWhole)
  (arg7 : Memref sig .tc .vmem S1280x128 .f32) (harg7 : arg7.IsWhole) (arg8 : Memref sig .tc .vmem S1280x1024 .bf16) (harg8 : arg8.IsWhole)

set_option maxHeartbeats 1000000 in
/-- What a first visit writes into the two results and the kept rows, with its triple. -/
def firstRun (hc : first i) (x0 : Vec F S1280x1024 .f32) (x1 : Vec F S1x1024 .f32) (x2 : Vec F S1024x1024 .bf16) (x3 : Vec F S1024x128 .bf16) :
    Σ' (L4 : List (View.Piece (Elt F) S1280x1024 .f32)), Σ' (L5 : List (View.Piece (Elt F) S1280x128 .f32)), { LS : List (View.Piece (Elt F) S1280x1024 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
              ∗ (∃ f, arg6.view.loc (c : Thread nD τ) ↦[arg6.view.set]{fullShare} arg6.view.writes (Elt F) f L4)
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f LS)) -∗ K ⟨⟩))
          ⊢ wp frame (wpE (defs₀ (F := F)) Variants.none c none) E (cc0_in_proj i arg2 harg2 arg3 harg3 arg4 harg4 arg5 harg5 arg6 harg6 arg7 harg7 arg8 harg8) K } := by
  refine ⟨?_, ?_, ?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
    obtain rfl := harg2.eq_unread hf0; obtain rfl := harg3.eq_unread hf1; obtain rfl := harg4.eq_unread hf2; obtain rfl := harg5.eq_unread hf3
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS

set_option maxHeartbeats 1000000 in
/-- What a later visit writes into the large result, with its triple: the small result and the kept rows stay. -/
def nextRun (hc : ¬first i) (x0 : Vec F S1280x1024 .f32) (x1 : Vec F S1x1024 .f32) (x2 : Vec F S1024x1024 .bf16) (x3 : Vec F S1024x128 .bf16)
    (xo : Vec F S1280x128 .f32) (xs : Vec F S1280x1024 .bf16) :
    { L4 : List (View.Piece (Elt F) S1280x1024 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xo ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
              ∗ (∃ f, arg6.view.loc (c : Thread nD τ) ↦[arg6.view.set]{fullShare} arg6.view.writes (Elt F) f L4)
              ∗ owns (c : Thread nD τ) arg7 fullShare xo ∗ owns (c : Thread nD τ) arg8 fullShare xs) -∗ K ⟨⟩))
          ⊢ wp frame (wpE (defs₀ (F := F)) Variants.none c none) E (cc0_in_proj i arg2 harg2 arg3 harg3 arg4 harg4 arg5 harg5 arg6 harg6 arg7 harg7 arg8 harg8) K } := by
  refine ⟨?_, fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; isplitr; · ipureintro; exact harg8.read_unread _
    iexact HS

variable (x0 : Vec F S1280x1024 .f32) (x1 : Vec F S1x1024 .f32) (x2 : Vec F S1024x1024 .bf16) (x3 : Vec F S1024x128 .bf16)
  (xo : Vec F S1280x128 .f32) (xs : Vec F S1280x1024 .bf16)

/-! Each store fills its buffer. -/

theorem first_covers4 (hc : first i) (y : S1280x1024.Idx) :
    ∃ pc ∈ (firstRun c i arg2 harg2 arg3 harg3 arg4 harg4 arg5 harg5 arg6 harg6 arg7 harg7 arg8 harg8 hc x0 x1 x2 x3).1, y ∈ pc.1.set :=
  View.cover_of_tiledL (firstRun c i arg2 harg2 arg3 harg3 arg4 harg4 arg5 harg5 arg6 harg6 arg7 harg7 arg8 harg8 hc x0 x1 x2 x3).1 S1280x1024.size (by sl_kernel_rfl) y

theorem first_covers5 (hc : first i) (y : S1280x128.Idx) :
    ∃ pc ∈ (firstRun c i arg2 harg2 arg3 harg3 arg4 harg4 arg5 harg5 arg6 harg6 arg7 harg7 arg8 harg8 hc x0 x1 x2 x3).2.1, y ∈ pc.1.set :=
  View.cover_of_tiledL (firstRun c i arg2 harg2 arg3 harg3 arg4 harg4 arg5 harg5 arg6 harg6 arg7 harg7 arg8 harg8 hc x0 x1 x2 x3).2.1 S1280x128.size (by sl_kernel_rfl) y

theorem first_covers_kept (hc : first i) (y : S1280x1024.Idx) :
    ∃ pc ∈ (firstRun c i arg2 harg2 arg3 harg3 arg4 harg4 arg5 harg5 arg6 harg6 arg7 harg7 arg8 harg8 hc x0 x1 x2 x3).2.2.1, y ∈ pc.1.set :=
  View.cover_of_tiledL (firstRun c i arg2 harg2 arg3 harg3 arg4 harg4 arg5 harg5 arg6 harg6 arg7 harg7 arg8 harg8 hc x0 x1 x2 x3).2.2.1 S1280x1024.size (by sl_kernel_rfl) y

theorem next_covers4 (hc : ¬first i) (y : S1280x1024.Idx) :
    ∃ pc ∈ (nextRun c i arg2 harg2 arg3 harg3 arg4 harg4 arg5 harg5 arg6 harg6 arg7 harg7 arg8 harg8 hc x0 x1 x2 x3 xo xs).1, y ∈ pc.1.set :=
  View.cover_of_tiledL (nextRun c i arg2 harg2 arg3 harg3 arg4 harg4 arg5 harg5 arg6 harg6 arg7 harg7 arg8 harg8 hc x0 x1 x2 x3 xo xs).1 S1280x1024.size (by sl_kernel_rfl) y

/-- What a first visit leaves in the large result's buffer, the small result's, and the kept rows'. -/
def first4 (hc : first i) : Vec F S1280x1024 .f32 :=
  VO4.read (Elt F) (VO4.writes (Elt F) VO4.junk (firstRun c i arg2 harg2 arg3 harg3 arg4 harg4 arg5 harg5 arg6 harg6 arg7 harg7 arg8 harg8 hc x0 x1 x2 x3).1)
def first5 (hc : first i) : Vec F S1280x128 .f32 :=
  VO5.read (Elt F) (VO5.writes (Elt F) VO5.junk (firstRun c i arg2 harg2 arg3 harg3 arg4 harg4 arg5 harg5 arg6 harg6 arg7 harg7 arg8 harg8 hc x0 x1 x2 x3).2.1)
def firstKept (hc : first i) : Vec F S1280x1024 .bf16 :=
  VK.read (Elt F) (VK.writes (Elt F) VK.junk (firstRun c i arg2 harg2 arg3 harg3 arg4 harg4 arg5 harg5 arg6 harg6 arg7 harg7 arg8 harg8 hc x0 x1 x2 x3).2.2.1)

/-- What a later visit leaves in the large result's buffer. -/
def next4 (hc : ¬first i) : Vec F S1280x1024 .f32 :=
  VO4.read (Elt F) (VO4.writes (Elt F) VO4.junk (nextRun c i arg2 harg2 arg3 harg3 arg4 harg4 arg5 harg5 arg6 harg6 arg7 harg7 arg8 harg8 hc x0 x1 x2 x3 xo xs).1)

end Body

/-! ## The buffers after each point -/

variable (m : (ℓ : Loc nD τ sig) → Buf (Elt F) ℓ) (ρ : Dev nD → PrngReg)

/-- What a first visit at `t` leaves in the two results' buffers and the kept rows'. -/
def afterFirst (c : Dev nD) (t : Fin cfg0.N) (h0 : t.val % 8 = 0) : Vec F S1280x1024 .f32 × Vec F S1280x128 .f32 × Vec F S1280x1024 .bf16 :=
  (first4 c (grid0.coords t) (ms0 t) (hs0 t) (ms1 t) (hs1 t) (ms2 t) (hs2 t) (ms3 t) (hs3 t) (ms4 t) (hs4 t) (ms5 t) (hs5 t) kept (Memref.isWhole_whole _) (iblk m c 0 t) (iblk m c 1 t) (iblk m c 2 t) (iblk m c 3 t) ((first_iff t).mpr h0),
   first5 c (grid0.coords t) (ms0 t) (hs0 t) (ms1 t) (hs1 t) (ms2 t) (hs2 t) (ms3 t) (hs3 t) (ms4 t) (hs4 t) (ms5 t) (hs5 t) kept (Memref.isWhole_whole _) (iblk m c 0 t) (iblk m c 1 t) (iblk m c 2 t) (iblk m c 3 t) ((first_iff t).mpr h0),
   firstKept c (grid0.coords t) (ms0 t) (hs0 t) (ms1 t) (hs1 t) (ms2 t) (hs2 t) (ms3 t) (hs3 t) (ms4 t) (hs4 t) (ms5 t) (hs5 t) kept (Memref.isWhole_whole _) (iblk m c 0 t) (iblk m c 1 t) (iblk m c 2 t) (iblk m c 3 t) ((first_iff t).mpr h0))

/-- What a later visit at `t` leaves, over what the point before left. -/
def afterNext (c : Dev nD) (t : Fin cfg0.N) (h0 : ¬t.val % 8 = 0) (p : Vec F S1280x1024 .f32 × Vec F S1280x128 .f32 × Vec F S1280x1024 .bf16) :
    Vec F S1280x1024 .f32 × Vec F S1280x128 .f32 × Vec F S1280x1024 .bf16 :=
  (next4 c (grid0.coords t) (ms0 t) (hs0 t) (ms1 t) (hs1 t) (ms2 t) (hs2 t) (ms3 t) (hs3 t) (ms4 t) (hs4 t) (ms5 t) (hs5 t) kept (Memref.isWhole_whole _) (iblk m c 0 t) (iblk m c 1 t) (iblk m c 2 t) (iblk m c 3 t) p.2.1 p.2.2 (fun h => h0 ((first_iff t).mp h)), p.2.1, p.2.2)

/-- What the two results' buffers and the kept rows' hold after point `n`. -/
def held (c : Dev nD) : (n : ℕ) → n < cfg0.N → Vec F S1280x1024 .f32 × Vec F S1280x128 .f32 × Vec F S1280x1024 .bf16
  | 0, hn => afterFirst m c ⟨0, hn⟩ (Nat.zero_mod _)
  | n + 1, hn =>
    if h0 : (n + 1) % 8 = 0 then afterFirst m c ⟨n + 1, hn⟩ h0
    else afterNext m c ⟨n + 1, hn⟩ h0 (held c n (Nat.lt_of_succ_lt hn))

theorem held_first (c : Dev nD) (t : Fin cfg0.N) (h0 : t.val % 8 = 0) : held m c t.val t.isLt = afterFirst m c t h0 := by
  obtain ⟨n, hn⟩ := t
  cases n with
  | zero => rfl
  | succ n => exact dif_pos h0

theorem held_next (c : Dev nD) (t : Fin cfg0.N) (h0 : ¬t.val % 8 = 0) :
    held m c t.val t.isLt = afterNext m c t h0 (held m c (t.val - 1) (Nat.lt_of_le_of_lt (Nat.sub_le _ _) t.isLt)) := by
  obtain ⟨n, hn⟩ := t
  cases n with
  | zero => exact absurd (Nat.zero_mod _) h0
  | succ n => exact dif_neg h0

/-- The invariant before point `n`: the launch's before the first point, then the kept rows at what the point before left. -/
def inv (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) kept fullShare ((held m c n hn).2.2)) ∗ (∃ r, prngReg c r))

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) :
    inv m c n h = iprop(iprop(owns (c : Thread nD τ) kept fullShare ((held m c (n - 1) (by omega)).2.2)) ∗ (∃ r, prngReg c r)) := by
  cases n with
  | zero => exact absurd rfl hz
  | succ n => rfl

theorem inv_succ (c : Dev nD) (n : ℕ) (hn : n < cfg0.N) :
    inv m c (n + 1) hn = iprop(iprop(owns (c : Thread nD τ) kept fullShare ((held m c n hn).2.2)) ∗ (∃ r, prngReg c r)) := rfl

/-- The pipeline's data: the arrays as the region finds them, the inputs' buffers at their blocks, the results' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (held m c t.val t.isLt).1
    | ⟨5, _⟩ => (held m c t.val t.isLt).2.1
  Φ t := inv m c t.val (Nat.le_of_lt_succ t.isLt)
  q _ := fullShare
  owed _ := 0

theorem arrays_eq (c : Dev nD) (w : Fin cfg0.W) : (dats m 0 c).A w = V m c (Pipeline.arrRef spec0 w) := by
  dsimp only [dats]

theorem inv_before (c : Dev nD) (t : Fin cfg0.N) : (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (held m c t.val t.isLt).1 := by dsimp only [dats]
theorem after5 (c : Dev nD) (t : Fin cfg0.N) : (dats m 0 c).after 5 t = (held m c t.val t.isLt).2.1 := by dsimp only [dats]

theorem before0 (c : Dev nD) (t : Fin cfg0.N) (d) : (dats m 0 c).before 0 t d = iblk m c 0 t :=
  before0_of m (dats m 0 c) (arrays_eq m c 0) (after0 m c) t d
theorem before1 (c : Dev nD) (t : Fin cfg0.N) (d) : (dats m 0 c).before 1 t d = iblk m c 1 t :=
  before1_of m (dats m 0 c) (arrays_eq m c 1) (after1 m c) t d
theorem before2 (c : Dev nD) (t : Fin cfg0.N) (d) : (dats m 0 c).before 2 t d = iblk m c 2 t :=
  before2_of m (dats m 0 c) (arrays_eq m c 2) (after2 m c) t d
theorem before3 (c : Dev nD) (t : Fin cfg0.N) (d) : (dats m 0 c).before 3 t d = iblk m c 3 t :=
  before3_of m (dats m 0 c) (arrays_eq m c 3) (after3 m c) t d

/-- The small result's buffer keeps its contents through the visits that leave it alone. -/
theorem carry5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have h0 : ¬t.val % 8 = 0 := fun h => by rw [live5 t h] at hi; exact Bool.false_ne_true hi
  rw [after5, after5, held_next m c t h0]
  rfl

/-- So a later visit finds in it what the point before left. -/
theorem before5 (c : Dev nD) (t : Fin cfg0.N) (h0 : ¬t.val % 8 = 0) (d) :
    (dats m 0 c).before 5 t d = (held m c (t.val - 1) (Nat.lt_of_le_of_lt (Nat.sub_le _ _) t.isLt)).2.1 := by
  rw [Dat.before_out_traj _ 5 rfl (fun _ _ => rfl) (carry5 m c) t.val t rfl d, if_neg (by rw [fresh5 t h0]; exact Bool.false_ne_true)]
  dsimp only [dats]

/-! ## The body at a point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- A later visit hands the small result's buffer back as it found it: written back at the last, passed on at the others. -/
theorem leaves5 (c : Dev nD) (t : Fin cfg0.N) (h0 : ¬t.val % 8 = 0) :
    owns (c : Thread nD τ) (ms5 t) fullShare ((held m c (t.val - 1) (Nat.lt_of_le_of_lt (Nat.sub_le _ _) t.isLt)).2.1)
      ⊢ ((dats m 0 c).leavesExact 5 t : sProp (MT nD τ sig Unit (Elt F) ℕ (UR sig nD τ) ℕ)) := by
  unfold Dat.leavesExact
  rw [show cfg0.idle 5 (cfg0.grid.coords t) = true from idle5 t h0]
  cases (cfg0.win 5).flush t with
  | false =>
    dsimp only
    simp only [before5 m c t h0]
    iintro H
    iexists (fun _ => Classical.arbitrary _)
    iexact H
  | true =>
    dsimp only
    rw [after5, held_next m c t h0]
    exact .rfl

theorem leaves0 (c : Dev nD) (t : Fin cfg0.N) :
    ((dats m 0 c).leavesExact 0 t : sProp (MT nD τ sig Unit (Elt F) ℕ (UR sig nD τ) ℕ)) = owns (c : Thread nD τ) (ms0 t) fullShare (iblk m c 0 t) := by
  unfold Dat.leavesExact; rw [show cfg0.idle 0 (cfg0.grid.coords t) = false from rfl, after0]
theorem leaves1 (c : Dev nD) (t : Fin cfg0.N) :
    ((dats m 0 c).leavesExact 1 t : sProp (MT nD τ sig Unit (Elt F) ℕ (UR sig nD τ) ℕ)) = owns (c : Thread nD τ) (ms1 t) fullShare (iblk m c 1 t) := by
  unfold Dat.leavesExact; rw [show cfg0.idle 1 (cfg0.grid.coords t) = false from rfl, after1]
theorem leaves2 (c : Dev nD) (t : Fin cfg0.N) :
    ((dats m 0 c).leavesExact 2 t : sProp (MT nD τ sig Unit (Elt F) ℕ (UR sig nD τ) ℕ)) = owns (c : Thread nD τ) (ms2 t) fullShare (iblk m c 2 t) := by
  unfold Dat.leavesExact; rw [show cfg0.idle 2 (cfg0.grid.coords t) = false from rfl, after2]
theorem leaves3 (c : Dev nD) (t : Fin cfg0.N) :
    ((dats m 0 c).leavesExact 3 t : sProp (MT nD τ sig Unit (Elt F) ℕ (UR sig nD τ) ℕ)) = owns (c : Thread nD τ) (ms3 t) fullShare (iblk m c 3 t) := by
  unfold Dat.leavesExact; rw [show cfg0.idle 3 (cfg0.grid.coords t) = false from rfl, after3]
theorem leaves4 (c : Dev nD) (t : Fin cfg0.N) :
    ((dats m 0 c).leavesExact 4 t : sProp (MT nD τ sig Unit (Elt F) ℕ (UR sig nD τ) ℕ)) = owns (c : Thread nD τ) (ms4 t) fullShare ((held m c t.val t.isLt).1) := by
  unfold Dat.leavesExact; rw [show cfg0.idle 4 (cfg0.grid.coords t) = false from rfl, after4]

set_option maxHeartbeats 3200000 in
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = inv m c (t.val + 1) t.isLt from rfl, inv_succ]
  rw [leaves0, leaves1, leaves2, leaves3, leaves4, inv_before m c t]
  by_cases h0 : t.val % 8 = 0
  · rw [show (dats m 0 c).leavesExact 5 t = owns (c : Thread nD τ) (ms5 t) fullShare ((dats m 0 c).after 5 t) from by
      unfold Dat.leavesExact; rw [show cfg0.idle 5 (cfg0.grid.coords t) = false from live5 t h0], after5]
    rw [held_first m c t h0]
    unfold afterFirst first4 first5 firstKept; (try dsimp only)
    by_cases hz : t.val = 0
    · rw [inv_zero m c _ _ hz, launch_eq]
      iintro ⟨⟨HS, Hg⟩, Ho, ⟨%d0, H0⟩, ⟨%d1, H1⟩, ⟨%d2, H2⟩, ⟨%d3, H3⟩, ⟨%d4, H4⟩, ⟨%d5, H5⟩⟩
      iapply ((firstRun c (grid0.coords t) _ _ _ _ _ _ _ _ _ _ _ _ _ _ ((first_iff t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, ⟨%e4, H4⟩, ⟨%e5, H5⟩, ⟨%es, HS⟩⟩
      isplitl [HS Hg]
      · isplitl [HS]
        · unfold owns; iexists _; isplitr
          swap; · iexact HS
          ipureintro; exact View.read_writes_of_cover _ _ _ _ _ (first_covers_kept c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (first_covers4 c _ _ _ _ _ _ _ _ _ _ _ _ _ _ _ _ _ _ _ _)
      unfold owns; iexists _; isplitr
      swap; · iexact H5
      ipureintro; exact View.read_writes_of_cover _ _ _ _ _ (first_covers5 c _ _ _ _ _ _ _ _ _ _ _ _ _ _ _ _ _ _ _ _)
    · rw [inv_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((firstRun c (grid0.coords t) _ _ _ _ _ _ _ _ _ _ _ _ _ _ ((first_iff t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexists _; iexact HS
      iintro ⟨H0, H1, H2, H3, ⟨%e4, H4⟩, ⟨%e5, H5⟩, ⟨%es, HS⟩⟩
      isplitl [HS Hg]
      · isplitl [HS]
        · unfold owns; iexists _; isplitr
          swap; · iexact HS
          ipureintro; exact View.read_writes_of_cover _ _ _ _ _ (first_covers_kept c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (first_covers4 c _ _ _ _ _ _ _ _ _ _ _ _ _ _ _ _ _ _ _ _)
      unfold owns; iexists _; isplitr
      swap; · iexact H5
      ipureintro; exact View.read_writes_of_cover _ _ _ _ _ (first_covers5 c _ _ _ _ _ _ _ _ _ _ _ _ _ _ _ _ _ _ _ _)
  · rw [inv_pos m c _ _ (fun hz => h0 (by rw [hz]))]
    refine BIBase.Entails.trans ?_ (wp_mono _ _ _ fun _ => sep_mono .rfl (sep_mono .rfl (sep_mono .rfl (sep_mono .rfl (sep_mono .rfl (sep_mono .rfl (sep_mono .rfl (leaves5 m c t h0))))))))
    rw [held_next m c t h0]
    unfold afterNext next4; (try dsimp only)
    simp only [before5 m c t h0]
    iintro ⟨⟨HS, Hg⟩, Ho, ⟨%d0, H0⟩, ⟨%d1, H1⟩, ⟨%d2, H2⟩, ⟨%d3, H3⟩, ⟨%d4, H4⟩, ⟨%d5, H5⟩⟩
    iapply ((nextRun c (grid0.coords t) _ _ _ _ _ _ _ _ _ _ _ _ _ _ (fun h => h0 ((first_iff t).mp h)) (iblk m c 0 t) (iblk m c 1 t) (iblk m c 2 t) (iblk m c 3 t) _ _).2 Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, ⟨%e4, H4⟩, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (next_covers4 c _ _ _ _ _ _ _ _ _ _ _ _ _ _ _ _ _ _ _ _ _ _)
    iexact H5

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_at m c t) rfl .rfl fun _ => .rfl

theorem inv_in (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem inv_out (c : Dev nD) : (dats m 0 c).Φ (Fin.last cfg0.N) ⊢ Pipeline.ΦA spec0 c := by
  rw [show (dats m 0 c).Φ (Fin.last cfg0.N) = inv m c cfg0.N (Nat.le_refl _) from rfl,
    inv_pos m c _ _ (by have : cfg0.N = 104 := N_0; omega), launch_eq]
  iintro ⟨HS, Hg⟩
  isplitl [HS]
  · iexists _; iexact HS
  iexact Hg

/-! ## The launch -/

set_option backward.isDefEq.respectTransparency.types false in
/-- Every run ends with the arrays the data say, the other buffers kept and the counters at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := arrays_eq m) (hin := inv_in m) (hout := inv_out m)

/-- The call ends, keeps its arguments and leaves the counters at zero. -/
theorem keeps : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => arguments_kept m (dats m) (arrays_eq m) r h.1 c, h.2⟩) (run_quiet m ρ)

/-- The two result arrays after a run. -/
theorem results : θ_run defs (onTc (τ := τ) (main (F := F))) ⟨m, fun _ => 0, ρ⟩ (fun r => ∀ c : Dev nD,
      r.2.mem ((c.tc : Thread nD τ).loc main_v19_0) = (dats m 0 c).arrAt 4 cfg0.N
      ∧ r.2.mem ((c.tc : Thread nD τ).loc main_v19_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1 4, (h.1 c).1 5, arguments_kept m (dats m) (arrays_eq m) r h.1 c⟩) (run_quiet m ρ)

end Cert.ProjIdeal.Visit

end
-- ==== Proof.ProjBlock.lean ====
module

public import proofs.«01_k».proof.Proof.ProjIdealFrame
public import proofs.«01_k».proof.Proof.FfnMath
public import Idealize.ShloMosaic.Lib.Pointwise
public import Idealize.ShloMosaic.Lib.Pipeline.ValueKit
public import Idealize.ShloMosaic.Lib.VecWindow

/-! # One visit of the input projection

The entries a visit stores, as sums over the normalised rows. -/

@[expose] public section

set_option maxRecDepth 65536

noncomputable section

namespace Cert.ProjWalk

open Cert.ProjIdeal Cert.ProjIdeal.Gen Cert.ProjIdeal.Visit
open Cert.FfnWalk (normed)
open Idealize.ShloMosaic Idealize.ShloMosaic.TcCoe Idealize.SL.Sem

/-- The normalised rows. -/
theorem rows_at (x : Vec Ideal S1280x1024 .f32) (w : Vec Ideal S1x1024 .f32) (i : Fin 1280) (k : Fin 1024) :
    k0_pay1 x w (ix2 i k) = normed (fun j => x (ix2 i j)) (fun j => w (ix2 0 j)) k := by
  unfold k0_pay1
  rw [shapeCast_self]
  pointwise []
  rfl

theorem kept_at (x : Vec Ideal S1280x1024 .f32) (w : Vec Ideal S1x1024 .f32) (i : Fin 1280) (k : Fin 1024) :
    k0_pay2 x w (ix2 i k) = normed (fun j => x (ix2 i j)) (fun j => w (ix2 0 j)) k := by
  unfold k0_pay2
  rw [shapeCast_self]
  exact rows_at x w i k

/-- The small result's entries. -/
theorem small_at (x : Vec Ideal S1280x1024 .f32) (w : Vec Ideal S1x1024 .f32) (g : Vec Ideal S1024x128 .bf16) (i : Fin 1280) (e : Fin 128) :
    k0_pay3 x w g (ix2 i e) = ∑ k : Fin 1024, normed (fun j => x (ix2 i j)) (fun j => w (ix2 0 j)) k * g (ix2 k e) := by
  simp only [← rows_at]
  unfold k0_pay3
  rw [shapeCast_self]
  generalize k0_pay1 x w = h
  pointwise []

/-- The large result's entries. -/
theorem large_at (h : Vec Ideal S1280x1024 .bf16) (g : Vec Ideal S1024x1024 .bf16) (i : Fin 1280) (d : Fin 1024) :
    k0_pay4 h g (ix2 i d) = ∑ k : Fin 1024, h (ix2 i k) * g (ix2 k d) := by
  unfold k0_pay4
  rw [shapeCast_self]
  pointwise []

section Stores

variable (c : Dev nD) (i : grid0.Coords) (arg2 : Memref sig .tc .vmem S1280x1024 .f32) (harg2 : arg2.IsWhole)
  (arg3 : Memref sig .tc .vmem S1x1024 .f32) (harg3 : arg3.IsWhole) (arg4 : Memref sig .tc .vmem S1024x1024 .bf16) (harg4 : arg4.IsWhole)
  (arg5 : Memref sig .tc .vmem S1024x128 .bf16) (harg5 : arg5.IsWhole) (arg6 : Memref sig .tc .vmem S1280x1024 .f32) (harg6 : arg6.IsWhole)
  (arg7 : Memref sig .tc .vmem S1280x128 .f32) (harg7 : arg7.IsWhole) (arg8 : Memref sig .tc .vmem S1280x1024 .bf16) (harg8 : arg8.IsWhole)

variable {F : FTy → Type} [FloatOps F]
variable (x0 : Vec F S1280x1024 .f32) (x1 : Vec F S1x1024 .f32) (x2 : Vec F S1024x1024 .bf16) (x3 : Vec F S1024x128 .bf16)
  (xo : Vec F S1280x128 .f32) (xs : Vec F S1280x1024 .bf16)

theorem first_kept (hc : first i) :
    firstKept c i arg2 harg2 arg3 harg3 arg4 harg4 arg5 harg5 arg6 harg6 arg7 harg7 arg8 harg8 x0 x1 x2 x3 hc = k0_pay2 x0 x1 := by
  unfold firstKept firstRun
  dsimp only
  unfold firstRun.sl.HS_1
  rw [View.read_writes_full]
  repeat rw [View.readAt_full]
  rw [harg2.read_unread, harg3.read_unread]

theorem first_small (hc : first i) :
    first5 c i arg2 harg2 arg3 harg3 arg4 harg4 arg5 harg5 arg6 harg6 arg7 harg7 arg8 harg8 x0 x1 x2 x3 hc = k0_pay3 x0 x1 x3 := by
  unfold first5 firstRun
  dsimp only
  rw [View.read_writes_full]
  repeat rw [View.readAt_full]
  rw [harg2.read_unread, harg3.read_unread, harg5.read_unread]

theorem first_large (hc : first i) :
    first4 c i arg2 harg2 arg3 harg3 arg4 harg4 arg5 harg5 arg6 harg6 arg7 harg7 arg8 harg8 x0 x1 x2 x3 hc = k0_pay4 (k0_pay2 x0 x1) x2 := by
  unfold first4 firstRun
  dsimp only
  rw [View.read_writes_full]
  unfold firstRun.sl.v3 firstRun.sl.HS_1
  rw [View.readCov_full]
  repeat rw [View.readAt_full]
  rw [harg2.read_unread, harg3.read_unread, harg4.read_unread]

theorem next_large (hc : ¬first i) :
    next4 c i arg2 harg2 arg3 harg3 arg4 harg4 arg5 harg5 arg6 harg6 arg7 harg7 arg8 harg8 x0 x1 x2 x3 xo xs hc = k0_pay4 xs x2 := by
  unfold next4 nextRun
  dsimp only
  rw [View.read_writes_full]
  repeat rw [View.readAt_full]
  rw [harg8.read_unread, harg4.read_unread]

end Stores

end Cert.ProjWalk
end
-- ==== Proof.ProjCols.lean ====
module

public import Idealize.ShloMosaic.Lib.Pointwise
public import Idealize.ShloMosaic.Lib.Pipeline.Value

/-! # The projection's columns

The projection weights have 8200 columns.  Eight of them, gate columns, go to a small table of 128, the rest of it zero; the
others go to a large table of 8192, three groups of them in another order.  The kernel rearranges the weights and the
reference the products, so the rearrangement is read here at any number of rows. -/

@[expose] public section

noncomputable section

namespace Cert.ProjWalk

open Idealize.ShloMosaic

/-- An index of a concatenation along the columns reads the piece `e` lies in. -/
theorem piece_read {α : Type} {R W T : ℕ} (xs : List ((s : Shape) × (s.Idx → α))) (h : Shape.Concatenates (xs.map (·.1)) ⟨2, ![R, T]⟩ 1)
    (n : Fin R) (d : Fin T) (k : ℕ) (hk : k < xs.length) (x : (⟨2, ![R, W]⟩ : Shape).Idx → α) (hx : xs[k] = ⟨⟨2, ![R, W]⟩, x⟩) (pre : ℕ)
    (hpre : (((xs.take k).map (·.1)).map fun s => if h : s.rank = 2 then s.size ((1 : Fin 2).cast h.symm) else 0).sum = pre)
    (e : Fin W) (he : pre + e.val = d.val) : concatenate ⟨2, ![R, T]⟩ 1 xs h (ix2 n d) = x (ix2 n e) := by
  refine concatenate_apply_piece 1 xs h (ix2 n d) k hk ⟨2, ![R, W]⟩ x hx rfl pre hpre (ix2 n e) (fun b hb => ?_) he
  match b with
  | ⟨0, _⟩ => rfl
  | ⟨1, _⟩ => exact absurd rfl hb

/-- Columns `o` to `o + W` of a table. -/
theorem slice_read {α : Type} {R W T o : ℕ} (x : (⟨2, ![R, T]⟩ : Shape).Idx → α) (h : (⟨2, ![R, T]⟩ : Shape).Slices ![0, o] ⟨2, ![R, W]⟩)
    (n : Fin R) (e : Fin W) (he : o + e.val < T) :
    extractStridedSlice ⟨2, ![R, W]⟩ ![0, o] x h (ix2 n e) = x (ix2 n ⟨o + e.val, he⟩) := by
  refine extractStridedSlice_apply _ x h (ix2 n e) (ix2 n ⟨o + e.val, he⟩) fun a => ?_
  match a with
  | ⟨0, _⟩ => exact (Nat.zero_add _).symm
  | ⟨1, _⟩ => rfl

/-- The column that goes to column `d` of the large table. -/
def source (d : Fin 8192) : Fin 8200 :=
  ⟨if d.val < 2048 then d.val else if d.val < 2560 then d.val + 8 else if d.val < 3072 then d.val + 1032
    else if d.val < 4096 then d.val - 504 else d.val + 8, by split_ifs <;> omega⟩

/-- The gate column that goes to column `e` of the small table. -/
def gateSource (e : Fin 128) (h : e.val < 8) : Fin 8200 := ⟨2048 + e.val, by omega⟩

section

variable {α : Type} {R : ℕ} (x : (⟨2, ![R, 8200]⟩ : Shape).Idx → α)

/-- A slice of the table, found in a concatenation at column `d`. -/
theorem slice_in {W T o : ℕ} (xs : List ((s : Shape) × (s.Idx → α))) (h : Shape.Concatenates (xs.map (·.1)) ⟨2, ![R, T]⟩ 1)
    (n : Fin R) (d : Fin T) (k : ℕ) (hk : k < xs.length) (hs : (⟨2, ![R, 8200]⟩ : Shape).Slices ![0, o] ⟨2, ![R, W]⟩)
    (hx : xs[k] = ⟨⟨2, ![R, W]⟩, extractStridedSlice ⟨2, ![R, W]⟩ ![0, o] x hs⟩) (pre : ℕ)
    (hpre : (((xs.take k).map (·.1)).map fun s => if h : s.rank = 2 then s.size ((1 : Fin 2).cast h.symm) else 0).sum = pre)
    (hd : pre ≤ d.val ∧ d.val < pre + W) (r : Fin 8200) (hr : r.val + pre = o + d.val) :
    concatenate ⟨2, ![R, T]⟩ 1 xs h (ix2 n d) = x (ix2 n r) := by
  have hl : o + (d.val - pre) < 8200 := by omega
  refine (piece_read xs h n d k hk _ hx pre hpre ⟨d.val - pre, by omega⟩ (by dsimp only; omega)).trans ?_
  refine (slice_read x hs n ⟨d.val - pre, by omega⟩ hl).trans (congrArg x (congrArg (ix2 n) (Fin.ext ?_)))
  dsimp only
  omega

/-- The large table. -/
theorem large_read (s0 : (⟨2, ![R, 8200]⟩ : Shape).Slices ![0, 0] ⟨2, ![R, 512]⟩) (s1 : (⟨2, ![R, 8200]⟩ : Shape).Slices ![0, 512] ⟨2, ![R, 512]⟩)
    (s2 : (⟨2, ![R, 8200]⟩ : Shape).Slices ![0, 1024] ⟨2, ![R, 512]⟩) (s3 : (⟨2, ![R, 8200]⟩ : Shape).Slices ![0, 1536] ⟨2, ![R, 512]⟩)
    (s4 : (⟨2, ![R, 8200]⟩ : Shape).Slices ![0, 2056] ⟨2, ![R, 512]⟩) (s5 : (⟨2, ![R, 8200]⟩ : Shape).Slices ![0, 3592] ⟨2, ![R, 512]⟩)
    (s6 : (⟨2, ![R, 8200]⟩ : Shape).Slices ![0, 2568] ⟨2, ![R, 512]⟩) (s7 : (⟨2, ![R, 8200]⟩ : Shape).Slices ![0, 3080] ⟨2, ![R, 512]⟩)
    (s8 : (⟨2, ![R, 8200]⟩ : Shape).Slices ![0, 4104] ⟨2, ![R, 512]⟩) (s9 : (⟨2, ![R, 8200]⟩ : Shape).Slices ![0, 4616] ⟨2, ![R, 512]⟩)
    (s10 : (⟨2, ![R, 8200]⟩ : Shape).Slices ![0, 5128] ⟨2, ![R, 3072]⟩)
    (h : Shape.Concatenates [⟨2, ![R, 512]⟩, ⟨2, ![R, 512]⟩, ⟨2, ![R, 512]⟩, ⟨2, ![R, 512]⟩, ⟨2, ![R, 512]⟩, ⟨2, ![R, 512]⟩, ⟨2, ![R, 512]⟩,
      ⟨2, ![R, 512]⟩, ⟨2, ![R, 512]⟩, ⟨2, ![R, 512]⟩, ⟨2, ![R, 3072]⟩] ⟨2, ![R, 8192]⟩ 1) (n : Fin R) (d : Fin 8192) :
    concatenate ⟨2, ![R, 8192]⟩ 1 [⟨⟨2, ![R, 512]⟩, extractStridedSlice ⟨2, ![R, 512]⟩ ![0, 0] x s0⟩, ⟨⟨2, ![R, 512]⟩, extractStridedSlice ⟨2, ![R, 512]⟩ ![0, 512] x s1⟩,
      ⟨⟨2, ![R, 512]⟩, extractStridedSlice ⟨2, ![R, 512]⟩ ![0, 1024] x s2⟩, ⟨⟨2, ![R, 512]⟩, extractStridedSlice ⟨2, ![R, 512]⟩ ![0, 1536] x s3⟩,
      ⟨⟨2, ![R, 512]⟩, extractStridedSlice ⟨2, ![R, 512]⟩ ![0, 2056] x s4⟩, ⟨⟨2, ![R, 512]⟩, extractStridedSlice ⟨2, ![R, 512]⟩ ![0, 3592] x s5⟩,
      ⟨⟨2, ![R, 512]⟩, extractStridedSlice ⟨2, ![R, 512]⟩ ![0, 2568] x s6⟩, ⟨⟨2, ![R, 512]⟩, extractStridedSlice ⟨2, ![R, 512]⟩ ![0, 3080] x s7⟩,
      ⟨⟨2, ![R, 512]⟩, extractStridedSlice ⟨2, ![R, 512]⟩ ![0, 4104] x s8⟩, ⟨⟨2, ![R, 512]⟩, extractStridedSlice ⟨2, ![R, 512]⟩ ![0, 4616] x s9⟩,
      ⟨⟨2, ![R, 3072]⟩, extractStridedSlice ⟨2, ![R, 3072]⟩ ![0, 5128] x s10⟩] h (ix2 n d) = x (ix2 n (source d)) := by
  have hd := d.isLt
  obtain hp | hp | hp | hp | hp | hp | hp | hp | hp | hp | hp :
      (0 ≤ d.val ∧ d.val < 0 + 512) ∨ (512 ≤ d.val ∧ d.val < 512 + 512) ∨ (1024 ≤ d.val ∧ d.val < 1024 + 512) ∨ (1536 ≤ d.val ∧ d.val < 1536 + 512)
      ∨ (2048 ≤ d.val ∧ d.val < 2048 + 512) ∨ (2560 ≤ d.val ∧ d.val < 2560 + 512) ∨ (3072 ≤ d.val ∧ d.val < 3072 + 512) ∨ (3584 ≤ d.val ∧ d.val < 3584 + 512)
      ∨ (4096 ≤ d.val ∧ d.val < 4096 + 512) ∨ (4608 ≤ d.val ∧ d.val < 4608 + 512) ∨ (5120 ≤ d.val ∧ d.val < 5120 + 3072) := by omega
  · refine slice_in x _ _ n d 0 ?_ s0 ?_ 0 ?_ hp _ ?_
    · show 0 < 11; decide
    · rfl
    · simp
    · unfold source; dsimp only; split_ifs <;> omega
  · refine slice_in x _ _ n d 1 ?_ s1 ?_ 512 ?_ hp _ ?_
    · show 1 < 11; decide
    · rfl
    · simp
    · unfold source; dsimp only; split_ifs <;> omega
  · refine slice_in x _ _ n d 2 ?_ s2 ?_ 1024 ?_ hp _ ?_
    · show 2 < 11; decide
    · rfl
    · simp
    · unfold source; dsimp only; split_ifs <;> omega
  · refine slice_in x _ _ n d 3 ?_ s3 ?_ 1536 ?_ hp _ ?_
    · show 3 < 11; decide
    · rfl
    · simp
    · unfold source; dsimp only; split_ifs <;> omega
  · refine slice_in x _ _ n d 4 ?_ s4 ?_ 2048 ?_ hp _ ?_
    · show 4 < 11; decide
    · rfl
    · simp
    · unfold source; dsimp only; split_ifs <;> omega
  · refine slice_in x _ _ n d 5 ?_ s5 ?_ 2560 ?_ hp _ ?_
    · show 5 < 11; decide
    · rfl
    · simp
    · unfold source; dsimp only; split_ifs <;> omega
  · refine slice_in x _ _ n d 6 ?_ s6 ?_ 3072 ?_ hp _ ?_
    · show 6 < 11; decide
    · rfl
    · simp
    · unfold source; dsimp only; split_ifs <;> omega
  · refine slice_in x _ _ n d 7 ?_ s7 ?_ 3584 ?_ hp _ ?_
    · show 7 < 11; decide
    · rfl
    · simp
    · unfold source; dsimp only; split_ifs <;> omega
  · refine slice_in x _ _ n d 8 ?_ s8 ?_ 4096 ?_ hp _ ?_
    · show 8 < 11; decide
    · rfl
    · simp
    · unfold source; dsimp only; split_ifs <;> omega
  · refine slice_in x _ _ n d 9 ?_ s9 ?_ 4608 ?_ hp _ ?_
    · show 9 < 11; decide
    · rfl
    · simp
    · unfold source; dsimp only; split_ifs <;> omega
  · refine slice_in x _ _ n d 10 ?_ s10 ?_ 5120 ?_ hp _ ?_
    · show 10 < 11; decide
    · rfl
    · simp
    · unfold source; dsimp only; split_ifs <;> omega

/-- The small table, its padding all `z`. -/
theorem small_read (s0 : (⟨2, ![R, 8200]⟩ : Shape).Slices ![0, 2048] ⟨2, ![R, 4]⟩) (s1 : (⟨2, ![R, 8200]⟩ : Shape).Slices ![0, 2052] ⟨2, ![R, 4]⟩)
    (p : (⟨2, ![R, 120]⟩ : Shape).Idx → α) (z : α) (hz : ∀ i, p i = z)
    (h : Shape.Concatenates [⟨2, ![R, 4]⟩, ⟨2, ![R, 4]⟩, ⟨2, ![R, 120]⟩] ⟨2, ![R, 128]⟩ 1) (n : Fin R) (e : Fin 128) :
    concatenate ⟨2, ![R, 128]⟩ 1 [⟨⟨2, ![R, 4]⟩, extractStridedSlice ⟨2, ![R, 4]⟩ ![0, 2048] x s0⟩,
      ⟨⟨2, ![R, 4]⟩, extractStridedSlice ⟨2, ![R, 4]⟩ ![0, 2052] x s1⟩, ⟨⟨2, ![R, 120]⟩, p⟩] h (ix2 n e)
      = if he : e.val < 8 then x (ix2 n (gateSource e he)) else z := by
  have hd := e.isLt
  by_cases he : e.val < 8
  · rw [dif_pos he]
    by_cases h4 : e.val < 4
    · refine slice_in x _ _ n e 0 ?_ s0 ?_ 0 ?_ ⟨by omega, by omega⟩ _ ?_
      · show 0 < 3; decide
      · rfl
      · simp
      · unfold gateSource; dsimp only; omega
    · refine slice_in x _ _ n e 1 ?_ s1 ?_ 4 ?_ ⟨by omega, by omega⟩ _ ?_
      · show 1 < 3; decide
      · rfl
      · simp
      · unfold gateSource; dsimp only; omega
  · rw [dif_neg he]
    refine (piece_read _ _ n e 2 ?_ p ?_ 8 ?_ ⟨e.val - 8, by omega⟩ ?_).trans (hz _)
    · show 2 < 3; decide
    · rfl
    · simp
    · dsimp only; omega

end

end Cert.ProjWalk
end
-- ==== Proof.ProjTable.lean ====
module

public import proofs.«01_k».proof.Proof.ProjBlock
public import proofs.«01_k».proof.Proof.ProjCols
public import proofs.«01_k».proof.Proof.Gen.ProjRefIdeal.Read

/-! # The input projection's result arrays

Every visit of a tile keeps the tile's normalised rows and its block of the small result, so each large block is written from
those rows at every visit, and the small block at the last one. -/

@[expose] public section

set_option maxRecDepth 65536

noncomputable section

namespace Cert.ProjWalk

open Cert.ProjIdeal Cert.ProjIdeal.Gen Cert.ProjIdeal.Visit
open Cert.FfnWalk (normed)
open Idealize.ShloMosaic Idealize.ShloMosaic.TcCoe Idealize.SL.Sem

theorem points : cfg0.N = 104 := N_0

/-- Point `t` is tile `t / 8`, group `t % 8`. -/
theorem places : ∀ t : Fin cfg0.N, (win0_0.index t 0 = t.val / 8 ∧ win0_0.index t 1 = 0) ∧ (win0_1.index t 0 = 0 ∧ win0_1.index t 1 = 0)
    ∧ (win0_2.index t 0 = 0 ∧ win0_2.index t 1 = t.val % 8) ∧ (win0_3.index t 0 = 0 ∧ win0_3.index t 1 = 0)
    ∧ (win0_4.index t 0 = t.val / 8 ∧ win0_4.index t 1 = t.val % 8) ∧ (win0_5.index t 0 = t.val / 8 ∧ win0_5.index t 1 = 0) :=
  (by decide +kernel : ∀ t : Fin grid0.N, _)

/-- Row `i` of the tile of point `n`. -/
def rowOf (n : ℕ) (h : n < cfg0.N) (i : Fin 1280) : Fin 16640 := ⟨1280 * (n / 8) + i.val, by have := lt_of_lt_of_eq h points; omega⟩

/-- Column `d` of group `n % 8`. -/
def colOf (n : ℕ) (d : Fin 1024) : Fin 8192 := ⟨1024 * (n % 8) + d.val, by omega⟩

/-! ## The values -/

/-- A normalised token's product with a column of the weights. -/
def product (x : S16640x1024.Idx → EReal) (w : S1024.Idx → EReal) (g : S1024x8200.Idx → EReal) (n : Fin 16640) (f : Fin 8200) : EReal :=
  ∑ k : Fin 1024, normed (fun j => x (ix2 n j)) (fun j => w (ix1 j)) k * g (ix2 k f)

/-- The large result. -/
def large (x : S16640x1024.Idx → EReal) (w : S1024.Idx → EReal) (g : S1024x8200.Idx → EReal) (n : Fin 16640) (d : Fin 8192) : EReal :=
  product x w g n (source d)

/-- The small result: eight gate columns, then zeros. -/
def small (x : S16640x1024.Idx → EReal) (w : S1024.Idx → EReal) (g : S1024x8200.Idx → EReal) (n : Fin 16640) (e : Fin 128) : EReal :=
  if he : e.val < 8 then product x w g n (gateSource e he) else 0

variable (m : (ℓ : Loc nD τ sig) → Buf (Elt Ideal) ℓ)

/-! ## The blocks a point reads -/

theorem x_block (c : Dev nD) (t : Fin cfg0.N) (i : Fin 1280) (k : Fin 1024) :
    iblk m c 0 t (ix2 i k) = m ((c : Thread nD τ).loc main_arg0) (ix2 (rowOf t.val t.isLt i) k) := by
  have hp := places t
  unfold iblk
  rw [← V_main_arg0 m c]
  refine congrArg (V m c main_arg0) (funext fun a => Fin.ext ?_)
  match a with
  | ⟨0, _⟩ => show win0_0.index t 0 * 1280 + 1 * i.val = 1280 * (t.val / 8) + i.val; omega
  | ⟨1, _⟩ => show win0_0.index t 1 * 1024 + 1 * k.val = k.val; omega

theorem norm_block (c : Dev nD) (t : Fin cfg0.N) (k : Fin 1024) :
    iblk m c 1 t (ix2 0 k) = m ((c : Thread nD τ).loc main_arg1) (ix1 k) := by
  have hp := places t
  unfold iblk
  entry_read
  refine shapeCast_apply _ shapeCasts_S1024_S1x1024 _ (ix1 k) ?_
  rw [Shape.rowMajor_val_one, Shape.rowMajor_val_two]
  show k.val = (win0_1.index t 0 * 1 + 1 * 0) * 1024 + (win0_1.index t 1 * 1024 + 1 * k.val)
  omega

/-- The rearranged weights. -/
def rearranged (g : Vec Ideal S1024x8200 .f32) : Vec Ideal S1024x8192 .bf16 :=
  truncf (F := Ideal) .bf16 (concatenate S1024x8192 1 [⟨S1024x512, extractStridedSlice S1024x512 ![0, 0] g slices_S1024x8200_S1024x512_0_0⟩,
        ⟨S1024x512, extractStridedSlice S1024x512 ![0, 512] g slices_S1024x8200_S1024x512_0_512⟩,
        ⟨S1024x512, extractStridedSlice S1024x512 ![0, 1024] g slices_S1024x8200_S1024x512_0_1024⟩,
        ⟨S1024x512, extractStridedSlice S1024x512 ![0, 1536] g slices_S1024x8200_S1024x512_0_1536⟩,
        ⟨S1024x512, extractStridedSlice S1024x512 ![0, 2056] g slices_S1024x8200_S1024x512_0_2056⟩,
        ⟨S1024x512, extractStridedSlice S1024x512 ![0, 3592] g slices_S1024x8200_S1024x512_0_3592⟩,
        ⟨S1024x512, extractStridedSlice S1024x512 ![0, 2568] g slices_S1024x8200_S1024x512_0_2568⟩,
        ⟨S1024x512, extractStridedSlice S1024x512 ![0, 3080] g slices_S1024x8200_S1024x512_0_3080⟩,
        ⟨S1024x512, extractStridedSlice S1024x512 ![0, 4104] g slices_S1024x8200_S1024x512_0_4104⟩,
        ⟨S1024x512, extractStridedSlice S1024x512 ![0, 4616] g slices_S1024x8200_S1024x512_0_4616⟩,
        ⟨S1024x3072, extractStridedSlice S1024x3072 ![0, 5128] g slices_S1024x8200_S1024x3072_0_5128⟩]
      concatenates_S1024x512_S1024x512_S1024x512_S1024x512_S1024x512_S1024x512_S1024x512_S1024x512_S1024x512_S1024x512_S1024x3072_S1024x8192_d1) bitsLt_bf16_f32

/-- The gate weights and their padding. -/
def padded (g : Vec Ideal S1024x8200 .f32) : Vec Ideal S1024x128 .bf16 :=
  truncf (F := Ideal) .bf16 (concatenate S1024x128 1 [⟨S1024x4, extractStridedSlice S1024x4 ![0, 2048] g slices_S1024x8200_S1024x4_0_2048⟩,
        ⟨S1024x4, extractStridedSlice S1024x4 ![0, 2052] g slices_S1024x8200_S1024x4_0_2052⟩,
        ⟨S1024x120, broadcastInDim S1024x120 ![] bcast_S_S1024x120 (constant (F := Ideal) S_ .f32 0x00000000#32)⟩]
      concatenates_S1024x4_S1024x4_S1024x120_S1024x128_d1) bitsLt_bf16_f32

/-- The rearranged weights from the buffers that hold their pieces. -/
theorem rearranged_of (W : Valuation τ sig (Elt Ideal)) (g : Vec Ideal S1024x8200 .f32)
    (h0 : W (Proc.devRef .tc main_v0) = extractStridedSlice S1024x512 ![0, 0] g slices_S1024x8200_S1024x512_0_0)
    (h1 : W (Proc.devRef .tc main_v1) = extractStridedSlice S1024x512 ![0, 512] g slices_S1024x8200_S1024x512_0_512)
    (h2 : W (Proc.devRef .tc main_v2) = extractStridedSlice S1024x512 ![0, 1024] g slices_S1024x8200_S1024x512_0_1024)
    (h3 : W (Proc.devRef .tc main_v3) = extractStridedSlice S1024x512 ![0, 1536] g slices_S1024x8200_S1024x512_0_1536)
    (h4 : W (Proc.devRef .tc main_v6) = extractStridedSlice S1024x512 ![0, 2056] g slices_S1024x8200_S1024x512_0_2056)
    (h5 : W (Proc.devRef .tc main_v9) = extractStridedSlice S1024x512 ![0, 3592] g slices_S1024x8200_S1024x512_0_3592)
    (h6 : W (Proc.devRef .tc main_v7) = extractStridedSlice S1024x512 ![0, 2568] g slices_S1024x8200_S1024x512_0_2568)
    (h7 : W (Proc.devRef .tc main_v8) = extractStridedSlice S1024x512 ![0, 3080] g slices_S1024x8200_S1024x512_0_3080)
    (h8 : W (Proc.devRef .tc main_v10) = extractStridedSlice S1024x512 ![0, 4104] g slices_S1024x8200_S1024x512_0_4104)
    (h9 : W (Proc.devRef .tc main_v11) = extractStridedSlice S1024x512 ![0, 4616] g slices_S1024x8200_S1024x512_0_4616)
    (h10 : W (Proc.devRef .tc main_v12) = extractStridedSlice S1024x3072 ![0, 5128] g slices_S1024x8200_S1024x3072_0_5128) :
    (truncf (F := Ideal) .bf16 (concatenate S1024x8192 1 [⟨S1024x512, (W (Proc.devRef .tc main_v0) : Vec Ideal S1024x512 .f32)⟩,
        ⟨S1024x512, (W (Proc.devRef .tc main_v1) : Vec Ideal S1024x512 .f32)⟩,
        ⟨S1024x512, (W (Proc.devRef .tc main_v2) : Vec Ideal S1024x512 .f32)⟩,
        ⟨S1024x512, (W (Proc.devRef .tc main_v3) : Vec Ideal S1024x512 .f32)⟩,
        ⟨S1024x512, (W (Proc.devRef .tc main_v6) : Vec Ideal S1024x512 .f32)⟩,
        ⟨S1024x512, (W (Proc.devRef .tc main_v9) : Vec Ideal S1024x512 .f32)⟩,
        ⟨S1024x512, (W (Proc.devRef .tc main_v7) : Vec Ideal S1024x512 .f32)⟩,
        ⟨S1024x512, (W (Proc.devRef .tc main_v8) : Vec Ideal S1024x512 .f32)⟩,
        ⟨S1024x512, (W (Proc.devRef .tc main_v10) : Vec Ideal S1024x512 .f32)⟩,
        ⟨S1024x512, (W (Proc.devRef .tc main_v11) : Vec Ideal S1024x512 .f32)⟩,
        ⟨S1024x3072, (W (Proc.devRef .tc main_v12) : Vec Ideal S1024x3072 .f32)⟩]
      concatenates_S1024x512_S1024x512_S1024x512_S1024x512_S1024x512_S1024x512_S1024x512_S1024x512_S1024x512_S1024x512_S1024x3072_S1024x8192_d1) bitsLt_bf16_f32) = rearranged g := by
  rw [h0, h1, h2, h3, h4, h5, h6, h7, h8, h9, h10]
  rfl

/-- The padded gate weights from the buffers that hold their pieces. -/
theorem padded_of (W : Valuation τ sig (Elt Ideal)) (g : Vec Ideal S1024x8200 .f32)
    (h0 : W (Proc.devRef .tc main_v4) = extractStridedSlice S1024x4 ![0, 2048] g slices_S1024x8200_S1024x4_0_2048)
    (h1 : W (Proc.devRef .tc main_v5) = extractStridedSlice S1024x4 ![0, 2052] g slices_S1024x8200_S1024x4_0_2052)
    (h2 : W (Proc.devRef .tc main_v15) = broadcastInDim S1024x120 ![] bcast_S_S1024x120 (constant (F := Ideal) S_ .f32 0x00000000#32)) :
    (truncf (F := Ideal) .bf16 (concatenate S1024x128 1 [⟨S1024x4, (W (Proc.devRef .tc main_v4) : Vec Ideal S1024x4 .f32)⟩,
        ⟨S1024x4, (W (Proc.devRef .tc main_v5) : Vec Ideal S1024x4 .f32)⟩,
        ⟨S1024x120, (W (Proc.devRef .tc main_v15) : Vec Ideal S1024x120 .f32)⟩]
      concatenates_S1024x4_S1024x4_S1024x120_S1024x128_d1) bitsLt_bf16_f32) = padded g := by
  rw [h0, h1, h2]
  rfl

set_option maxHeartbeats 2000000 in
theorem large_entry (c : Dev nD) : V m c main_v14 = rearranged (m ((c : Thread nD τ).loc main_arg2)) := by
  unfold V hostOps0
  after_results_simp
  refine rearranged_of _ (m ((c : Thread nD τ).loc main_arg2)) ?_ ?_ ?_ ?_ ?_ ?_ ?_ ?_ ?_ ?_ ?_ <;> (after_results_simp <;> rfl)

set_option maxHeartbeats 2000000 in
theorem small_entry (c : Dev nD) : V m c main_v17 = padded (m ((c : Thread nD τ).loc main_arg2)) := by
  unfold V hostOps0
  after_results_simp
  refine padded_of _ (m ((c : Thread nD τ).loc main_arg2)) ?_ ?_ ?_ <;> (after_results_simp <;> rfl)

theorem rearranged_read (g : Vec Ideal S1024x8200 .f32) (k : Fin 1024) (d : Fin 8192) : rearranged g (ix2 k d) = g (ix2 k (source d)) := by
  unfold rearranged
  refine (ValueIdx.truncf_apply _ bitsLt_bf16_f32 _).trans ?_
  exact large_read g slices_S1024x8200_S1024x512_0_0 slices_S1024x8200_S1024x512_0_512 slices_S1024x8200_S1024x512_0_1024
    slices_S1024x8200_S1024x512_0_1536 slices_S1024x8200_S1024x512_0_2056 slices_S1024x8200_S1024x512_0_3592
    slices_S1024x8200_S1024x512_0_2568 slices_S1024x8200_S1024x512_0_3080 slices_S1024x8200_S1024x512_0_4104
    slices_S1024x8200_S1024x512_0_4616 slices_S1024x8200_S1024x3072_0_5128
    concatenates_S1024x512_S1024x512_S1024x512_S1024x512_S1024x512_S1024x512_S1024x512_S1024x512_S1024x512_S1024x512_S1024x3072_S1024x8192_d1 k d

theorem padded_read (g : Vec Ideal S1024x8200 .f32) (k : Fin 1024) (e : Fin 128) :
    padded g (ix2 k e) = if he : e.val < 8 then g (ix2 k (gateSource e he)) else (0 : EReal) := by
  unfold padded
  refine (ValueIdx.truncf_apply _ bitsLt_bf16_f32 _).trans ?_
  exact small_read g slices_S1024x8200_S1024x4_0_2048 slices_S1024x8200_S1024x4_0_2052
    (broadcastInDim S1024x120 ![] bcast_S_S1024x120 (constant (F := Ideal) S_ .f32 0x00000000#32)) (0 : EReal)
    (fun _ => Ideal.ofBits_zero .f32) concatenates_S1024x4_S1024x4_S1024x120_S1024x128_d1 k e

theorem large_weights (c : Dev nD) (k : Fin 1024) (d : Fin 8192) :
    V m c main_v14 (ix2 k d) = m ((c : Thread nD τ).loc main_arg2) (ix2 k (source d)) :=
  (congrFun (large_entry m c) (ix2 k d)).trans (rearranged_read _ k d)

theorem small_weights (c : Dev nD) (k : Fin 1024) (e : Fin 128) :
    V m c main_v17 (ix2 k e) = if he : e.val < 8 then m ((c : Thread nD τ).loc main_arg2) (ix2 k (gateSource e he)) else (0 : EReal) :=
  (congrFun (small_entry m c) (ix2 k e)).trans (padded_read _ k e)

theorem large_block (c : Dev nD) (t : Fin cfg0.N) (k d : Fin 1024) :
    iblk m c 2 t (ix2 k d) = m ((c : Thread nD τ).loc main_arg2) (ix2 k (source (colOf t.val d))) := by
  have hp := places t
  refine Eq.trans ?_ (large_weights m c k _)
  unfold iblk
  refine congrArg (V m c main_v14) (funext fun a => Fin.ext ?_)
  match a with
  | ⟨0, _⟩ => show win0_2.index t 0 * 1024 + 1 * k.val = k.val; omega
  | ⟨1, _⟩ => show win0_2.index t 1 * 1024 + 1 * d.val = 1024 * (t.val % 8) + d.val; omega

theorem small_block (c : Dev nD) (t : Fin cfg0.N) (k : Fin 1024) (e : Fin 128) :
    iblk m c 3 t (ix2 k e) = if he : e.val < 8 then m ((c : Thread nD τ).loc main_arg2) (ix2 k (gateSource e he)) else (0 : EReal) := by
  have hp := places t
  refine Eq.trans ?_ (small_weights m c k e)
  unfold iblk
  refine congrArg (V m c main_v17) (funext fun a => Fin.ext ?_)
  match a with
  | ⟨0, _⟩ => show win0_3.index t 0 * 1024 + 1 * k.val = k.val; omega
  | ⟨1, _⟩ => show win0_3.index t 1 * 128 + 1 * e.val = e.val; omega

/-! ## What the buffers hold -/

/-- The normalised rows of the tile of point `n`. -/
abbrev rowsOf (c : Dev nD) (n : ℕ) (h : n < cfg0.N) (i : Fin 1280) : Fin 1024 → EReal :=
  normed (fun j => m ((c : Thread nD τ).loc main_arg0) (ix2 (rowOf n h i) j)) (fun j => m ((c : Thread nD τ).loc main_arg1) (ix1 j))

/-- The two results, of the arguments. -/
abbrev largeOf (c : Dev nD) : Fin 16640 → Fin 8192 → EReal :=
  large (m ((c : Thread nD τ).loc main_arg0)) (m ((c : Thread nD τ).loc main_arg1)) (m ((c : Thread nD τ).loc main_arg2))
abbrev smallOf (c : Dev nD) : Fin 16640 → Fin 128 → EReal :=
  small (m ((c : Thread nD τ).loc main_arg0)) (m ((c : Thread nD τ).loc main_arg1)) (m ((c : Thread nD τ).loc main_arg2))

theorem rows_first (c : Dev nD) (t : Fin cfg0.N) (i : Fin 1280) (k : Fin 1024) :
    k0_pay2 (F := Ideal) (iblk m c 0 t) (iblk m c 1 t) (ix2 i k) = rowsOf m c t.val t.isLt i k := by
  refine (kept_at _ _ i k).trans ?_
  simp only [x_block, norm_block]

/-- A padding column is a sum of products with zero. -/
theorem small_first (c : Dev nD) (t : Fin cfg0.N) (i : Fin 1280) (e : Fin 128) :
    k0_pay3 (F := Ideal) (iblk m c 0 t) (iblk m c 1 t) (iblk m c 3 t) (ix2 i e) = smallOf m c (rowOf t.val t.isLt i) e := by
  refine (small_at _ _ _ i e).trans ?_
  simp only [x_block, norm_block, small_block]
  unfold smallOf small product
  by_cases he : e.val < 8
  · simp only [dif_pos he]
  · simp only [dif_neg he, mul_zero, Finset.sum_const_zero]

/-- A large block from the tile's normalised rows. -/
theorem large_step (c : Dev nD) (t : Fin cfg0.N) (h : Vec Ideal S1280x1024 .bf16) (hh : ∀ i k, h (ix2 i k) = rowsOf m c t.val t.isLt i k)
    (i : Fin 1280) (d : Fin 1024) : k0_pay4 h (iblk m c 2 t) (ix2 i d) = largeOf m c (rowOf t.val t.isLt i) (colOf t.val d) := by
  refine (large_at h _ i d).trans ?_
  simp only [hh, large_block]
  rfl

/-- After every point the buffers hold the tile's rows and its small block. -/
theorem carried (c : Dev nD) (n : ℕ) (h : n < cfg0.N) :
    (∀ i k, (held m c n h).2.2 (ix2 i k) = rowsOf m c n h i k) ∧ (∀ i e, (held m c n h).2.1 (ix2 i e) = smallOf m c (rowOf n h i) e) := by
  have start : ∀ (t : Fin cfg0.N), t.val % 8 = 0 →
      (∀ i k, (held m c t.val t.isLt).2.2 (ix2 i k) = rowsOf m c t.val t.isLt i k)
      ∧ (∀ i e, (held m c t.val t.isLt).2.1 (ix2 i e) = smallOf m c (rowOf t.val t.isLt i) e) := by
    intro t h0
    rw [held_first m c t h0]
    unfold afterFirst
    dsimp only
    exact ⟨fun i k => (congrFun (first_kept ..) (ix2 i k)).trans (rows_first m c t i k),
      fun i e => (congrFun (first_small ..) (ix2 i e)).trans (small_first m c t i e)⟩
  induction n with
  | zero => exact start ⟨0, h⟩ rfl
  | succ n ih =>
    by_cases h0 : (n + 1) % 8 = 0
    · exact start ⟨n + 1, h⟩ h0
    · obtain ⟨ir, is⟩ := ih ((Nat.lt_succ_self n).trans h)
      have hr : ∀ i, rowOf n ((Nat.lt_succ_self n).trans h) i = rowOf (n + 1) h i :=
        fun i => Fin.ext (by show 1280 * (n / 8) + i.val = 1280 * ((n + 1) / 8) + i.val; omega)
      simp only [hr, rowsOf] at ir
      simp only [hr] at is
      have e := held_next m c ⟨n + 1, h⟩ h0
      dsimp only at e
      rw [e]
      unfold afterNext
      dsimp only
      exact ⟨ir, is⟩

/-- The large block a point writes. -/
theorem large_written (c : Dev nD) (t : Fin cfg0.N) (i : Fin 1280) (d : Fin 1024) :
    (held m c t.val t.isLt).1 (ix2 i d) = largeOf m c (rowOf t.val t.isLt i) (colOf t.val d) := by
  by_cases h0 : t.val % 8 = 0
  · rw [held_first m c t h0]
    unfold afterFirst
    dsimp only
    exact (congrFun (first_large ..) (ix2 i d)).trans (large_step m c t _ (rows_first m c t) i d)
  · have hlt := t.isLt
    have ir := (carried m c (t.val - 1) (by omega)).1
    have hr : ∀ i, rowOf (t.val - 1) (by omega) i = rowOf t.val t.isLt i :=
      fun i => Fin.ext (by show 1280 * ((t.val - 1) / 8) + i.val = 1280 * (t.val / 8) + i.val; omega)
    simp only [hr, rowsOf] at ir
    rw [held_next m c t h0]
    unfold afterNext
    dsimp only
    exact (congrFun (next_large ..) (ix2 i d)).trans (large_step m c t _ ir i d)

/-! ## The arrays -/

/-- The two result arrays, of the arguments. -/
def largeTable (c : Dev nD) (i : S16640x8192.Idx) : EReal := largeOf m c (i 0) (i 1)
def smallTable (c : Dev nD) (i : S16640x128.Idx) : EReal := smallOf m c (i 0) (i 1)

theorem mem_large (t : Fin cfg0.N) (i : S16640x8192.Idx) : i ∈ ((cfg0.win 4).blk t).view.set ↔
    (t.val / 8 * 1280 ≤ (i 0).val ∧ (i 0).val < t.val / 8 * 1280 + 1280)
    ∧ (t.val % 8 * 1024 ≤ (i 1).val ∧ (i 1).val < t.val % 8 * 1024 + 1024) := by
  have hp := (places t).2.2.2.2.1
  show i ∈ ((View.whole main_v19_0).slice (win0_4.rect t)).set ↔ _
  rw [View.set_slice_whole, Rect.mem_set_unit, ← hp.1, ← hp.2]
  exact ⟨fun h => ⟨h 0, h 1⟩, fun h a => match a with
    | ⟨0, _⟩ => h.1
    | ⟨1, _⟩ => h.2⟩

theorem mem_small (t : Fin cfg0.N) (i : S16640x128.Idx) : i ∈ ((cfg0.win 5).blk t).view.set ↔
    (t.val / 8 * 1280 ≤ (i 0).val ∧ (i 0).val < t.val / 8 * 1280 + 1280) ∧ (0 * 128 ≤ (i 1).val ∧ (i 1).val < 0 * 128 + 128) := by
  have hp := (places t).2.2.2.2.2
  show i ∈ ((View.whole main_v19_1).slice (win0_5.rect t)).set ↔ _
  rw [View.set_slice_whole, Rect.mem_set_unit, ← hp.1, ← hp.2]
  exact ⟨fun h => ⟨h 0, h 1⟩, fun h a => match a with
    | ⟨0, _⟩ => h.1
    | ⟨1, _⟩ => h.2⟩

theorem large_covered (i : S16640x8192.Idx) : ∃ t : Fin cfg0.N, (cfg0.win 4).flush t = true ∧ i ∈ ((cfg0.win 4).blk t).view.set := by
  have h0 : (i 0).val < 16640 := (i 0).isLt
  have h1 : (i 1).val < 8192 := (i 1).isLt
  refine ⟨⟨8 * ((i 0).val / 1280) + (i 1).val / 1024, by rw [points]; omega⟩, flush0_4 _, ?_⟩
  rw [mem_large]
  dsimp only
  omega

theorem small_covered (i : S16640x128.Idx) : ∃ t : Fin cfg0.N, (cfg0.win 5).flush t = true ∧ i ∈ ((cfg0.win 5).blk t).view.set := by
  have h0 : (i 0).val < 16640 := (i 0).isLt
  have h1 : (i 1).val < 128 := (i 1).isLt
  refine ⟨⟨8 * ((i 0).val / 1280) + 7, by rw [points]; omega⟩, (flush0_5 _).mpr (by dsimp only; omega), ?_⟩
  rw [mem_small]
  dsimp only
  omega

theorem flushed_large (c : Dev nD) (t : Fin cfg0.N) :
    (dats m 0 c).flushed 4 t = (cfg0.win 4).cut (grid0.coords t) ((held m c t.val t.isLt).1) := by
  show (cfg0.win 4).cut (grid0.coords t) ((dats m 0 c).after 4 t) = _
  rw [after4]

theorem flushed_small (c : Dev nD) (t : Fin cfg0.N) :
    (dats m 0 c).flushed 5 t = (cfg0.win 5).cut (grid0.coords t) ((held m c t.val t.isLt).2.1) := by
  show (cfg0.win 5).cut (grid0.coords t) ((dats m 0 c).after 5 t) = _
  rw [after5]

/-- The kernel's large result. -/
theorem kernel_large (c : Dev nD) : (dats m 0 c).arrAt 4 cfg0.N = largeTable m c := by
  refine (dats m 0 c).arrAt_eq_of_cover 4 _ (fun t _ => ?_) large_covered
  have hp := (places t).2.2.2.2.1
  have key : ∀ (i : Fin 1280) (d : Fin 1024), (dats m 0 c).flushed 4 t (ix2 i d)
      = ((cfg0.win 4).blk t).view.read (Elt Ideal) (largeTable m c) (ix2 i d) := by
    intro i d
    rw [flushed_large]
    refine (large_written m c t i d).trans ?_
    show largeTable m c (ix2 (rowOf t.val t.isLt i) (colOf t.val d)) = _
    refine congrArg (largeTable m c) (funext fun a => Fin.ext ?_)
    match a with
    | ⟨0, _⟩ => show 1280 * (t.val / 8) + i.val = win0_4.index t 0 * 1280 + 1 * i.val; omega
    | ⟨1, _⟩ => show 1024 * (t.val % 8) + d.val = win0_4.index t 1 * 1024 + 1 * d.val; omega
  funext j
  have e : j = ix2 (j 0) (j 1) := eq_ix2 j
  rw [e]
  exact key (j 0) (j 1)

/-- The kernel's small result. -/
theorem kernel_small (c : Dev nD) : (dats m 0 c).arrAt 5 cfg0.N = smallTable m c := by
  refine (dats m 0 c).arrAt_eq_of_cover 5 _ (fun t _ => ?_) small_covered
  have hp := (places t).2.2.2.2.2
  have key : ∀ (i : Fin 1280) (e : Fin 128), (dats m 0 c).flushed 5 t (ix2 i e)
      = ((cfg0.win 5).blk t).view.read (Elt Ideal) (smallTable m c) (ix2 i e) := by
    intro i e
    rw [flushed_small]
    refine ((carried m c t.val t.isLt).2 i e).trans ?_
    show smallTable m c (ix2 (rowOf t.val t.isLt i) e) = _
    refine congrArg (smallTable m c) (funext fun a => Fin.ext ?_)
    match a with
    | ⟨0, _⟩ => show 1280 * (t.val / 8) + i.val = win0_5.index t 0 * 1280 + 1 * i.val; omega
    | ⟨1, _⟩ => show e.val = win0_5.index t 1 * 128 + 1 * e.val; omega
  funext j
  have e : j = ix2 (j 0) (j 1) := eq_ix2 j
  rw [e]
  exact key (j 0) (j 1)

end Cert.ProjWalk

namespace Cert.ProjRef

open Cert.ProjRefIdeal Cert.ProjRefIdeal.Read Cert.ProjWalk
open Cert.FfnWalk (normed)
open Idealize.ShloMosaic Idealize.ShloMosaic.TcCoe Idealize.SL.Sem

variable (x0 : (⟨S16640x1024, .f32⟩ : BufTy).Contents (Elt Ideal)) (x1 : (⟨S1024, .f32⟩ : BufTy).Contents (Elt Ideal))
  (x2 : (⟨S1024x8200, .f32⟩ : BufTy).Contents (Elt Ideal))

/-- The reference's normalised rows. -/
theorem normed_row (n : Fin 16640) (k : Fin 1024) :
    val_main_v12 (F := Ideal) x0 x1 (ix2 n k) = normed (fun j => x0 (ix2 n j)) (fun j => x1 (ix1 j)) k := by
  rw [val_main_v12_apply, val_main_v11_apply, val_main_v10_apply, val_main_v9_apply, val_main_v8_apply, val_main_v7_apply,
    val_main_v6_apply, val_main_v5_apply, val_main_v4_apply, val_main_v3_apply, val_main_v2_apply, val_main_v1_apply]
  simp only [val_main_v0_apply, val_main_cst_apply, val_main_cst_0_apply, val_main_cst_1_apply]
  simp only [Ideal.hostDivf_def, Ideal.addf_def, Ideal.mulf_def]
  have e : ∀ j : Fin 1024, idx_main_v1 (idx_main_v2 (idx_main_v8 (ix2 n k))) j = ix2 n j := fun j => eq_ix2 _
  have e' : idx_main_v10 (idx_main_v11 (ix2 n k)) = ix1 k := eq_ix1 _
  have z : FloatOps.ofBits (F := Ideal) .f32 0x00000000#32 = 0 := Ideal.ofBits_zero .f32
  rw [z, zero_add, e']
  simp only [e]
  rfl

/-- The reference's products. -/
theorem product_row (n : Fin 16640) (f : Fin 8200) : val_main_v13 (F := Ideal) x0 x1 x2 (ix2 n f) = product x0 x1 x2 n f := by
  rw [val_main_v13_apply]
  refine Finset.sum_congr rfl fun k _ => congrArg₂ (· * ·) ((congrArg _ (?_ : _ = ix2 n k)).trans (normed_row x0 x1 n k)) (congrArg x2 ?_)
  · exact eq_ix2 _
  · exact eq_ix2 _

/-- The reference's large result. -/
theorem reference_large (i : S16640x8192.Idx) : val_main_v27 (F := Ideal) x0 x1 x2 i = large x0 x1 x2 (i 0) (i 1) := by
  obtain ⟨n, d, rfl⟩ : ∃ n d, i = ix2 n d := ⟨i 0, i 1, eq_ix2 i⟩
  unfold val_main_v27 val_main_v14 val_main_v15 val_main_v16 val_main_v17 val_main_v20 val_main_v21 val_main_v22 val_main_v23
    val_main_v24 val_main_v25 val_main_v26
  exact (large_read (val_main_v13 (F := Ideal) x0 x1 x2) _ _ _ _ _ _ _ _ _ _ _ _ n d).trans (product_row x0 x1 x2 n (source d))

/-- The reference's small result. -/
theorem reference_small (i : S16640x128.Idx) : val_main_v29 (F := Ideal) x0 x1 x2 i = small x0 x1 x2 (i 0) (i 1) := by
  obtain ⟨n, e, rfl⟩ : ∃ n e, i = ix2 n e := ⟨i 0, i 1, eq_ix2 i⟩
  have hz : ∀ j, val_main_v28 (F := Ideal) j = (0 : EReal) := fun j => by
    rw [val_main_v28_apply, val_main_cst_2_apply]; exact Ideal.ofBits_zero .f32
  unfold val_main_v29 val_main_v18 val_main_v19
  refine (small_read (val_main_v13 (F := Ideal) x0 x1 x2) _ _ _ (0 : EReal) hz _ n e).trans ?_
  show _ = small x0 x1 x2 n e
  unfold small
  simp only [product_row]

end Cert.ProjRef
end
-- ==== Proof.lean ====
module

public import proofs.«01_k».proof.Defs
public import proofs.«01_k».proof.Proof.Gen.Diff
public import proofs.«01_k».proof.Proof.Gen.Diff.Skeleton
public import proofs.«01_k».proof.Proof.Gen.Diff.Loops
public import proofs.«01_k».proof.Proof.Gen.Diff.Launch
public import proofs.«01_k».proof.Proof.Gen.Diff.Points
public import proofs.«01_k».proof.Proof.Gen.Diff.Frame
public import proofs.«01_k».proof.Proof.Gen.DiffIdeal
public import proofs.«01_k».proof.Proof.Gen.DiffIdeal.Skeleton
public import proofs.«01_k».proof.Proof.Gen.DiffIdeal.Loops
public import proofs.«01_k».proof.Proof.Gen.DiffIdeal.Launch
public import proofs.«01_k».proof.Proof.Gen.DiffIdeal.Points
public import proofs.«01_k».proof.Proof.Gen.DiffIdeal.Frame
public import proofs.«01_k».proof.Proof.Gen.DiffRefIdeal
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Pre_diff_finite
public import proofs.«01_k».proof.Proof.Gen.Pre_moe_gates
public import Idealize.ShloMosaic.Adequacy
public import Idealize.ShloMosaic.Init
public import proofs.«01_k».proof.Proof.Gen.DiffIdeal.Value
public import proofs.«01_k».proof.Proof.Gen.DiffRefIdeal.Run
public import proofs.«01_k».proof.Proof.Gen.DiffRefIdeal.Read
public import proofs.«01_k».proof.Proof.Gen.MoeIdeal.Value
public import proofs.«01_k».proof.Proof.Gen.MoeRefIdeal.Run
public import proofs.«01_k».proof.Proof.Gen.MoeRefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Finite
public import proofs.«01_k».proof.Proof.MoeRefTable
public import proofs.«01_k».proof.Proof.MergeTable
public import proofs.«01_k».proof.Proof.FfnTable
public import proofs.«01_k».proof.Proof.ProjFrame
public import proofs.«01_k».proof.Proof.ProjTable

@[expose] public section

noncomputable section

namespace Cert.Proof

open Idealize.ShloMosaic Idealize.SL.Sem Cert.Diff

/-- The reference runs, keeps its arguments, and declares no semaphore. -/
theorem reference_frame : Cert.quiescent_DiffRefIdeal := fun m ρ _ =>
  (θ_run Cert.DiffRefIdeal.defs _ _).mono (fun r h => ⟨fun c => (h c).2, sem_eq_zero_of_no_sems (by decide) r.2⟩)
    (Cert.DiffRefIdeal.Value.run (F := Ideal) m ρ)

/-- The kernel's named constant is `1 / (8 log 2)`. -/
theorem constant_kept : Cert.preserves_Diff_DiffIdeal :=
  IdealRules.named_const.statement Cert.DiffIdeal.κ "scale_log2e" .f32 0x3E38AA3B#32 _ rfl

/-- Both result arrays are the table of answers of the arguments. -/
theorem same_values : Cert.algebraic_DiffIdeal_DiffRefIdeal_pre_diff_finite := by
  intro m ρ m' ρ' hpre hagree
  have hres (c : Dev Cert.DiffIdeal.nD) : Cert.DiffRefIdeal.Value.res_main_v60 m' c
      = (Cert.DiffIdeal.Gen.dats m 0 c).arrAt 5 Cert.DiffIdeal.cfg0.N := by
    obtain ⟨hP, h1, h2, h3, h4⟩ := Cert.DiffWalk.entries_real _ _ _ _ _ _ (hpre c)
    obtain ⟨lam, hl⟩ := Cert.DiffWalk.lam_real _ _ _ _ h1 h2 h3 h4
    obtain ⟨a0, a1, a2, a3, a4, a5⟩ := hagree c
    rw [Cert.DiffRefIdeal.Read.val_main_v60_eq]
    rw [a0, a1, a2, a3, a4, a5]
    exact (Cert.DiffWalk.reference_table _ _ _ _ _ _ _ lam hP hl).trans (Cert.DiffWalk.kernel_table m c _ lam hP hl).symm
  refine ⟨fun c => (Cert.DiffIdeal.Gen.dats m 0 c).arrAt 5 Cert.DiffIdeal.cfg0.N, Cert.DiffIdeal.Value.run_blocks (F := Ideal) m ρ, ?_⟩
  exact (θ_run Cert.DiffRefIdeal.defs _ _).mono (fun _ h c => ⟨(h c).1.trans (hres c), (h c).2⟩) (Cert.DiffRefIdeal.Value.run (F := Ideal) m' ρ')

/-- The experts' reference runs, keeps its arguments, and declares no semaphore. -/
theorem moe_reference_frame : Cert.quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

/-- The experts' two result arrays agree where the gates are finite and not negative. -/
theorem moe_values : Cert.algebraic_MoeIdeal_MoeRefIdeal_pre_moe_gates := by
  intro m ρ m' ρ' hpre hagree
  have hres (c : Dev Cert.MoeIdeal.nD) : Cert.MoeRefIdeal.Value.res_main_v39 m' c
      = (Cert.MoeIdeal.Gen.dats m 0 c).arrAt 7 Cert.MoeIdeal.cfg0.N := by
    obtain ⟨a0, a1, a2, a3, a4, a5, a6⟩ := hagree c
    rw [Cert.MoeWalk.kernel_table m c (Cert.MoeWalk.gates_read _ _ _ _ _ _ _ (hpre c))]
    rw [Cert.MoeRefIdeal.Read.val_main_v39_eq]
    rw [a0, a1, a2, a3, a4, a5, a6]
    exact funext fun i => Cert.MoeRef.reference_table _ _ _ _ _ _ _ i
  refine ⟨fun c => (Cert.MoeIdeal.Gen.dats m 0 c).arrAt 7 Cert.MoeIdeal.cfg0.N, Cert.MoeIdeal.Value.run_blocks (F := Ideal) m ρ, ?_⟩
  exact (θ_run Cert.MoeRefIdeal.defs _ _).mono (fun _ h c => ⟨(h c).1.trans (hres c), (h c).2⟩) (Cert.MoeRefIdeal.Value.run (F := Ideal) m' ρ')

/-- The feed-forward's two result arrays agree. -/
theorem ffn_values : Cert.algebraic_FfnIdeal_FfnRefIdeal := by
  intro m ρ m' ρ' _ hagree
  have hres (c : Dev Cert.FfnIdeal.nD) : Cert.FfnRefIdeal.Read.val_main_v18 (F := Ideal)
      (m' ((c.tc : Thread Cert.FfnRefIdeal.nD Cert.FfnRefIdeal.τ).loc Cert.FfnRefIdeal.main_arg0))
      (m' ((c.tc : Thread Cert.FfnRefIdeal.nD Cert.FfnRefIdeal.τ).loc Cert.FfnRefIdeal.main_arg1))
      (m' ((c.tc : Thread Cert.FfnRefIdeal.nD Cert.FfnRefIdeal.τ).loc Cert.FfnRefIdeal.main_arg2))
      (m' ((c.tc : Thread Cert.FfnRefIdeal.nD Cert.FfnRefIdeal.τ).loc Cert.FfnRefIdeal.main_arg3))
      (m' ((c.tc : Thread Cert.FfnRefIdeal.nD Cert.FfnRefIdeal.τ).loc Cert.FfnRefIdeal.main_arg4))
      = (Cert.FfnIdeal.Gen.dats m 0 c).arrAt 7 Cert.FfnIdeal.cfg0.N := by
    obtain ⟨a0, a1, a2, a3, a4⟩ := hagree c
    rw [Cert.FfnWalk.kernel_table]
    rw [a0, a1, a2, a3, a4]
    exact funext fun i => Cert.FfnRef.reference_table _ _ _ _ _ i
  refine ⟨fun c => (Cert.FfnIdeal.Gen.dats m 0 c).arrAt 7 Cert.FfnIdeal.cfg0.N, Cert.FfnIdeal.Value.run_blocks (F := Ideal) m ρ, ?_⟩
  exact (θ_run Cert.FfnRefIdeal.defs _ _).mono (fun _ h c => ⟨(h c).1.trans ((Cert.FfnRefIdeal.Read.val_main_v18_eq ..).trans (hres c)), (h c).2⟩) (Cert.FfnRefIdeal.Value.run (F := Ideal) m' ρ')

/-- The feed-forward reference runs, keeps its arguments, and declares no semaphore. -/
theorem ffn_reference_frame : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The merge's two result arrays agree. -/
theorem merge_values : Cert.algebraic_MergeIdeal_MergeRefIdeal := by
  intro m ρ m' ρ' _ hagree
  have hres (c : Dev Cert.MergeIdeal.nD) : Cert.MergeRefIdeal.Read.val_main_v22 (F := Ideal)
      (m' ((c.tc : Thread Cert.MergeRefIdeal.nD Cert.MergeRefIdeal.τ).loc Cert.MergeRefIdeal.main_arg0))
      (m' ((c.tc : Thread Cert.MergeRefIdeal.nD Cert.MergeRefIdeal.τ).loc Cert.MergeRefIdeal.main_arg1))
      (m' ((c.tc : Thread Cert.MergeRefIdeal.nD Cert.MergeRefIdeal.τ).loc Cert.MergeRefIdeal.main_arg2))
      (m' ((c.tc : Thread Cert.MergeRefIdeal.nD Cert.MergeRefIdeal.τ).loc Cert.MergeRefIdeal.main_arg3))
      (m' ((c.tc : Thread Cert.MergeRefIdeal.nD Cert.MergeRefIdeal.τ).loc Cert.MergeRefIdeal.main_arg4))
      (m' ((c.tc : Thread Cert.MergeRefIdeal.nD Cert.MergeRefIdeal.τ).loc Cert.MergeRefIdeal.main_arg5))
      (m' ((c.tc : Thread Cert.MergeRefIdeal.nD Cert.MergeRefIdeal.τ).loc Cert.MergeRefIdeal.main_arg6))
      (m' ((c.tc : Thread Cert.MergeRefIdeal.nD Cert.MergeRefIdeal.τ).loc Cert.MergeRefIdeal.main_arg7))
      (m' ((c.tc : Thread Cert.MergeRefIdeal.nD Cert.MergeRefIdeal.τ).loc Cert.MergeRefIdeal.main_arg8))
      = (Cert.MergeIdeal.Gen.dats m 0 c).arrAt 11 Cert.MergeIdeal.cfg0.N := by
    obtain ⟨a0, a1, a2, a3, a4, a5, a6, a7, a8⟩ := hagree c
    rw [Cert.MergeWalk.kernel_table]
    rw [a0, a1, a2, a3, a4, a5, a6, a7, a8]
    exact funext fun i => Cert.MergeRef.reference_table _ _ _ _ _ _ _ _ _ i
  refine ⟨fun c => (Cert.MergeIdeal.Gen.dats m 0 c).arrAt 11 Cert.MergeIdeal.cfg0.N, Cert.MergeIdeal.Value.run_blocks (F := Ideal) m ρ, ?_⟩
  exact (θ_run Cert.MergeRefIdeal.defs _ _).mono (fun _ h c => ⟨(h c).1.trans ((Cert.MergeRefIdeal.Read.val_main_v22_eq ..).trans (hres c)), (h c).2⟩) (Cert.MergeRefIdeal.Value.run (F := Ideal) m' ρ')

/-- The merge reference runs, keeps its arguments, and declares no semaphore. -/
theorem merge_reference_frame : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The projection's reference runs, keeps its arguments, and declares no semaphore. -/
theorem proj_reference_frame : Cert.quiescent_ProjRefIdeal := fun m ρ _ =>
  (θ_run Cert.ProjRefIdeal.defs _ _).mono (fun r h => ⟨fun c => (h c).2.2, sem_eq_zero_of_no_sems (by decide) r.2⟩)
    (Cert.ProjRefIdeal.Value.run (F := Ideal) m ρ)

/-- Both results of the projection agree. -/
theorem proj_values : Cert.algebraic_ProjIdeal_ProjRefIdeal := by
  intro m ρ m' ρ' _ hagree
  have hlarge (c : Dev Cert.ProjIdeal.nD) : Cert.ProjRefIdeal.Read.val_main_v27 (F := Ideal)
      (m' ((c.tc : Thread Cert.ProjRefIdeal.nD Cert.ProjRefIdeal.τ).loc Cert.ProjRefIdeal.main_arg0))
      (m' ((c.tc : Thread Cert.ProjRefIdeal.nD Cert.ProjRefIdeal.τ).loc Cert.ProjRefIdeal.main_arg1))
      (m' ((c.tc : Thread Cert.ProjRefIdeal.nD Cert.ProjRefIdeal.τ).loc Cert.ProjRefIdeal.main_arg2))
      = (Cert.ProjIdeal.Visit.dats m 0 c).arrAt 4 Cert.ProjIdeal.cfg0.N := by
    obtain ⟨a0, a1, a2⟩ := hagree c
    rw [Cert.ProjWalk.kernel_large]
    rw [a0, a1, a2]
    exact funext fun i => Cert.ProjRef.reference_large _ _ _ i
  have hsmall (c : Dev Cert.ProjIdeal.nD) : Cert.ProjRefIdeal.Read.val_main_v29 (F := Ideal)
      (m' ((c.tc : Thread Cert.ProjRefIdeal.nD Cert.ProjRefIdeal.τ).loc Cert.ProjRefIdeal.main_arg0))
      (m' ((c.tc : Thread Cert.ProjRefIdeal.nD Cert.ProjRefIdeal.τ).loc Cert.ProjRefIdeal.main_arg1))
      (m' ((c.tc : Thread Cert.ProjRefIdeal.nD Cert.ProjRefIdeal.τ).loc Cert.ProjRefIdeal.main_arg2))
      = (Cert.ProjIdeal.Visit.dats m 0 c).arrAt 5 Cert.ProjIdeal.cfg0.N := by
    obtain ⟨a0, a1, a2⟩ := hagree c
    rw [Cert.ProjWalk.kernel_small]
    rw [a0, a1, a2]
    exact funext fun i => Cert.ProjRef.reference_small _ _ _ i
  refine ⟨fun c => (Cert.ProjIdeal.Visit.dats m 0 c).arrAt 4 Cert.ProjIdeal.cfg0.N, fun c => (Cert.ProjIdeal.Visit.dats m 0 c).arrAt 5 Cert.ProjIdeal.cfg0.N,
    Cert.ProjIdeal.Visit.results (F := Ideal) m ρ, ?_⟩
  exact (θ_run Cert.ProjRefIdeal.defs _ _).mono (fun _ h c => ⟨(h c).1.trans ((Cert.ProjRefIdeal.Read.val_main_v27_eq m' c).trans (hlarge c)),
    (h c).2.1.trans ((Cert.ProjRefIdeal.Read.val_main_v29_eq ..).trans (hsmall c)), (h c).2.2⟩) (Cert.ProjRefIdeal.Value.run (F := Ideal) m' ρ')

/-- Everything claimed. -/
theorem claim : Cert.Claim := ⟨Cert.Diff.Gen.facts, Cert.DiffIdeal.Gen.facts, Cert.DiffRefIdeal.Gen.facts, Cert.Moe.Gen.facts, Cert.MoeIdeal.Gen.facts, Cert.MoeRefIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.Proj.Gen.facts, Cert.ProjIdeal.Gen.facts, Cert.ProjRefIdeal.Gen.facts, Cert.Pre_diff_finite.Gen.facts, Cert.Pre_moe_gates.Gen.facts,
  fun m ρ _ => Cert.Diff.Gen.frame m ρ, fun m ρ _ => Cert.DiffIdeal.Gen.frame m ρ, fun m ρ _ => Cert.DiffIdeal.Gen.frame m ρ,
  reference_frame, fun m ρ _ => reference_frame m ρ trivial,
  fun m ρ _ => Cert.Moe.Gen.frame m ρ, fun m ρ _ => Cert.MoeIdeal.Gen.frame m ρ, fun m ρ _ => Cert.MoeIdeal.Gen.frame m ρ,
  moe_reference_frame, fun m ρ _ => moe_reference_frame m ρ trivial,
  fun m ρ _ => Cert.Ffn.Gen.frame m ρ, fun m ρ _ => Cert.FfnIdeal.Gen.frame m ρ, ffn_reference_frame,
  fun m ρ _ => Cert.Merge.Gen.frame m ρ, fun m ρ _ => Cert.MergeIdeal.Gen.frame m ρ, merge_reference_frame,
  fun m ρ _ => Cert.Proj.Visit.keeps m ρ, fun m ρ _ => Cert.ProjIdeal.Visit.keeps m ρ, proj_reference_frame,
  constant_kept, same_values, trivial, moe_values, trivial, ffn_values, trivial, merge_values, trivial, proj_values⟩

end Cert.Proof

end
